-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90_0)) (v1 : (c : Dev Cert.KernelIdeal.nD) → Buf (Elt Ideal) ((c.tc : Thread Cert.KernelIdeal.nD Cert.KernelIdeal.τ).loc Cert.KernelIdeal.main_v90_1)) (v2 : (c : Dev Cert.KernelIdeal.nD) → Buf (Elt Ideal) ((c.tc : Thread Cert.KernelIdeal.nD Cert.KernelIdeal.τ).loc Cert.KernelIdeal.main_v90_2)) (v3 : (c : Dev Cert.KernelIdeal.nD) → Buf (Elt Ideal) ((c.tc : Thread Cert.KernelIdeal.nD Cert.KernelIdeal.τ).loc Cert.KernelIdeal.main_v90_3)) (v4 : (c : Dev Cert.KernelIdeal.nD) → Buf (Elt Ideal) ((c.tc : Thread Cert.KernelIdeal.nD Cert.KernelIdeal.τ).loc Cert.KernelIdeal.main_v90_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_0) = v0 c
          ∧ r.2.mem ((c.tc : Thread Cert.KernelIdeal.nD Cert.KernelIdeal.τ).loc Cert.KernelIdeal.main_v90_1) = v1 c
          ∧ r.2.mem ((c.tc : Thread Cert.KernelIdeal.nD Cert.KernelIdeal.τ).loc Cert.KernelIdeal.main_v90_2) = v2 c
          ∧ r.2.mem ((c.tc : Thread Cert.KernelIdeal.nD Cert.KernelIdeal.τ).loc Cert.KernelIdeal.main_v90_3) = v3 c
          ∧ r.2.mem ((c.tc : Thread Cert.KernelIdeal.nD Cert.KernelIdeal.τ).loc Cert.KernelIdeal.main_v90_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v38) = v4 c
          ∧ r.2.mem ((c.tc : Thread Cert.Reference3Ideal.nD Cert.Reference3Ideal.τ).loc Cert.Reference3Ideal.main_v39) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x64 : Shape := ⟨3, ![8, 4096, 64]⟩
abbrev S1x64 : Shape := ⟨2, ![1, 64]⟩
abbrev S_ : Shape := ⟨0, ![]⟩

class Facts : Prop where
  bcast_S_S8x4096x64 : S_.BroadcastsInDim S8x4096x64 (![] : Fin 0 → Fin S8x4096x64.rank)
  bcast_S_S1x64 : S_.BroadcastsInDim S1x64 (![] : Fin 0 → Fin S1x64.rank)

variable [Facts]

def fn {F : FTy → Type} [FloatOps F] (main_arg0 : FVec F S8x4096x64 .f32) (main_arg1 : FVec F S8x4096x64 .f32) (main_arg2 : FVec F S8x4096x64 .f32) (main_arg3 : FVec F S1x64 .f32) (main_arg4 : FVec F S1x64 .f32) (main_arg5 : FVec F S8x4096x64 .f32) : IVec S8x4096x64 1 × IVec S8x4096x64 1 × IVec S8x4096x64 1 × IVec S1x64 1 × IVec S1x64 1 × IVec S8x4096x64 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_v3 : FVec F S8x4096x64 .f32 := Host.absf main_arg1
  let main_cst_0 : FVec F S_ .f32 := constant S_ .f32 0x7F800000#32
  let main_v4 : FVec F S8x4096x64 .f32 := broadcastInDim S8x4096x64 ![] bcast_S_S8x4096x64 main_cst_0
  let main_v5 : IVec S8x4096x64 1 := cmpf .olt main_v3 main_v4
  let main_v6 : FVec F S8x4096x64 .f32 := Host.absf main_arg2
  let main_cst_1 : FVec F S_ .f32 := constant S_ .f32 0x7F800000#32
  let main_v7 : FVec F S8x4096x64 .f32 := broadcastInDim S8x4096x64 ![] bcast_S_S8x4096x64 main_cst_1
  let main_v8 : IVec S8x4096x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S8x4096x64 .f32 := Host.absf main_arg5
  let main_cst_4 : FVec F S_ .f32 := constant S_ .f32 0x7F800000#32
  let main_v16 : FVec F S8x4096x64 .f32 := broadcastInDim S8x4096x64 ![] bcast_S_S8x4096x64 main_cst_4
  let main_v17 : IVec S8x4096x64 1 := cmpf .olt main_v15 main_v16
  (main_v2, main_v5, main_v8, main_v11, main_v14, main_v17)
-- ==== Kernel.lean ====
abbrev S8x4096x64 : Shape := ⟨3, ![8, 4096, 64]⟩
abbrev S1x64 : Shape := ⟨2, ![1, 64]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x128 : Shape := ⟨3, ![8, 4096, 128]⟩
abbrev S2x512x64 : Shape := ⟨3, ![2, 512, 64]⟩
abbrev S2x4096x64 : Shape := ⟨3, ![2, 4096, 64]⟩
abbrev S2x512x128 : Shape := ⟨3, ![2, 512, 128]⟩
abbrev S1x4096x64 : Shape := ⟨3, ![1, 4096, 64]⟩
abbrev S4096x64 : Shape := ⟨2, ![4096, 64]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S256x256 : Shape := ⟨2, ![256, 256]⟩
abbrev S512x512 : Shape := ⟨2, ![512, 512]⟩
abbrev S512x256 : Shape := ⟨2, ![512, 256]⟩
abbrev S64 : Shape := ⟨1, ![64]⟩

abbrev nBuf : Space → Nat
  | .hbm => 176
  | .vmem => 20
  | .smem => 0
  | _ => 0

abbrev hbmTy0_0 (i : Nat) : BufTy := match i % 128 with
  | 0 => ⟨S8x4096x64, .f32⟩
  | 1 => ⟨S8x4096x64, .f32⟩
  | 2 => ⟨S8x4096x64, .f32⟩
  | 3 => ⟨S1x64, .f32⟩
  | 4 => ⟨S1x64, .f32⟩
  | 5 => ⟨S8x4096x64, .f32⟩
  | 6 => ⟨S8x4096x64, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x64, .f32⟩
  | 18 => ⟨S8x4096x64, .f32⟩
  | 19 => ⟨S1x1x64, .f32⟩
  | 20 => ⟨S8x4096x64, .f32⟩
  | 21 => ⟨S8x4096x64, .f32⟩
  | 22 => ⟨S_, .f32⟩
  | 23 => ⟨S8x4096x64, .f32⟩
  | 24 => ⟨S8x4096x64, .f32⟩
  | 25 => ⟨S8x4096x64, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x64, .f32⟩
  | 37 => ⟨S8x4096x64, .f32⟩
  | 38 => ⟨S1x1x64, .f32⟩
  | 39 => ⟨S8x4096x64, .f32⟩
  | 40 => ⟨S8x4096x64, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S8x4096x4096, .i1⟩
  | 49 => ⟨S8x4096x4096, .f32⟩
  | 50 => ⟨S8x4096x4096, .f32⟩
  | 51 => ⟨S8x4096x4096, .f32⟩
  | 52 => ⟨S8x4096x4096, .f32⟩
  | 53 => ⟨S8x4096x4096, .f32⟩
  | 54 => ⟨S8x4096x4096, .f32⟩
  | 55 => ⟨S8x4096x4096, .f32⟩
  | 56 => ⟨S8x4096x4096, .f32⟩
  | 57 => ⟨S8x4096x4096, .f32⟩
  | 58 => ⟨S4096, .i32⟩
  | 59 => ⟨S1x4096, .i32⟩
  | 60 => ⟨S4096x1, .i32⟩
  | 61 => ⟨S4096x4096, .i32⟩
  | 62 => ⟨S4096x4096, .i32⟩
  | 63 => ⟨S4096x4096, .i1⟩
  | 64 => ⟨S8x4096x4096, .f32⟩
  | 65 => ⟨S8x4096x4096, .f32⟩
  | 66 => ⟨S_, .f32⟩
  | 67 => ⟨S8x4096x4096, .f32⟩
  | 68 => ⟨S8x4096x4096, .f32⟩
  | 69 => ⟨S8x4096x4096, .f32⟩
  | 70 => ⟨S8x4096x4096, .f32⟩
  | 71 => ⟨S8x4096x4096, .i1⟩
  | 72 => ⟨S8x4096x4096, .f32⟩
  | 73 => ⟨S8x4096x4096, .f32⟩
  | 74 => ⟨S8x4096x4096, .f32⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .f32⟩
  | 80 => ⟨S8x4096x4096, .f32⟩
  | 81 => ⟨S_, .f32⟩
  | 82 => ⟨S_, .f32⟩
  | 83 => ⟨S8x4096x4096, .i1⟩
  | 84 => ⟨S8x4096x4096, .f32⟩
  | 85 => ⟨S8x4096x4096, .f32⟩
  | 86 => ⟨S_, .f32⟩
  | 87 => ⟨S_, .f32⟩
  | 88 => ⟨S8x4096x4096, .f32⟩
  | 89 => ⟨S8x4096x4096, .f32⟩
  | 90 => ⟨S8x4096x4096, .f32⟩
  | 91 => ⟨S8x4096x4096, .f32⟩
  | 92 => ⟨S_, .f32⟩
  | 93 => ⟨S_, .f32⟩
  | 94 => ⟨S8x4096x4096, .i1⟩
  | 95 => ⟨S8x4096x4096, .f32⟩
  | 96 => ⟨S8x4096x4096, .f32⟩
  | 97 => ⟨S8x4096x64, .f32⟩
  | 98 => ⟨S8x4096x64, .f32⟩
  | 99 => ⟨S_, .f32⟩
  | 100 => ⟨S8x4096, .f32⟩
  | 101 => ⟨S8x4096x1, .f32⟩
  | 102 => ⟨S_, .f32⟩
  | 103 => ⟨S8x4096x1, .f32⟩
  | 104 => ⟨S8x4096x1, .f32⟩
  | 105 => ⟨S_, .f32⟩
  | 106 => ⟨S8x4096x1, .f32⟩
  | 107 => ⟨S8x4096x1, .f32⟩
  | 108 => ⟨S8x4096x1, .f32⟩
  | 109 => ⟨S8x4096x64, .f32⟩
  | 110 => ⟨S8x4096x64, .f32⟩
  | 111 => ⟨S1x1x64, .f32⟩
  | 112 => ⟨S8x4096x64, .f32⟩
  | 113 => ⟨S8x4096x64, .f32⟩
  | 114 => ⟨S_, .f32⟩
  | 115 => ⟨S8x4096x64, .f32⟩
  | 116 => ⟨S8x4096x64, .f32⟩
  | 117 => ⟨S8x4096x64, .f32⟩
  | 118 => ⟨S_, .f32⟩
  | 119 => ⟨S8x4096, .f32⟩
  | 120 => ⟨S8x4096x1, .f32⟩
  | 121 => ⟨S_, .f32⟩
  | 122 => ⟨S8x4096x1, .f32⟩
  | 123 => ⟨S8x4096x1, .f32⟩
  | 124 => ⟨S_, .f32⟩
  | 125 => ⟨S8x4096x1, .f32⟩
  | 126 => ⟨S8x4096x1, .f32⟩
  | 127 => ⟨S8x4096x1, .f32⟩
  | _ => ⟨S8x4096x64, .f32⟩

abbrev hbmTy0_1 (i : Nat) : BufTy := match i % 128 with
  | 0 => ⟨S8x4096x64, .f32⟩
  | 1 => ⟨S8x4096x64, .f32⟩
  | 2 => ⟨S1x1x64, .f32⟩
  | 3 => ⟨S8x4096x64, .f32⟩
  | 4 => ⟨S8x4096x64, .f32⟩
  | 5 => ⟨S8x4096x4096, .f32⟩
  | 6 => ⟨S4096, .i32⟩
  | 7 => ⟨S1x4096, .i32⟩
  | 8 => ⟨S4096x1, .i32⟩
  | 9 => ⟨S4096x4096, .i32⟩
  | 10 => ⟨S4096x4096, .i32⟩
  | 11 => ⟨S4096x4096, .i1⟩
  | 12 => ⟨S8x4096x4096, .f32⟩
  | 13 => ⟨S8x4096x4096, .f32⟩
  | 14 => ⟨S_, .f32⟩
  | 15 => ⟨S8x4096x4096, .f32⟩
  | 16 => ⟨S8x4096x4096, .f32⟩
  | 17 => ⟨S8x4096x4096, .f32⟩
  | 18 => ⟨S8x4096x4096, .f32⟩
  | 19 => ⟨S8x4096x4096, .i1⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S_, .f32⟩
  | 30 => ⟨S_, .f32⟩
  | 31 => ⟨S8x4096x4096, .i1⟩
  | 32 => ⟨S8x4096x4096, .f32⟩
  | 33 => ⟨S8x4096x4096, .f32⟩
  | 34 => ⟨S_, .f32⟩
  | 35 => ⟨S8x4096, .f32⟩
  | 36 => ⟨S8x4096x1, .f32⟩
  | 37 => ⟨S_, .f32⟩
  | 38 => ⟨S_, .f32⟩
  | 39 => ⟨S8x4096x1, .f32⟩
  | 40 => ⟨S8x4096x1, .f32⟩
  | 41 => ⟨S8x4096x64, .f32⟩
  | 42 => ⟨S8x4096x128, .f32⟩
  | 43 => ⟨S8x4096x64, .bf16⟩
  | 44 => ⟨S8x4096x64, .bf16⟩
  | 45 => ⟨S8x4096x64, .bf16⟩
  | 46 => ⟨S1x64, .f32⟩
  | 47 => ⟨S1x64, .f32⟩
  | _ => ⟨S8x4096x64, .f32⟩

abbrev hbmTy (i : Nat) : BufTy := match i / 128 with
  | 0 => hbmTy0_0 i
  | 1 => hbmTy0_1 i
  | _ => ⟨S8x4096x64, .f32⟩

abbrev bufTy : (tb : Table) → Fin (tcTables nBuf tb) → BufTy
  | .hbm, ⟨i, _⟩ => hbmTy i
  | .local _ .vmem, ⟨0, _⟩ => ⟨S2x512x64, .f32⟩
  | .local _ .vmem, ⟨1, _⟩ => ⟨S2x512x64, .f32⟩
  | .local _ .vmem, ⟨2, _⟩ => ⟨S2x4096x64, .f32⟩
  | .local _ .vmem, ⟨3, _⟩ => ⟨S2x4096x64, .f32⟩
  | .local _ .vmem, ⟨4, _⟩ => ⟨S1x64, .f32⟩
  | .local _ .vmem, ⟨5, _⟩ => ⟨S1x64, .f32⟩
  | .local _ .vmem, ⟨6, _⟩ => ⟨S2x512x128, .f32⟩
  | .local _ .vmem, ⟨7, _⟩ => ⟨S2x512x128, .f32⟩
  | .local _ .vmem, ⟨8, _⟩ => ⟨S2x512x64, .f32⟩
  | .local _ .vmem, ⟨9, _⟩ => ⟨S2x512x64, .f32⟩
  | .local _ .vmem, ⟨10, _⟩ => ⟨S2x512x64, .bf16⟩
  | .local _ .vmem, ⟨11, _⟩ => ⟨S2x512x64, .bf16⟩
  | .local _ .vmem, ⟨12, _⟩ => ⟨S2x4096x64, .bf16⟩
  | .local _ .vmem, ⟨13, _⟩ => ⟨S2x4096x64, .bf16⟩
  | .local _ .vmem, ⟨14, _⟩ => ⟨S1x64, .f32⟩
  | .local _ .vmem, ⟨15, _⟩ => ⟨S1x64, .f32⟩
  | .local _ .vmem, ⟨16, _⟩ => ⟨S2x4096x64, .bf16⟩
  | .local _ .vmem, ⟨17, _⟩ => ⟨S2x4096x64, .bf16⟩
  | .local _ .vmem, ⟨18, _⟩ => ⟨S2x4096x64, .f32⟩
  | .local _ .vmem, ⟨19, _⟩ => ⟨S2x4096x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call1_v0 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_v1 : Ref sig .tc := ⟨.hbm, 79, rfl⟩
abbrev main_v37 : Ref sig .tc := ⟨.hbm, 80, rfl⟩
abbrev main_cst_6 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v38 : Ref sig .tc := ⟨.hbm, 85, rfl⟩
abbrev main_call3_cst : Ref sig .tc := ⟨.hbm, 86, rfl⟩
abbrev main_call3_v0 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_7 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_8 : Ref sig .tc := ⟨.hbm, 99, rfl⟩
abbrev main_v46 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_v49 : Ref sig .tc := ⟨.hbm, 104, rfl⟩
abbrev main_cst_10 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_11 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_12 : Ref sig .tc := ⟨.hbm, 118, rfl⟩
abbrev main_v61 : Ref sig .tc := ⟨.hbm, 119, rfl⟩
abbrev main_v62 : Ref sig .tc := ⟨.hbm, 120, rfl⟩
abbrev main_cst_13 : Ref sig .tc := ⟨.hbm, 121, rfl⟩
abbrev main_v63 : Ref sig .tc := ⟨.hbm, 122, rfl⟩
abbrev main_v64 : Ref sig .tc := ⟨.hbm, 123, rfl⟩
abbrev main_cst_14 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_call5_v0 : Ref sig .tc := ⟨.hbm, 141, rfl⟩
abbrev main_call5_call0_cst : Ref sig .tc := ⟨.hbm, 142, rfl⟩
abbrev main_call5_call0_v0 : Ref sig .tc := ⟨.hbm, 143, rfl⟩
abbrev main_call5_call0_v1 : Ref sig .tc := ⟨.hbm, 144, rfl⟩
abbrev main_call5_call0_v2 : Ref sig .tc := ⟨.hbm, 145, rfl⟩
abbrev main_call5_call0_v3 : Ref sig .tc := ⟨.hbm, 146, rfl⟩
abbrev main_call5_call0_v4 : Ref sig .tc := ⟨.hbm, 147, rfl⟩
abbrev main_call5_call0_v5 : Ref sig .tc := ⟨.hbm, 148, rfl⟩
abbrev main_call5_call0_v6 : Ref sig .tc := ⟨.hbm, 149, rfl⟩
abbrev main_call5_call0_v7 : Ref sig .tc := ⟨.hbm, 150, rfl⟩
abbrev main_call5_call0_v8 : Ref sig .tc := ⟨.hbm, 151, rfl⟩
abbrev main_call5_call0_v9 : Ref sig .tc := ⟨.hbm, 152, rfl⟩
abbrev main_call5_call0_v10 : Ref sig .tc := ⟨.hbm, 153, rfl⟩
abbrev main_call5_call0_v11 : Ref sig .tc := ⟨.hbm, 154, rfl⟩
abbrev main_call5_v1 : Ref sig .tc := ⟨.hbm, 155, rfl⟩
abbrev main_v81 : Ref sig .tc := ⟨.hbm, 156, rfl⟩
abbrev main_cst_15 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v82 : Ref sig .tc := ⟨.hbm, 161, rfl⟩
abbrev main_cst_16 : Ref sig .tc := ⟨.hbm, 162, rfl⟩
abbrev main_v83 : Ref sig .tc := ⟨.hbm, 163, rfl⟩
abbrev main_v84 : Ref sig .tc := ⟨.hbm, 164, rfl⟩
abbrev main_cst_17 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90_0 : Ref sig .tc := ⟨.hbm, 171, rfl⟩
abbrev main_v90_1 : Ref sig .tc := ⟨.hbm, 172, rfl⟩
abbrev main_v90_2 : Ref sig .tc := ⟨.hbm, 173, rfl⟩
abbrev main_v90_3 : Ref sig .tc := ⟨.hbm, 174, rfl⟩
abbrev main_v90_4 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_34 : BitVec 32 := 0#32
  let arg1 : BitVec 32 := BitVec.ofNat 32 (i 1).val
  let v65 : BitVec 32 := Scalar.subi arg1 c0_i32_34
  let c1_i32 : BitVec 32 := 1#32
  let v67 : BitVec 32 := Scalar.divsi v65 c1_i32
  let v68 : BitVec 32 := Scalar.muli v67 c1_i32
  let v69 : BitVec 32 := Scalar.addi c0_i32_34 v68
  let c1_i32_35 : BitVec 32 := 1#32
  ⟨c0_i32_34, v69, c1_i32_35⟩
def k0_mult1 (i : grid0.Coords) (k0_t1 : Fin (k0_t1_loop i).trips) : BitVec 32 :=
  let c0_i32_34 : BitVec 32 := 0#32
  let c1_i32_35 : BitVec 32 := 1#32
  let arg18 : BitVec 32 := Scf.iv c0_i32_34 c1_i32_35 k0_t1
  let c512_i32_120 : BitVec 32 := 512#32
  let v328 : BitVec 32 := Scalar.muli arg18 c512_i32_120
  v328
def k0_off1 (i : grid0.Coords) (k0_t1 : Fin (k0_t1_loop i).trips) : Fin 3 → Nat :=
  let c0_121 : Index := 0#32
  let c0_i32_34 : BitVec 32 := 0#32
  let c1_i32_35 : BitVec 32 := 1#32
  let arg18 : BitVec 32 := Scf.iv c0_i32_34 c1_i32_35 k0_t1
  let c512_i32_120 : BitVec 32 := 512#32
  let v328 : BitVec 32 := Scalar.muli arg18 c512_i32_120
  let v329 : BitVec 32 := v328
  let v330 : Index := Scalar.indexCast v329
  let c0_122 : Index := 0#32
  ![0, v330.toNat, 0]
def k0_off2 (i : grid0.Coords) (k0_t1 : Fin (k0_t1_loop i).trips) : Fin 3 → Nat :=
  let c1_123 : Index := 1#32
  let c0_i32_34 : BitVec 32 := 0#32
  let c1_i32_35 : BitVec 32 := 1#32
  let arg18 : BitVec 32 := Scf.iv c0_i32_34 c1_i32_35 k0_t1
  let c512_i32_120 : BitVec 32 := 512#32
  let v328 : BitVec 32 := Scalar.muli arg18 c512_i32_120
  let v329 : BitVec 32 := v328
  let v333 : Index := Scalar.indexCast v329
  let c0_124 : Index := 0#32
  ![1, v333.toNat, 0]
@[reducible] def k0_t2_loop (i : grid0.Coords) : Scf.Loop 32 :=
  let c0_i32_34 : BitVec 32 := 0#32
  let arg1 : BitVec 32 := BitVec.ofNat 32 (i 1).val
  let v65 : BitVec 32 := Scalar.subi arg1 c0_i32_34
  let c1_i32 : BitVec 32 := 1#32
  let v67 : BitVec 32 := Scalar.divsi v65 c1_i32
  let v68 : BitVec 32 := Scalar.muli v67 c1_i32
  let v69 : BitVec 32 := Scalar.addi c0_i32_34 v68
  let v66 : BitVec 32 := Scalar.addi c0_i32_34 v65
  let c1_i32_36 : BitVec 32 := 1#32
  ⟨v69, v66, c1_i32_36⟩
def k0_mult2 (i : grid0.Coords) (k0_t2 : Fin (k0_t2_loop i).trips) : BitVec 32 :=
  let c0_i32_34 : BitVec 32 := 0#32
  let arg1 : BitVec 32 := BitVec.ofNat 32 (i 1).val
  let v65 : BitVec 32 := Scalar.subi arg1 c0_i32_34
  let c1_i32 : BitVec 32 := 1#32
  let v67 : BitVec 32 := Scalar.divsi v65 c1_i32
  let v68 : BitVec 32 := Scalar.muli v67 c1_i32
  let v69 : BitVec 32 := Scalar.addi c0_i32_34 v68
  let c1_i32_36 : BitVec 32 := 1#32
  let arg18 : BitVec 32 := Scf.iv v69 c1_i32_36 k0_t2
  let c512_i32_120 : BitVec 32 := 512#32
  let v328 : BitVec 32 := Scalar.muli arg18 c512_i32_120
  v328
def k0_off3 (i : grid0.Coords) (k0_t2 : Fin (k0_t2_loop i).trips) : Fin 3 → Nat :=
  let c0_121 : Index := 0#32
  let c0_i32_34 : BitVec 32 := 0#32
  let arg1 : BitVec 32 := BitVec.ofNat 32 (i 1).val
  let v65 : BitVec 32 := Scalar.subi arg1 c0_i32_34
  let c1_i32 : BitVec 32 := 1#32
  let v67 : BitVec 32 := Scalar.divsi v65 c1_i32
  let v68 : BitVec 32 := Scalar.muli v67 c1_i32
  let v69 : BitVec 32 := Scalar.addi c0_i32_34 v68
  let c1_i32_36 : BitVec 32 := 1#32
  let arg18 : BitVec 32 := Scf.iv v69 c1_i32_36 k0_t2
  let c512_i32_120 : BitVec 32 := 512#32
  let v328 : BitVec 32 := Scalar.muli arg18 c512_i32_120
  let v329 : BitVec 32 := v328
  let v330 : Index := Scalar.indexCast v329
  let c0_122 : Index := 0#32
  ![0, v330.toNat, 0]
def k0_off4 (i : grid0.Coords) (k0_t2 : Fin (k0_t2_loop i).trips) : Fin 3 → Nat :=
  let c1_123 : Index := 1#32
  let c0_i32_34 : BitVec 32 := 0#32
  let arg1 : BitVec 32 := BitVec.ofNat 32 (i 1).val
  let v65 : BitVec 32 := Scalar.subi arg1 c0_i32_34
  let c1_i32 : BitVec 32 := 1#32
  let v67 : BitVec 32 := Scalar.divsi v65 c1_i32
  let v68 : BitVec 32 := Scalar.muli v67 c1_i32
  let v69 : BitVec 32 := Scalar.addi c0_i32_34 v68
  let c1_i32_36 : BitVec 32 := 1#32
  let arg18 : BitVec 32 := Scf.iv v69 c1_i32_36 k0_t2
  let c512_i32_120 : BitVec 32 := 512#32
  let v328 : BitVec 32 := Scalar.muli arg18 c512_i32_120
  let v329 : BitVec 32 := v328
  let v333 : Index := Scalar.indexCast v329
  let c0_124 : Index := 0#32
  ![1, v333.toNat, 0]
def k0_mult3 (i : grid0.Coords) : BitVec 32 :=
  let arg1 : BitVec 32 := BitVec.ofNat 32 (i 1).val
  let c512_i32 : BitVec 32 := 512#32
  let v72 : BitVec 32 := Scalar.muli arg1 c512_i32
  v72
def k0_off5 (i : grid0.Coords) : Fin 3 → Nat :=
  let c0_37 : Index := 0#32
  let arg1 : BitVec 32 := BitVec.ofNat 32 (i 1).val
  let c512_i32 : BitVec 32 := 512#32
  let v72 : BitVec 32 := Scalar.muli arg1 c512_i32
  let v73 : BitVec 32 := v72
  let v77 : Index := Scalar.indexCast v73
  let c0_38 : Index := 0#32
  ![0, v77.toNat, 0]
def k0_off6 (i : grid0.Coords) : Fin 3 → Nat :=
  let c1_39 : Index := 1#32
  let arg1 : BitVec 32 := BitVec.ofNat 32 (i 1).val
  let c512_i32 : BitVec 32 := 512#32
  let v72 : BitVec 32 := Scalar.muli arg1 c512_i32
  let v73 : BitVec 32 := v72
  let v80 : Index := Scalar.indexCast v73
  let c0_40 : Index := 0#32
  ![1, v80.toNat, 0]
def k0_cond3 (i : grid0.Coords) : BitVec 1 :=
  let arg1 : BitVec 32 := BitVec.ofNat 32 (i 1).val
  let c7_i32 : BitVec 32 := 7#32
  let v325 : BitVec 1 := Scalar.cmpi .eq arg1 c7_i32
  let v326 : BitVec 32 := Scalar.extui v325
  let c0_i32_119 : BitVec 32 := 0#32
  let v327 : BitVec 1 := Scalar.cmpi .ne v326 c0_i32_119
  v327

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x4096x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S2x4096x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | "scale_log2e" => some (((1 / 8) * (Real.log 2)⁻¹ : ℝ) : EReal)
  | _ => none
-- ==== ReferenceIdeal.lean ====
abbrev S8x4096x64 : Shape := ⟨3, ![8, 4096, 64]⟩
abbrev S1x64 : Shape := ⟨2, ![1, 64]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S64 : Shape := ⟨1, ![64]⟩

abbrev nBuf : Space → Nat
  | .hbm => 257
  | .vmem => 0
  | .smem => 0
  | _ => 0

abbrev hbmTy0_0 (i : Nat) : BufTy := match i % 128 with
  | 0 => ⟨S8x4096x64, .f32⟩
  | 1 => ⟨S8x4096x64, .f32⟩
  | 2 => ⟨S8x4096x64, .f32⟩
  | 3 => ⟨S1x64, .f32⟩
  | 4 => ⟨S1x64, .f32⟩
  | 5 => ⟨S8x4096x64, .f32⟩
  | 6 => ⟨S8x4096x64, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x64, .f32⟩
  | 22 => ⟨S8x4096x64, .f32⟩
  | 23 => ⟨S1x1x64, .f32⟩
  | 24 => ⟨S8x4096x64, .f32⟩
  | 25 => ⟨S8x4096x64, .f32⟩
  | 26 => ⟨S_, .f32⟩
  | 27 => ⟨S8x4096x64, .f32⟩
  | 28 => ⟨S8x4096x64, .f32⟩
  | 29 => ⟨S8x4096x64, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1, .f32⟩
  | 41 => ⟨S_, .f32⟩
  | 42 => ⟨S8x4096x1, .f32⟩
  | 43 => ⟨S8x4096x1, .f32⟩
  | 44 => ⟨S8x4096x64, .f32⟩
  | 45 => ⟨S8x4096x64, .f32⟩
  | 46 => ⟨S1x1x64, .f32⟩
  | 47 => ⟨S8x4096x64, .f32⟩
  | 48 => ⟨S8x4096x64, .f32⟩
  | 49 => ⟨S8x4096x4096, .f32⟩
  | 50 => ⟨S8x4096x4096, .f32⟩
  | 51 => ⟨S_, .f32⟩
  | 52 => ⟨S8x4096x4096, .f32⟩
  | 53 => ⟨S8x4096x4096, .f32⟩
  | 54 => ⟨S8x4096x4096, .f32⟩
  | 55 => ⟨S8x4096x4096, .f32⟩
  | 56 => ⟨S8x4096x4096, .i1⟩
  | 57 => ⟨S8x4096x4096, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S_, .f32⟩
  | 66 => ⟨S8x4096x4096, .f32⟩
  | 67 => ⟨S8x4096x4096, .i1⟩
  | 68 => ⟨S_, .f32⟩
  | 69 => ⟨S8x4096x4096, .f32⟩
  | 70 => ⟨S8x4096x4096, .f32⟩
  | 71 => ⟨S_, .f32⟩
  | 72 => ⟨S8x4096x4096, .f32⟩
  | 73 => ⟨S8x4096x4096, .i1⟩
  | 74 => ⟨S_, .f32⟩
  | 75 => ⟨S8x4096x4096, .f32⟩
  | 76 => ⟨S8x4096x4096, .f32⟩
  | 77 => ⟨S8x4096x4096, .f32⟩
  | 78 => ⟨S8x4096x4096, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S8x4096x4096, .f32⟩
  | 87 => ⟨S8x4096x4096, .i1⟩
  | 88 => ⟨S_, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S_, .f32⟩
  | 95 => ⟨S8x4096x4096, .f32⟩
  | 96 => ⟨S8x4096x4096, .f32⟩
  | 97 => ⟨S8x4096x4096, .f32⟩
  | 98 => ⟨S4096, .i32⟩
  | 99 => ⟨S1x4096, .i32⟩
  | 100 => ⟨S4096x1, .i32⟩
  | 101 => ⟨S4096x4096, .i32⟩
  | 102 => ⟨S4096x4096, .i32⟩
  | 103 => ⟨S4096x4096, .i1⟩
  | 104 => ⟨S8x4096x4096, .f32⟩
  | 105 => ⟨S8x4096x4096, .f32⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S8x4096x4096, .i1⟩
  | 112 => ⟨S8x4096x4096, .f32⟩
  | 113 => ⟨S8x4096x4096, .f32⟩
  | 114 => ⟨S8x4096x4096, .f32⟩
  | 115 => ⟨S8x4096x4096, .f32⟩
  | 116 => ⟨S8x4096x4096, .f32⟩
  | 117 => ⟨S8x4096x4096, .f32⟩
  | 118 => ⟨S8x4096x4096, .f32⟩
  | 119 => ⟨S8x4096x4096, .f32⟩
  | 120 => ⟨S_, .f32⟩
  | 121 => ⟨S8x4096x4096, .f32⟩
  | 122 => ⟨S8x4096x4096, .i1⟩
  | 123 => ⟨S_, .f32⟩
  | 124 => ⟨S8x4096x4096, .f32⟩
  | 125 => ⟨S8x4096x4096, .f32⟩
  | 126 => ⟨S_, .f32⟩
  | 127 => ⟨S8x4096x4096, .f32⟩
  | _ => ⟨S8x4096x64, .f32⟩

abbrev hbmTy0_1 (i : Nat) : BufTy := match i % 128 with
  | 0 => ⟨S8x4096x4096, .i1⟩
  | 1 => ⟨S_, .f32⟩
  | 2 => ⟨S8x4096x4096, .f32⟩
  | 3 => ⟨S8x4096x4096, .f32⟩
  | 4 => ⟨S8x4096x4096, .f32⟩
  | 5 => ⟨S8x4096x4096, .f32⟩
  | 6 => ⟨S_, .f32⟩
  | 7 => ⟨S_, .f32⟩
  | 8 => ⟨S_, .i1⟩
  | 9 => ⟨S_, .f32⟩
  | 10 => ⟨S_, .f32⟩
  | 11 => ⟨S_, .f32⟩
  | 12 => ⟨S_, .f32⟩
  | 13 => ⟨S8x4096x4096, .f32⟩
  | 14 => ⟨S8x4096x4096, .i1⟩
  | 15 => ⟨S_, .f32⟩
  | 16 => ⟨S8x4096x4096, .f32⟩
  | 17 => ⟨S8x4096x4096, .f32⟩
  | 18 => ⟨S8x4096x4096, .f32⟩
  | 19 => ⟨S8x4096x4096, .f32⟩
  | 20 => ⟨S8x4096x4096, .f32⟩
  | 21 => ⟨S_, .f32⟩
  | 22 => ⟨S8x4096x4096, .f32⟩
  | 23 => ⟨S8x4096x4096, .f32⟩
  | 24 => ⟨S8x4096x4096, .f32⟩
  | 25 => ⟨S_, .f32⟩
  | 26 => ⟨S_, .f32⟩
  | 27 => ⟨S8x4096x4096, .i1⟩
  | 28 => ⟨S8x4096x4096, .f32⟩
  | 29 => ⟨S8x4096x4096, .f32⟩
  | 30 => ⟨S_, .f32⟩
  | 31 => ⟨S8x4096x4096, .f32⟩
  | 32 => ⟨S_, .f32⟩
  | 33 => ⟨S_, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S_, .f32⟩
  | 40 => ⟨S8x4096x4096, .i1⟩
  | 41 => ⟨S8x4096x4096, .f32⟩
  | 42 => ⟨S8x4096x4096, .f32⟩
  | 43 => ⟨S_, .f32⟩
  | 44 => ⟨S8x4096x4096, .f32⟩
  | 45 => ⟨S8x4096x64, .f32⟩
  | 46 => ⟨S8x64x4096, .f32⟩
  | 47 => ⟨S8x4096x64, .f32⟩
  | 48 => ⟨S8x4096x4096, .f32⟩
  | 49 => ⟨S_, .f32⟩
  | 50 => ⟨S8x4096x4096, .f32⟩
  | 51 => ⟨S8x4096x4096, .f32⟩
  | 52 => ⟨S8x4096x4096, .f32⟩
  | 53 => ⟨S8x4096x4096, .f32⟩
  | 54 => ⟨S_, .f32⟩
  | 55 => ⟨S_, .f32⟩
  | 56 => ⟨S8x4096x4096, .f32⟩
  | 57 => ⟨S8x4096x4096, .f32⟩
  | 58 => ⟨S_, .f32⟩
  | 59 => ⟨S8x4096x4096, .f32⟩
  | 60 => ⟨S8x4096x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S8x4096x64, .f32⟩
  | 70 => ⟨S8x4096x64, .f32⟩
  | 71 => ⟨S8x4096x64, .f32⟩
  | 72 => ⟨S_, .f32⟩
  | 73 => ⟨S64, .f32⟩
  | 74 => ⟨S1x1x64, .f32⟩
  | 75 => ⟨S8x4096x64, .f32⟩
  | 76 => ⟨S8x4096x64, .f32⟩
  | 77 => ⟨S_, .f32⟩
  | 78 => ⟨S64, .f32⟩
  | 79 => ⟨S1x64, .f32⟩
  | 80 => ⟨S8x4096x64, .f32⟩
  | 81 => ⟨S_, .f32⟩
  | 82 => ⟨S8x4096, .f32⟩
  | 83 => ⟨S8x4096x1, .f32⟩
  | 84 => ⟨S8x4096x64, .f32⟩
  | 85 => ⟨S8x4096x64, .f32⟩
  | 86 => ⟨S8x4096x1, .f32⟩
  | 87 => ⟨S_, .f32⟩
  | 88 => ⟨S8x4096x1, .f32⟩
  | 89 => ⟨S8x4096x1, .f32⟩
  | 90 => ⟨S_, .f32⟩
  | 91 => ⟨S8x4096, .f32⟩
  | 92 => ⟨S8x4096x64, .f32⟩
  | 93 => ⟨S8x4096x64, .f32⟩
  | 94 => ⟨S8x4096x64, .f32⟩
  | 95 => ⟨S8x4096x64, .f32⟩
  | 96 => ⟨S8x4096x64, .f32⟩
  | 97 => ⟨S_, .f32⟩
  | 98 => ⟨S8x4096x64, .f32⟩
  | 99 => ⟨S8x4096x64, .f32⟩
  | 100 => ⟨S8x4096x64, .f32⟩
  | 101 => ⟨S_, .f32⟩
  | 102 => ⟨S64, .f32⟩
  | 103 => ⟨S1x1x64, .f32⟩
  | 104 => ⟨S8x4096x64, .f32⟩
  | 105 => ⟨S8x4096x64, .f32⟩
  | 106 => ⟨S_, .f32⟩
  | 107 => ⟨S64, .f32⟩
  | 108 => ⟨S1x64, .f32⟩
  | 109 => ⟨S8x4096x64, .f32⟩
  | 110 => ⟨S_, .f32⟩
  | 111 => ⟨S8x4096, .f32⟩
  | 112 => ⟨S8x4096x1, .f32⟩
  | 113 => ⟨S8x4096x64, .f32⟩
  | 114 => ⟨S8x4096x64, .f32⟩
  | 115 => ⟨S8x4096x1, .f32⟩
  | 116 => ⟨S_, .f32⟩
  | 117 => ⟨S8x4096x1, .f32⟩
  | 118 => ⟨S8x4096x1, .f32⟩
  | 119 => ⟨S_, .f32⟩
  | 120 => ⟨S8x4096, .f32⟩
  | 121 => ⟨S8x4096x64, .f32⟩
  | 122 => ⟨S8x4096x64, .f32⟩
  | 123 => ⟨S8x4096x64, .f32⟩
  | 124 => ⟨S8x4096x64, .f32⟩
  | 125 => ⟨S8x4096x64, .f32⟩
  | 126 => ⟨S8x4096x64, .bf16⟩
  | 127 => ⟨S8x4096x64, .bf16⟩
  | _ => ⟨S8x4096x64, .f32⟩

abbrev hbmTy0_2 (i : Nat) : BufTy := match i % 128 with
  | 0 => ⟨S8x4096x64, .bf16⟩
  | _ => ⟨S8x4096x64, .f32⟩

abbrev hbmTy (i : Nat) : BufTy := match i / 128 with
  | 0 => hbmTy0_0 i
  | 1 => hbmTy0_1 i
  | 2 => hbmTy0_2 i
  | _ => ⟨S8x4096x64, .f32⟩

abbrev bufTy : (tb : Table) → Fin (tcTables nBuf tb) → BufTy
  | .hbm, ⟨i, _⟩ => hbmTy i
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1_0 : Ref sig .tc := ⟨.hbm, 64, rfl⟩
abbrev main_call0_call0_cst_0 : Ref sig .tc := ⟨.hbm, 65, rfl⟩
abbrev main_call0_call0_v13 : Ref sig .tc := ⟨.hbm, 66, rfl⟩
abbrev main_call0_call0_v14 : Ref sig .tc := ⟨.hbm, 67, rfl⟩
abbrev main_call0_call0_cst_1 : Ref sig .tc := ⟨.hbm, 68, rfl⟩
abbrev main_call0_call0_v15 : Ref sig .tc := ⟨.hbm, 69, rfl⟩
abbrev main_call0_call0_v16 : Ref sig .tc := ⟨.hbm, 70, rfl⟩
abbrev main_call0_call0_cst_2 : Ref sig .tc := ⟨.hbm, 71, rfl⟩
abbrev main_call0_call0_v17 : Ref sig .tc := ⟨.hbm, 72, rfl⟩
abbrev main_call0_call0_v18 : Ref sig .tc := ⟨.hbm, 73, rfl⟩
abbrev main_call0_call0_cst_3 : Ref sig .tc := ⟨.hbm, 74, rfl⟩
abbrev main_call0_call0_v19 : Ref sig .tc := ⟨.hbm, 75, rfl⟩
abbrev main_call0_call0_v20 : Ref sig .tc := ⟨.hbm, 76, rfl⟩
abbrev main_call0_call0_v21 : Ref sig .tc := ⟨.hbm, 77, rfl⟩
abbrev main_v35_1 : Ref sig .tc := ⟨.hbm, 78, rfl⟩
abbrev main_call0_call0_cst_4 : Ref sig .tc := ⟨.hbm, 79, rfl⟩
abbrev main_call0_call0_cst_5 : Ref sig .tc := ⟨.hbm, 80, rfl⟩
abbrev main_call0_call0_v23 : Ref sig .tc := ⟨.hbm, 81, rfl⟩
abbrev main_call0_call0_cst_6 : Ref sig .tc := ⟨.hbm, 82, rfl⟩
abbrev main_call0_call0_cst_7 : Ref sig .tc := ⟨.hbm, 83, rfl⟩
abbrev main_call0_call0_v24 : Ref sig .tc := ⟨.hbm, 84, rfl⟩
abbrev main_call0_call0_cst_8 : Ref sig .tc := ⟨.hbm, 85, rfl⟩
abbrev main_call0_call0_v25 : Ref sig .tc := ⟨.hbm, 86, rfl⟩
abbrev main_call0_call0_v26 : Ref sig .tc := ⟨.hbm, 87, rfl⟩
abbrev main_call0_call0_cst_9 : Ref sig .tc := ⟨.hbm, 88, rfl⟩
abbrev main_call0_call0_v27 : Ref sig .tc := ⟨.hbm, 89, rfl⟩
abbrev main_call0_call0_v28 : Ref sig .tc := ⟨.hbm, 90, rfl⟩
abbrev main_call0_call0_v29 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_cst_10 : Ref sig .tc := ⟨.hbm, 94, rfl⟩
abbrev main_call0_call0_v32 : Ref sig .tc := ⟨.hbm, 95, rfl⟩
abbrev main_v35_2 : Ref sig .tc := ⟨.hbm, 96, rfl⟩
abbrev main_v35_0 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_call1_v0 : Ref sig .tc := ⟨.hbm, 105, rfl⟩
abbrev main_call1_call0_cst : Ref sig .tc := ⟨.hbm, 106, rfl⟩
abbrev main_call1_call0_v0 : Ref sig .tc := ⟨.hbm, 107, rfl⟩
abbrev main_call1_call0_v1 : Ref sig .tc := ⟨.hbm, 108, rfl⟩
abbrev main_call1_call0_v2 : Ref sig .tc := ⟨.hbm, 109, rfl⟩
abbrev main_call1_call0_v3 : Ref sig .tc := ⟨.hbm, 110, rfl⟩
abbrev main_call1_call0_v4 : Ref sig .tc := ⟨.hbm, 111, rfl⟩
abbrev main_call1_call0_v5 : Ref sig .tc := ⟨.hbm, 112, rfl⟩
abbrev main_call1_call0_v6 : Ref sig .tc := ⟨.hbm, 113, rfl⟩
abbrev main_call1_call0_v7 : Ref sig .tc := ⟨.hbm, 114, rfl⟩
abbrev main_call1_call0_v8 : Ref sig .tc := ⟨.hbm, 115, rfl⟩
abbrev main_call1_call0_v9 : Ref sig .tc := ⟨.hbm, 116, rfl⟩
abbrev main_call1_call0_v10 : Ref sig .tc := ⟨.hbm, 117, rfl⟩
abbrev main_call1_call0_v11 : Ref sig .tc := ⟨.hbm, 118, rfl⟩
abbrev main_call1_v1_0 : Ref sig .tc := ⟨.hbm, 119, rfl⟩
abbrev main_call1_call0_cst_0 : Ref sig .tc := ⟨.hbm, 120, rfl⟩
abbrev main_call1_call0_v13 : Ref sig .tc := ⟨.hbm, 121, rfl⟩
abbrev main_call1_call0_v14 : Ref sig .tc := ⟨.hbm, 122, rfl⟩
abbrev main_call1_call0_cst_1 : Ref sig .tc := ⟨.hbm, 123, rfl⟩
abbrev main_call1_call0_v15 : Ref sig .tc := ⟨.hbm, 124, rfl⟩
abbrev main_call1_call0_v16 : Ref sig .tc := ⟨.hbm, 125, rfl⟩
abbrev main_call1_call0_cst_2 : Ref sig .tc := ⟨.hbm, 126, rfl⟩
abbrev main_call1_call0_v17 : Ref sig .tc := ⟨.hbm, 127, rfl⟩
abbrev main_call1_call0_v18 : Ref sig .tc := ⟨.hbm, 128, rfl⟩
abbrev main_call1_call0_cst_3 : Ref sig .tc := ⟨.hbm, 129, rfl⟩
abbrev main_call1_call0_v19 : Ref sig .tc := ⟨.hbm, 130, rfl⟩
abbrev main_call1_call0_v20 : Ref sig .tc := ⟨.hbm, 131, rfl⟩
abbrev main_call1_call0_v21 : Ref sig .tc := ⟨.hbm, 132, rfl⟩
abbrev main_v43_1 : Ref sig .tc := ⟨.hbm, 133, rfl⟩
abbrev main_call1_call0_cst_4 : Ref sig .tc := ⟨.hbm, 134, rfl⟩
abbrev main_call1_call0_cst_5 : Ref sig .tc := ⟨.hbm, 135, rfl⟩
abbrev main_call1_call0_v23 : Ref sig .tc := ⟨.hbm, 136, rfl⟩
abbrev main_call1_call0_cst_6 : Ref sig .tc := ⟨.hbm, 137, rfl⟩
abbrev main_call1_call0_cst_7 : Ref sig .tc := ⟨.hbm, 138, rfl⟩
abbrev main_call1_call0_v24 : Ref sig .tc := ⟨.hbm, 139, rfl⟩
abbrev main_call1_call0_cst_8 : Ref sig .tc := ⟨.hbm, 140, rfl⟩
abbrev main_call1_call0_v25 : Ref sig .tc := ⟨.hbm, 141, rfl⟩
abbrev main_call1_call0_v26 : Ref sig .tc := ⟨.hbm, 142, rfl⟩
abbrev main_call1_call0_cst_9 : Ref sig .tc := ⟨.hbm, 143, rfl⟩
abbrev main_call1_call0_v27 : Ref sig .tc := ⟨.hbm, 144, rfl⟩
abbrev main_call1_call0_v28 : Ref sig .tc := ⟨.hbm, 145, rfl⟩
abbrev main_call1_call0_v29 : Ref sig .tc := ⟨.hbm, 146, rfl⟩
abbrev main_call1_call0_v30 : Ref sig .tc := ⟨.hbm, 147, rfl⟩
abbrev main_call1_call0_v31 : Ref sig .tc := ⟨.hbm, 148, rfl⟩
abbrev main_call1_call0_cst_10 : Ref sig .tc := ⟨.hbm, 149, rfl⟩
abbrev main_call1_call0_v32 : Ref sig .tc := ⟨.hbm, 150, rfl⟩
abbrev main_v43_2 : Ref sig .tc := ⟨.hbm, 151, rfl⟩
abbrev main_v43_0 : Ref sig .tc := ⟨.hbm, 152, rfl⟩
abbrev main_cst_8 : Ref sig .tc := ⟨.hbm, 153, rfl⟩
abbrev main_call2_v0 : Ref sig .tc := ⟨.hbm, 154, rfl⟩
abbrev main_v44_1 : Ref sig .tc := ⟨.hbm, 155, rfl⟩
abbrev main_call2_v2 : Ref sig .tc := ⟨.hbm, 156, rfl⟩
abbrev main_v44_0 : Ref sig .tc := ⟨.hbm, 157, rfl⟩
abbrev main_call2_cst : Ref sig .tc := ⟨.hbm, 158, rfl⟩
abbrev main_v44_2 : Ref sig .tc := ⟨.hbm, 159, rfl⟩
abbrev main_call3_cst : Ref sig .tc := ⟨.hbm, 160, rfl⟩
abbrev main_call3_v0 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_v48 : Ref sig .tc := ⟨.hbm, 165, rfl⟩
abbrev main_cst_9 : Ref sig .tc := ⟨.hbm, 166, rfl⟩
abbrev main_call4_v0 : Ref sig .tc := ⟨.hbm, 167, rfl⟩
abbrev main_v49_1 : Ref sig .tc := ⟨.hbm, 168, rfl⟩
abbrev main_call4_v2 : Ref sig .tc := ⟨.hbm, 169, rfl⟩
abbrev main_v49_0 : Ref sig .tc := ⟨.hbm, 170, rfl⟩
abbrev main_call4_cst : Ref sig .tc := ⟨.hbm, 171, rfl⟩
abbrev main_v49_2 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_call5_cst : Ref sig .tc := ⟨.hbm, 177, rfl⟩
abbrev main_call5_v0 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_call6_cst : Ref sig .tc := ⟨.hbm, 182, rfl⟩
abbrev main_call6_v0 : Ref sig .tc := ⟨.hbm, 183, rfl⟩
abbrev main_v57 : Ref sig .tc := ⟨.hbm, 184, rfl⟩
abbrev main_v58 : Ref sig .tc := ⟨.hbm, 185, rfl⟩
abbrev main_call7_cst : Ref sig .tc := ⟨.hbm, 186, rfl⟩
abbrev main_call7_v0 : Ref sig .tc := ⟨.hbm, 187, rfl⟩
abbrev main_v59 : Ref sig .tc := ⟨.hbm, 188, rfl⟩
abbrev main_call8_v0 : Ref sig .tc := ⟨.hbm, 189, rfl⟩
abbrev main_call8_v1 : Ref sig .tc := ⟨.hbm, 190, rfl⟩
abbrev main_v60 : Ref sig .tc := ⟨.hbm, 191, rfl⟩
abbrev main_v61 : Ref sig .tc := ⟨.hbm, 192, rfl⟩
abbrev main_call9_v0 : Ref sig .tc := ⟨.hbm, 193, rfl⟩
abbrev main_call9_v1 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_cst_10 : Ref sig .tc := ⟨.hbm, 200, rfl⟩
abbrev main_v67 : Ref sig .tc := ⟨.hbm, 201, rfl⟩
abbrev main_v68 : Ref sig .tc := ⟨.hbm, 202, rfl⟩
abbrev main_v69 : Ref sig .tc := ⟨.hbm, 203, rfl⟩
abbrev main_v70 : Ref sig .tc := ⟨.hbm, 204, rfl⟩
abbrev main_cst_11 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_cst_12 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_cst_13 : Ref sig .tc := ⟨.hbm, 215, rfl⟩
abbrev main_v79 : Ref sig .tc := ⟨.hbm, 216, rfl⟩
abbrev main_v80 : Ref sig .tc := ⟨.hbm, 217, rfl⟩
abbrev main_cst_14 : Ref sig .tc := ⟨.hbm, 218, rfl⟩
abbrev main_v81 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩
abbrev main_v85 : Ref sig .tc := ⟨.hbm, 223, rfl⟩
abbrev main_v86 : Ref sig .tc := ⟨.hbm, 224, rfl⟩
abbrev main_cst_15 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_cst_16 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_cst_17 : Ref sig .tc := ⟨.hbm, 234, rfl⟩
abbrev main_v94 : Ref sig .tc := ⟨.hbm, 235, rfl⟩
abbrev main_v95 : Ref sig .tc := ⟨.hbm, 236, rfl⟩
abbrev main_v96 : Ref sig .tc := ⟨.hbm, 237, rfl⟩
abbrev main_cst_18 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_v101 : Ref sig .tc := ⟨.hbm, 243, rfl⟩
abbrev main_cst_19 : Ref sig .tc := ⟨.hbm, 244, rfl⟩
abbrev main_v102 : Ref sig .tc := ⟨.hbm, 245, rfl⟩
abbrev main_v103 : Ref sig .tc := ⟨.hbm, 246, rfl⟩
abbrev main_cst_20 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_v112 : Ref sig .tc := ⟨.hbm, 256, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S4096x1024, .f32⟩
  | .hbm, ⟨11, _⟩ => ⟨S4096x1024, .bf16⟩
  | .hbm, ⟨12, _⟩ => ⟨S4096x2816, .bf16⟩
  | .hbm, ⟨13, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S4096x2816, .bf16⟩
  | .hbm, ⟨39, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x128 : Shape := ⟨2, ![8, 128]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩

abbrev nBuf : Space → Nat
  | .hbm => 17
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4096x1024, .f32⟩
  | .hbm, ⟨12, _⟩ => ⟨S4096x1024, .bf16⟩
  | .hbm, ⟨13, _⟩ => ⟨S8x128, .f32⟩
  | .hbm, ⟨14, _⟩ => ⟨S4096x1024, .bf16⟩
  | .hbm, ⟨15, _⟩ => ⟨S4096x2816, .bf16⟩
  | .hbm, ⟨16, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S512x1024, .bf16⟩
  | .local _ .vmem, ⟨14, _⟩ => ⟨S512x1024, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x128 : Shape := ⟨2, ![8, 128]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S8x128, .f32⟩
  | .hbm, ⟨63, _⟩ => ⟨S4096x1024, .bf16⟩
  | .hbm, ⟨64, _⟩ => ⟨S4096x2816, .bf16⟩
  | .hbm, ⟨65, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 16
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x2816, .bf16⟩
  | .hbm, ⟨6, _⟩ => ⟨S4096x2816, .bf16⟩
  | .hbm, ⟨7, _⟩ => ⟨S2816x1024, .bf16⟩
  | .hbm, ⟨8, _⟩ => ⟨S2816x1024, .bf16⟩
  | .hbm, ⟨9, _⟩ => ⟨S2816x1024, .bf16⟩
  | .hbm, ⟨10, _⟩ => ⟨S2816x1024, .bf16⟩
  | .hbm, ⟨11, _⟩ => ⟨S2816x1024, .bf16⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1024x1024, .f32⟩
  | .local _ .vmem, ⟨25, _⟩ => ⟨S1024x1024, .bf16⟩
  | .local _ .vmem, ⟨26, _⟩ => ⟨S4096x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond3 (i : grid0.Coords) : BitVec 1 :=
  let arg0 : BitVec 32 := BitVec.ofNat 32 (i 0).val
  let c0_i32_3 : BitVec 32 := 0#32
  let v9 : BitVec 1 := Scalar.cmpi .eq arg0 c0_i32_3
  let v10 : BitVec 32 := Scalar.extui v9
  let c0_i32_4 : BitVec 32 := 0#32
  let v11 : BitVec 1 := Scalar.cmpi .ne v10 c0_i32_4
  v11

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v76 : Index := Scalar.indexCast v1
  let c0_44 : Index := 0#32
  ![v76.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v57 : Index := Scalar.indexCast v1
  let c0_33 : Index := 0#32
  ![v57.toNat, 0]
def k0_cond5 (i : grid0.Coords) : BitVec 1 :=
  let arg0 : BitVec 32 := BitVec.ofNat 32 (i 0).val
  let c10_i32 : BitVec 32 := 10#32
  let v72 : BitVec 1 := Scalar.cmpi .eq arg0 c10_i32
  let v73 : BitVec 32 := Scalar.extui v72
  let c0_i32_42 : BitVec 32 := 0#32
  let v74 : BitVec 1 := Scalar.cmpi .ne v73 c0_i32_42
  v74

def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v75 : Index := Scalar.indexCast v1
  let c0_43 : Index := 0#32
  ![v75.toNat, 0]
def k0_cond4 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_41 : BitVec 32 := 0#32
  let v71 : BitVec 1 := Scalar.cmpi .ne v70 c0_i32_41
  v71

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32 : BitVec 32 := 0#32
  let v2 : BitVec 1 := Scalar.cmpi .eq arg1 c0_i32
  let v6 : BitVec 1 := Scalar.andi v5 v2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== Reference4Ideal.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S1024x2816 : Shape := ⟨2, ![1024, 2816]⟩
abbrev S_ : Shape := ⟨0, ![]⟩
abbrev S2816x4096 : Shape := ⟨2, ![2816, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x2816, .bf16⟩
  | .hbm, ⟨6, _⟩ => ⟨S4096x2816, .bf16⟩
  | .hbm, ⟨7, _⟩ => ⟨S2816x1024, .bf16⟩
  | .hbm, ⟨8, _⟩ => ⟨S2816x1024, .bf16⟩
  | .hbm, ⟨9, _⟩ => ⟨S2816x1024, .bf16⟩
  | .hbm, ⟨10, _⟩ => ⟨S4096x1024, .f32⟩
  | .hbm, ⟨11, _⟩ => ⟨S4096x1024, .f32⟩
  | .hbm, ⟨12, _⟩ => ⟨S4096x2816, .f32⟩
  | .hbm, ⟨13, _⟩ => ⟨S4096x2816, .f32⟩
  | .hbm, ⟨14, _⟩ => ⟨S2816x1024, .f32⟩
  | .hbm, ⟨15, _⟩ => ⟨S1024x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S2816x4096, .f32⟩
  | .hbm, ⟨43, _⟩ => ⟨S2816x1024, .f32⟩
  | .hbm, ⟨44, _⟩ => ⟨S_, .f32⟩
  | .hbm, ⟨45, _⟩ => ⟨S2816x1024, .f32⟩
  | .hbm, ⟨46, _⟩ => ⟨S2816x1024, .f32⟩
  | .hbm, ⟨47, _⟩ => ⟨S2816x4096, .f32⟩
  | .hbm, ⟨48, _⟩ => ⟨S2816x1024, .f32⟩
  | .hbm, ⟨49, _⟩ => ⟨S2816x4096, .f32⟩
  | .hbm, ⟨50, _⟩ => ⟨S2816x1024, .f32⟩
  | .hbm, ⟨51, _⟩ => ⟨S2816x1024, .bf16⟩
  | .hbm, ⟨52, _⟩ => ⟨S2816x1024, .bf16⟩
  | .hbm, ⟨53, _⟩ => ⟨S2816x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

/-!
# The frames and the named constants

Each program ends with its arguments unchanged and its semaphores at zero, and the three constants that the kernel names
are the reals they are named after.
-/

noncomputable section

namespace Cert.Attn

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

theorem frame_reference_pre : Cert.quiescent_ReferenceIdeal_pre_finite := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The constants named in the kernel: an eighth of `1 / ln 2`, `1 / ln 2` and `ln 2`. -/
theorem preserves : Cert.preserves_Kernel_KernelIdeal :=
  ⟨IdealRules.named_const.statement Cert.KernelIdeal.κ "scale_log2e" .f32 0x3E38AA3B#32 (((1 / 8) * (Real.log 2)⁻¹ : ℝ) : EReal) rfl,
    IdealRules.named_const.statement Cert.KernelIdeal.κ "inv_ln2" .f32 0x3FB8AA3B#32 (((Real.log 2)⁻¹ : ℝ) : EReal) rfl,
    IdealRules.named_const.statement Cert.KernelIdeal.κ "ln2" .f32 0x3F317218#32 ((Real.log 2 : ℝ) : EReal) rfl⟩

end Cert.Attn

end
-- ==== Proof.Math.lean ====
module

public import Idealize.ShloMosaic.Lib.Pointwise
public import Idealize.ShloMosaic.PureOps.Ideal

@[expose] public section

/-!
# The real mathematics of one head

Everything here is about functions on the natural numbers with real values; an index outside the array is never read.
`Head` holds one head's normalised queries and keys, its values, the cotangent of its output and the total of each
query's logarithms. The definitions below are the numbers the backward pass goes through, each as a plain formula.
-/

namespace Cert.Attn

open Finset

/-- One head: the queries (normalised and scaled, logits in base two), the keys (normalised), the values, the cotangent
of the output, and for each query the total of its logarithms. -/
structure Head where
  QN : ℕ → ℕ → ℝ
  KN : ℕ → ℕ → ℝ
  V : ℕ → ℕ → ℝ
  DO : ℕ → ℕ → ℝ
  T : ℕ → ℝ

namespace Head

variable (H : Head)

/-- The logit of query `i` and key `s`. -/
noncomputable def Z (i s : ℕ) : ℝ := ∑ d ∈ range 64, H.QN i d * H.KN s d

/-- The base-two logarithm of the sigmoid of a logit `z` given in base two. -/
noncomputable def lsig (z : ℝ) : ℝ := min z 0 - Real.log (1 + (2 : ℝ) ^ (0 - |z|)) * (Real.log 2)⁻¹

/-- The base-two logarithm of the share that query `i` takes of what is left at key `s`. -/
noncomputable def LB (i s : ℕ) : ℝ := lsig (H.Z i s)

/-- The base-two logarithm of the share it leaves, for a key before the query; `0` for any other. -/
noncomputable def L1 (i s : ℕ) : ℝ := if s < i then H.LB i s - H.Z i s else 0

/-- The weight of key `s` for query `i`. -/
noncomputable def W (i s : ℕ) : ℝ :=
  if s < i then (2 : ℝ) ^ (H.LB i s + (H.T i - ∑ t ∈ range (s + 1), H.L1 i t)) else 0

/-- The cotangent of a weight. -/
noncomputable def DW (i s : ℕ) : ℝ := ∑ d ∈ range 64, H.DO i d * H.V s d

/-- The cotangent of the logarithm of a weight. -/
noncomputable def E (i s : ℕ) : ℝ := H.W i s * H.DW i s

/-- The cotangent of a logit. -/
noncomputable def DZ (i s : ℕ) : ℝ :=
  if s < i then H.E i s - (2 : ℝ) ^ (H.LB i s) * (H.E i s + ∑ t ∈ range s, H.E i t) else 0

theorem L1_of_lt {i s : ℕ} (h : s < i) : H.L1 i s = H.LB i s - H.Z i s := if_pos h

theorem W_of_le {i s : ℕ} (h : i ≤ s) : H.W i s = 0 := if_neg (by omega)

theorem E_of_le {i s : ℕ} (h : i ≤ s) : H.E i s = 0 := by rw [E, H.W_of_le h, zero_mul]

theorem DZ_of_le {i s : ℕ} (h : i ≤ s) : H.DZ i s = 0 := if_neg (by omega)

end Head

/-! ## Real numbers among the extended ones -/

/-- The inclusion of the real numbers goes through a finite sum. -/
theorem coe_sum {ι : Type*} (s : Finset ι) (f : ι → ℝ) : (∑ x ∈ s, ((f x : ℝ) : EReal)) = ((∑ x ∈ s, f x : ℝ) : EReal) := by
  classical
  induction s using Finset.induction_on with
  | empty => simp
  | insert a s ha ih => rw [sum_insert ha, sum_insert ha, ih, EReal.coe_add]

/-- A sum over `Fin n` of real numbers, written as a sum over the numbers below `n`. -/
theorem coe_sum_fin {n : ℕ} {g : Fin n → EReal} (f : ℕ → ℝ) (h : ∀ x : Fin n, g x = ((f x.val : ℝ) : EReal)) :
    ∑ x, g x = ((∑ x ∈ range n, f x : ℝ) : EReal) := by
  rw [sum_congr rfl (fun x _ => h x), coe_sum, ← Fin.sum_univ_eq_sum_range]

/-- A sum over the numbers below `n` of terms that are there only below `j` is the sum below `j`. -/
theorem sum_range_ite {n j : ℕ} (h : j ≤ n) (f : ℕ → ℝ) :
    ∑ x ∈ range n, f x * (if x < j then 1 else 0) = ∑ x ∈ range j, f x := by
  simp only [mul_ite, mul_one, mul_zero]
  rw [← sum_filter]
  congr 1
  ext x
  simp only [mem_filter, mem_range]
  omega

/-- A sum below `a + b` is the sum below `a` and the sum over the next `b` numbers. -/
theorem sum_range_add_shift (a b : ℕ) (f : ℕ → ℝ) :
    ∑ x ∈ range (a + b), f x = ∑ x ∈ range a, f x + ∑ x ∈ range b, f (a + x) := sum_range_add f a b

end Cert.Attn
-- ==== Proof.Block.lean ====
module

public import proofs.«01_k».proof.Proof.Math
public import proofs.«01_k».proof.Proof.Gen.KernelIdeal.Skeleton
public import Idealize.ShloMosaic.Lib.Pointwise

@[expose] public section

/-!
# One block of keys against one block of queries, over the real numbers

The kernel takes one block of 512 queries against one block of 512 keys at a time, once for each of its two heads, with
and without the causal mask. The definitions `b…` below are that one computation, written once over the printed values;
the theorems say which real numbers it gives.
-/

set_option maxRecDepth 16384

namespace Cert.Attn

open Idealize.ShloMosaic Cert.KernelIdeal Cert.KernelIdeal.Gen Finset

/-- A matrix of the extended reals whose entries are the real numbers `f i j`. -/
def Is2 {m n : ℕ} (v : Shape.Idx ⟨2, ![m, n]⟩ → EReal) (f : ℕ → ℕ → ℝ) : Prop :=
  ∀ (i : Fin m) (j : Fin n), v (ix2 i j) = ((f i.val j.val : ℝ) : EReal)

/-- The same of an array of rank three. -/
def Is3 {l m n : ℕ} (v : Shape.Idx ⟨3, ![l, m, n]⟩ → EReal) (f : ℕ → ℕ → ℕ → ℝ) : Prop :=
  ∀ (h : Fin l) (i : Fin m) (j : Fin n), v (ix3 h i j) = ((f h.val i.val j.val : ℝ) : EReal)

theorem exp2_coe (r : ℝ) {φ : FTy} : (FloatOps.exp2 (F := Ideal) (φ := φ) ((r : ℝ) : EReal) : EReal) = (((2 : ℝ) ^ r : ℝ) : EReal) := rfl
theorem log_coe {r : ℝ} (h : 0 < r) : Ideal.log ((r : ℝ) : EReal) = ((Real.log r : ℝ) : EReal) := by
  show (if r ≤ 0 then (⊥ : EReal) else _) = _
  rw [if_neg (not_le.mpr h)]
theorem absf_coe (r : ℝ) {φ : FTy} : (FloatOps.absf (F := Ideal) (φ := φ) ((r : ℝ) : EReal) : EReal) = ((|r| : ℝ) : EReal) := by
  show max (r : EReal) (-(r : EReal)) = _
  rw [abs_eq_max_neg, EReal.coe_strictMono.monotone.map_max, EReal.coe_neg]
theorem inv_ln2_eq : (Named.named (F := Ideal) (φ := .f32) Cert.KernelIdeal.κ "inv_ln2" 0x3FB8AA3B#32 : EReal) = (((Real.log 2)⁻¹ : ℝ) : EReal) := rfl

theorem pay14_is {v35 : FVec Ideal S512x64 .bf16} {v331 : FVec Ideal S1x512x64 .bf16} {a b : ℕ → ℕ → ℝ}
    (ha : Is2 v35 a) (hb : Is3 v331 fun _ => b) :
    Is2 (k0_pay14 v35 v331) fun i j => ∑ d ∈ range 64, a i d * b j d := by
  intro i j
  pointwise [k0_pay14, k0_pay10]
  exact coe_sum_fin (fun d => a i d * b j d) fun d => by rw [ha, hb, EReal.coe_mul]

theorem pay16_is {v35 : FVec Ideal S512x64 .bf16} {v331 : FVec Ideal S1x512x64 .bf16} {z : ℕ → ℕ → ℝ}
    (h : Is2 (k0_pay14 v35 v331) z) :
    Is2 (k0_pay16 v35 v331) fun i j => Head.lsig (z i j) := by
  intro i j
  unfold k0_pay16
  generalize hX : k0_pay14 v35 v331 = X at h ⊢
  pointwise
  rw [h, inv_ln2_eq, absf_coe, ← EReal.coe_zero, ← EReal.coe_sub, exp2_coe, ← EReal.coe_one, ← EReal.coe_add,
    log_coe (by positivity), ← EReal.coe_strictMono.monotone.map_min, ← EReal.coe_mul, ← EReal.coe_sub]
  rfl

theorem pay17_is {v35 : FVec Ideal S512x64 .bf16} {v331 : FVec Ideal S1x512x64 .bf16} {z : ℕ → ℕ → ℝ}
    (h : Is2 (k0_pay14 v35 v331) z) :
    Is2 (k0_pay17 v35 v331) fun i j => Head.lsig (z i j) - z i j := by
  intro i j
  have h' := pay16_is h
  unfold k0_pay17
  generalize hX : k0_pay14 v35 v331 = X at h ⊢
  generalize hX : k0_pay16 v35 v331 = X at h' ⊢
  pointwise
  rw [h, h', EReal.coe_sub]

theorem slt_bit (a b : ℕ) (ha : a < 2 ^ 31) (hb : b < 2 ^ 31) :
    IntOp.cmpi CmpIPredicate.slt (BitVec.ofNat 32 a) (BitVec.ofNat 32 b) = if a < b then 1#1 else 0#1 := by
  have e : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  show BitVec.ofBool (BitVec.slt _ _) = _
  rw [BitVec.slt_eq_decide, e a ha, e b hb]
  by_cases h : a < b <;> simp [h]

theorem pay142_is : Is2 (k0_pay142 (F := Ideal)) fun i j => if i < j then 1 else 0 := by
  intro i j
  pointwise [k0_pay142]
  rw [slt_bit _ _ (by omega) (by omega)]
  by_cases h : i.val < j.val
  · simp only [h, if_true]
    show (((1 : ℤ) : ℝ) : EReal) = _
    norm_num
  · simp only [h, if_false]
    show (((0 : ℤ) : ℝ) : EReal) = _
    norm_num

/-- A sum of 512 terms, the way the kernel adds it: two halves, each with its last term apart. -/
theorem sum_512 (f : ℕ → ℝ) : ∑ t ∈ range 512, f t =
    ∑ t ∈ range 255, f t + f 255 + (∑ t ∈ range 255, f (256 + t) + f 511) := by
  rw [show (512 : ℕ) = 255 + 1 + (255 + 1) from rfl, sum_range_add, sum_range_succ, sum_range_succ _ 255]

theorem pre_sum {v61 : FVec Ideal S256x256 .bf16} (h61 : Is2 v61 fun i j => if i < j then 1 else 0) {X : Fin 256 → EReal} {f : ℕ → ℝ}
    (hX : ∀ x, X x = ((f x.val : ℝ) : EReal)) (j : Fin 256) :
    ∑ x, X x * v61 (ix2 x j) = ((∑ t ∈ range j.val, f t : ℝ) : EReal) := by
  rw [← sum_range_ite j.isLt.le f]
  exact coe_sum_fin (fun x => f x * (if x < j.val then 1 else 0)) fun x => by rw [hX, h61, EReal.coe_mul]

theorem pay30_is {v52 : FVec Ideal S512x1 .f32} {v61 : FVec Ideal S256x256 .bf16} {c : FVec Ideal S512x1 .f32} {v355 : FVec Ideal S512x512 .f32} {v357 : FVec Ideal S512x512 .bf16} {T C : ℕ → ℝ} {LB L1 : ℕ → ℕ → ℝ}
   (h61 : Is2 v61 fun i j => if i < j then 1 else 0) (hT : Is2 v52 fun i _ => T i) (hC : Is2 c fun i _ => C i) (hLB : Is2 v355 LB) (hL1 : Is2 v357 L1) :
   Is2 (k0_pay30 v52 v61 c v355 v357) fun i j => (2:ℝ) ^ (LB i j + (T i - C i - ∑ t ∈ range (j + 1), L1 i t)) := by
  intro i j
  pointwise [k0_pay30, k0_pay29, k0_pay28, k0_pay27, k0_pay24, k0_pay23]
  rw [← exp2_coe (φ := .f32)]
  congr 1
  rw [hLB, EReal.coe_add]
  congr 1
  split
  · rename_i h
    rw [pre_sum h61 (f := fun t => L1 i.val t) (fun x => hL1 _ _) ⟨j.val, h⟩, hT, hC, hL1, sum_range_succ]
    norm_cast
    ring_nf
  · rename_i h
    rw [pre_sum h61 (f := fun t => L1 i.val t) (fun x => hL1 _ _) 255,
      pre_sum h61 (f := fun t => L1 i.val (256 + t)) (fun x => hL1 _ _) ⟨j.val - 256, by omega⟩, hT, hC, hL1, hL1]
    have e : j.val + 1 = 255 + 1 + (j.val - 256 + 1) := by omega
    rw [e, sum_range_add, sum_range_succ, sum_range_succ _ (j.val - 256)]
    norm_cast
    show _ = T i.val - C i.val - (∑ x ∈ range 255, L1 i.val x + L1 i.val 255 + (∑ x ∈ range (j.val - 256), L1 i.val (256 + x) + L1 i.val (256 + (j.val - 256))))
    rw [show ((255 : Fin 256).val) = 255 from rfl, show ((255 : Fin 512).val) = 255 from rfl]
    ring

theorem pay31_is {v61 : FVec Ideal S256x256 .bf16} {v357 : FVec Ideal S512x512 .bf16} {L1 : ℕ → ℕ → ℝ}
    (h61 : Is2 v61 fun i j => if i < j then 1 else 0) (hL1 : Is2 v357 L1) :
    Is2 (k0_pay31 v61 v357) fun i _ => ∑ t ∈ range 512, L1 i t := by
  intro i j
  pointwise [k0_pay31, k0_pay29, k0_pay28, k0_pay27, k0_pay24, k0_pay23]
  rw [pre_sum h61 (f := fun t => L1 i.val t) (fun x => hL1 _ _) 255,
    pre_sum h61 (f := fun t => L1 i.val (256 + t)) (fun x => hL1 _ _) 255, hL1, hL1]
  rw [sum_512]
  norm_cast
  simp only [show ((255 : Fin 256).val) = 255 from rfl, show ((255 : Fin 512).val) = 255 from rfl, show ((511 : Fin 512).val) = 511 from rfl]
  ring

theorem pay37_is {v46 : FVec Ideal S512x64 .bf16} {v397 : FVec Ideal S512x512 .f32} {W DO : ℕ → ℕ → ℝ}
    (hD : Is2 v46 DO) (hW : Is2 v397 W) :
    Is2 (k0_pay37 v46 v397) fun j d => ∑ i ∈ range 512, W i j * DO i d := by
  intro j d
  pointwise [k0_pay37]
  exact coe_sum_fin (fun i => W i j * DO i d) fun i => by rw [hW, hD, EReal.coe_mul]

theorem pay39_is {v46 : FVec Ideal S512x64 .bf16} {v338 : FVec Ideal S512x64 .bf16} {v397 : FVec Ideal S512x512 .f32}
    {W DO V : ℕ → ℕ → ℝ} (hD : Is2 v46 DO) (hV : Is2 v338 V) (hW : Is2 v397 W) :
    Is2 (k0_pay39 v46 v338 v397) fun i j => W i j * ∑ d ∈ range 64, DO i d * V j d := by
  intro i j
  pointwise [k0_pay39]
  rw [coe_sum_fin (fun d => DO i d * V j d) fun d => by rw [hD, hV, EReal.coe_mul], hW, EReal.coe_mul]

theorem pay48_is {v46 : FVec Ideal S512x64 .bf16} {v61 : FVec Ideal S256x256 .bf16} {ce : FVec Ideal S512x1 .f32}
    {v338 : FVec Ideal S512x64 .bf16} {v355 : FVec Ideal S512x512 .f32} {v397 : FVec Ideal S512x512 .f32}
    {CE : ℕ → ℝ} {LB E : ℕ → ℕ → ℝ} (h61 : Is2 v61 fun i j => if i < j then 1 else 0)
    (hCE : Is2 ce fun i _ => CE i) (hLB : Is2 v355 LB) (hE : Is2 (k0_pay39 v46 v338 v397) E) :
    Is2 (k0_pay48 v46 v61 ce v338 v355 v397) fun i j =>
      E i j - (2 : ℝ) ^ LB i j * (E i j + (CE i + ∑ t ∈ range j, E i t)) := by
  intro i j
  unfold k0_pay48 k0_pay47 k0_pay44 k0_pay43 k0_pay41
  generalize k0_pay39 v46 v338 v397 = X at hE ⊢
  pointwise
  rw [hE, hLB, exp2_coe, EReal.coe_sub, EReal.coe_mul, EReal.coe_add]
  congr 3
  split
  · rename_i h
    rw [pre_sum h61 (f := fun t => E i.val t) (fun x => hE _ _) ⟨j.val, h⟩, hCE, EReal.coe_add]
  · rename_i h
    rw [pre_sum h61 (f := fun t => E i.val t) (fun x => hE _ _) 255,
      pre_sum h61 (f := fun t => E i.val (256 + t)) (fun x => hE _ _) ⟨j.val - 256, by omega⟩, hCE, hE]
    have e : j.val = 255 + 1 + (j.val - 256) := by omega
    conv_rhs => rw [e, sum_range_add, sum_range_succ]
    norm_cast
    simp only [show ((255 : Fin 256).val) = 255 from rfl, show ((255 : Fin 512).val) = 255 from rfl]
    ring

theorem pay49_is {v46 : FVec Ideal S512x64 .bf16} {v61 : FVec Ideal S256x256 .bf16} {ce : FVec Ideal S512x1 .f32}
    {v338 : FVec Ideal S512x64 .bf16} {v397 : FVec Ideal S512x512 .f32}
    {CE : ℕ → ℝ} {E : ℕ → ℕ → ℝ} (h61 : Is2 v61 fun i j => if i < j then 1 else 0)
    (hCE : Is2 ce fun i _ => CE i) (hE : Is2 (k0_pay39 v46 v338 v397) E) :
    Is2 (k0_pay49 v46 v61 ce v338 v397) fun i _ => CE i + ∑ t ∈ range 512, E i t := by
  intro i j
  unfold k0_pay49 k0_pay47 k0_pay44 k0_pay43 k0_pay41
  generalize k0_pay39 v46 v338 v397 = X at hE ⊢
  pointwise
  rw [pre_sum h61 (f := fun t => E i.val t) (fun x => hE _ _) 255,
    pre_sum h61 (f := fun t => E i.val (256 + t)) (fun x => hE _ _) 255, hE, hE, hCE]
  rw [sum_512]
  norm_cast
  simp only [show ((255 : Fin 256).val) = 255 from rfl, show ((255 : Fin 512).val) = 255 from rfl, show ((511 : Fin 512).val) = 511 from rfl]
  ring

theorem pay54_is {a : FVec Ideal S512x64 .f32} {kb : FVec Ideal S1x512x64 .bf16} {z : FVec Ideal S512x512 .bf16}
    {A K DZ : ℕ → ℕ → ℝ} (hA : Is2 a A) (hK : Is3 kb fun _ => K) (hZ : Is2 z DZ) :
    Is2 (k0_pay54 a (k0_pay10 kb) z) fun i d => A i d + ∑ j ∈ range 512, DZ i j * K j d := by
  intro i d
  pointwise [k0_pay54, k0_pay10]
  rw [coe_sum_fin (fun j => DZ i j * K j d) fun j => by rw [hZ, hK, EReal.coe_mul], hA, EReal.coe_add]

theorem pay57_is {a : FVec Ideal S512x64 .f32} {o : FVec Ideal S1x512x64 .f32} {A B : ℕ → ℕ → ℝ} (hA : Is2 a A)
    (hB : Is3 o fun _ => B) : Is3 (k0_pay57 a o) fun _ j d => B j d + A j d := by
  intro h j d
  obtain rfl : h = 0 := Subsingleton.elim _ _
  pointwise [k0_pay57]
  rw [hA, hB, EReal.coe_add]

theorem pay58_is {q : FVec Ideal S512x64 .bf16} {z : FVec Ideal S512x512 .bf16} {o : FVec Ideal S1x512x64 .f32}
    {Q DZ B : ℕ → ℕ → ℝ} (hQ : Is2 q Q) (hZ : Is2 z DZ) (hB : Is3 o fun _ => B) :
    Is3 (k0_pay58 q z o) fun _ j d => B j d + ∑ i ∈ range 512, DZ i j * Q i d := by
  intro h j d
  obtain rfl : h = 0 := Subsingleton.elim _ _
  pointwise [k0_pay58]
  rw [coe_sum_fin (fun i => DZ i j * Q i d) fun i => by rw [hZ, hQ, EReal.coe_mul], hB, EReal.coe_add]

theorem pay12_is {vb : FVec Ideal S1x512x64 .bf16} {V : ℕ → ℕ → ℝ} (h : Is3 vb fun _ => V) :
    Is2 (k0_pay12 (F := Ideal) vb) V := by
  intro i d
  pointwise [k0_pay12]
  exact h _ _ _

/-! ## The block -/

/-- A 512 by 512 matrix with the entries on and above the diagonal set to zero. -/
noncomputable def diagMask (v : S512x512.Idx → EReal) : S512x512.Idx → EReal :=
  select k0_pay152 v (broadcast S512x512 (Scalar.ofBits (F := Ideal) .f32 0x00000000#32))

theorem diagMask_is {v : FVec Ideal S512x512 .f32} {f : ℕ → ℕ → ℝ} (h : Is2 v f) :
    Is2 (diagMask v) fun i j => if j < i then f i j else 0 := by
  intro i j
  unfold diagMask
  pointwise [k0_pay152]
  rw [slt_bit _ _ (by omega) (by omega), h]
  by_cases hij : j.val < i.val <;> simp [hij, Scalar.select]

section Defs

variable (mk : (S512x512.Idx → EReal) → S512x512.Idx → EReal) (q : FVec Ideal S512x64 .bf16) (kb : FVec Ideal S1x512x64 .bf16)
  (T c ce : FVec Ideal S512x1 .f32) (dO : FVec Ideal S512x64 .bf16) (vb : FVec Ideal S1x512x64 .bf16)

/-- The logarithms of what the keys of the block leave, masked by `mk`. -/
noncomputable def bL1 : FVec Ideal S512x512 .bf16 := mk (k0_pay17 q kb)

/-- The weights of the block. -/
noncomputable def bW : FVec Ideal S512x512 .f32 := mk (k0_pay30 T k0_pay142 c (k0_pay16 q kb) (bL1 mk q kb))

/-- The cotangents of the logits of the block. -/
noncomputable def bDZ : FVec Ideal S512x512 .bf16 :=
  mk (k0_pay48 dO k0_pay142 ce (k0_pay12 vb) (k0_pay16 q kb) (bW mk q kb T c))

/-- The running sum of the logarithms after the block. -/
noncomputable def bC : FVec Ideal S512x1 .f32 := k0_pay147 c (k0_pay31 k0_pay142 (bL1 mk q kb))

/-- The running sum of the weights' cotangents after the block. -/
noncomputable def bCE : FVec Ideal S512x1 .f32 := k0_pay49 dO k0_pay142 ce (k0_pay12 vb) (bW mk q kb T c)

/-- The running cotangent of the queries after the block. -/
noncomputable def bDQ (dq : FVec Ideal S512x64 .f32) : FVec Ideal S512x64 .f32 :=
  k0_pay54 dq (k0_pay10 kb) (bDZ mk q kb T c ce dO vb)

/-- The cotangent of the block's values, `o` being what the earlier queries gave. -/
noncomputable def bDV (o : FVec Ideal S1x512x64 .f32) : FVec Ideal S1x512x64 .f32 :=
  k0_pay57 (k0_pay37 dO (bW mk q kb T c)) o

/-- The cotangent of the block's keys, `o` being what the earlier queries gave. -/
noncomputable def bDK (o : FVec Ideal S1x512x64 .f32) : FVec Ideal S1x512x64 .f32 :=
  k0_pay58 q (bDZ mk q kb T c ce dO vb) o

end Defs

section Block

variable {mk : (S512x512.Idx → EReal) → S512x512.Idx → EReal} {q : FVec Ideal S512x64 .bf16} {kb : FVec Ideal S1x512x64 .bf16}
  {T c ce : FVec Ideal S512x1 .f32} {dO : FVec Ideal S512x64 .bf16} {vb : FVec Ideal S1x512x64 .bf16}
  {H : Head} {q0 k0 : ℕ}

/-- `mk` keeps, of the block whose queries start at `q0` and whose keys start at `k0`, the entries of the keys before
their query and sets the others to zero. -/
def Masks (mk : (S512x512.Idx → EReal) → S512x512.Idx → EReal) (q0 k0 : ℕ) : Prop :=
  ∀ (v : FVec Ideal S512x512 .f32) (f : ℕ → ℕ → ℝ), Is2 v f →
    Is2 (mk v) fun i j => if k0 + j < q0 + i then f i j else 0

theorem masks_diag (a : ℕ) : Masks diagMask a a := fun v f h i j => by
  rw [diagMask_is h i j]
  simp

theorem masks_id {q0 k0 : ℕ} (h : k0 + 512 ≤ q0) : Masks id q0 k0 := fun v f hv i j => by
  exact (hv i j).trans (by simp only [if_pos (show k0 + j.val < q0 + i.val by omega)])

variable (hmk : Masks mk q0 k0) (hq : Is2 q fun i d => H.QN (q0 + i) d) (hk : Is3 kb fun _ j d => H.KN (k0 + j) d)
  (hT : Is2 T fun i _ => H.T (q0 + i)) (hc : Is2 c fun i _ => ∑ s ∈ range k0, H.L1 (q0 + i) s)
  (hce : Is2 ce fun i _ => ∑ s ∈ range k0, H.E (q0 + i) s) (hdo : Is2 dO fun i d => H.DO (q0 + i) d)
  (hv : Is3 vb fun _ j d => H.V (k0 + j) d)

theorem Is2.congr {m n : ℕ} {v : Shape.Idx ⟨2, ![m, n]⟩ → EReal} {f g : ℕ → ℕ → ℝ} (h : Is2 v f)
    (e : ∀ i j, f i j = g i j) : Is2 v g := fun i j => by rw [h i j, e]

theorem Is3.congr {l m n : ℕ} {v : Shape.Idx ⟨3, ![l, m, n]⟩ → EReal} {f g : ℕ → ℕ → ℕ → ℝ} (h : Is3 v f)
    (e : ∀ i j k, f i j k = g i j k) : Is3 v g := fun i j k => by rw [h i j k, e]

include hq hk in
theorem bZ_is : Is2 (k0_pay14 q kb) fun i j => H.Z (q0 + i) (k0 + j) := pay14_is hq hk

include hq hk in
theorem bLB_is : Is2 (k0_pay16 q kb) fun i j => H.LB (q0 + i) (k0 + j) := pay16_is (bZ_is hq hk)

include hmk hq hk in
theorem bL1_is : Is2 (bL1 mk q kb) fun i j => H.L1 (q0 + i) (k0 + j) :=
  hmk _ _ (pay17_is (bZ_is hq hk))

include hmk hq hk hT hc in
theorem bW_is : Is2 (bW mk q kb T c) fun i j => H.W (q0 + i) (k0 + j) := by
  refine Is2.congr (hmk _ _ (pay30_is pay142_is hT hc (bLB_is hq hk) (bL1_is hmk hq hk))) fun i j => ?_
  rw [Head.W, show k0 + j + 1 = k0 + (j + 1) from rfl, sum_range_add_shift k0 (j + 1)]
  split
  · congr 2; ring
  · rfl

include hmk hq hk hT hc hdo hv in
theorem bE_is : Is2 (k0_pay39 dO (k0_pay12 vb) (bW mk q kb T c)) fun i j => H.E (q0 + i) (k0 + j) :=
  pay39_is hdo (pay12_is hv) (bW_is hmk hq hk hT hc)

include hmk hq hk hT hc hce hdo hv in
theorem bDZ_is : Is2 (bDZ mk q kb T c ce dO vb) fun i j => H.DZ (q0 + i) (k0 + j) := by
  refine Is2.congr (hmk _ _ (pay48_is pay142_is hce (bLB_is hq hk) (bE_is hmk hq hk hT hc hdo hv))) fun i j => ?_
  rw [Head.DZ, sum_range_add]

include hmk hq hk hc in
theorem bC_is : Is2 (bC mk q kb c) fun i _ => ∑ s ∈ range (k0 + 512), H.L1 (q0 + i) s := by
  intro i j
  have h := pay31_is pay142_is (bL1_is hmk hq hk) i 0
  unfold bC
  obtain rfl : j = 0 := Subsingleton.elim _ _
  pointwise [k0_pay147]
  rw [h, hc, sum_range_add, EReal.coe_add]

include hmk hq hk hT hc hce hdo hv in
theorem bCE_is : Is2 (bCE mk q kb T c ce dO vb) fun i _ => ∑ s ∈ range (k0 + 512), H.E (q0 + i) s := by
  refine Is2.congr (pay49_is pay142_is hce (bE_is hmk hq hk hT hc hdo hv)) fun i j => ?_
  rw [sum_range_add]

include hmk hq hk hT hc hce hdo hv in
theorem bDQ_is {dq : FVec Ideal S512x64 .f32} (hdq : Is2 dq fun i d => ∑ s ∈ range k0, H.DZ (q0 + i) s * H.KN s d) :
    Is2 (bDQ mk q kb T c ce dO vb dq) fun i d => ∑ s ∈ range (k0 + 512), H.DZ (q0 + i) s * H.KN s d := by
  refine Is2.congr (pay54_is hdq hk (bDZ_is hmk hq hk hT hc hce hdo hv)) fun i d => ?_
  rw [sum_range_add]

include hmk hq hk hT hc hdo in
theorem bDV_is {o : FVec Ideal S1x512x64 .f32} {B : ℕ → ℕ → ℝ} (ho : Is3 o fun _ => B) :
    Is3 (bDV mk q kb T c dO o) fun _ j d => B j d + ∑ i ∈ range 512, H.W (q0 + i) (k0 + j) * H.DO (q0 + i) d :=
  pay57_is (pay37_is hdo (bW_is hmk hq hk hT hc)) ho

include hmk hq hk hT hc hce hdo hv in
theorem bDK_is {o : FVec Ideal S1x512x64 .f32} {B : ℕ → ℕ → ℝ} (ho : Is3 o fun _ => B) :
    Is3 (bDK mk q kb T c ce dO vb o) fun _ j d => B j d + ∑ i ∈ range 512, H.DZ (q0 + i) (k0 + j) * H.QN (q0 + i) d :=
  pay58_is hq (bDZ_is hmk hq hk hT hc hce hdo hv) ho

end Block

end Cert.Attn
-- ==== Proof.HostSums.lean ====
module

public import proofs.«01_k».proof.Proof.Block
public import Idealize.ShloMosaic.Lib.Pointwise

@[expose] public section

/-!
# The host's sums

A sum over the first two axes of an array of rank three, and the running sums along the last axis.
-/

namespace Cert.Attn

open Idealize.ShloMosaic Finset

section TwoAxes

variable {n0 n1 n2 : ℕ}

/-- The indices that fall on `d` when the first two axes are summed are those with last coordinate `d`. -/
theorem drop01 (h : (⟨3, ![n0, n1, n2]⟩ : Shape).ReducesTo [0, 1] ⟨1, ![n2]⟩) (d : Fin n2) (i : (⟨3, ![n0, n1, n2]⟩ : Shape).Idx) :
    h.drop i = ix1 d ↔ ∃ k : Fin n0 × Fin n1, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e (0 : Fin 1))).symm
  · rintro ⟨k, rfl⟩
    funext b
    apply Fin.ext
    match b with
    | ⟨0, _⟩ => rfl

/-- A sum over the first two axes. -/
theorem sum01 (h : (⟨3, ![n0, n1, n2]⟩ : Shape).ReducesTo [0, 1] ⟨1, ![n2]⟩) (v : (⟨3, ![n0, n1, n2]⟩ : Shape).Idx → EReal) (init : EReal) (d : Fin n2) :
    Ideal.hostReduceAdd h v init (ix1 d) = init + ∑ a, ∑ b, v (ix3 a b d) := by
  refine congrArg (init + ·) ((Finset.sum_filter_eq_sum_of_fiber _ (fun k : Fin n0 × Fin n1 => ix3 k.1 k.2 d)
    (fun _ _ e => Prod.ext (congrFun e 0) (congrFun e 1)) (drop01 h d) v).trans ?_)
  simp only [Fintype.sum_prod_type]

end TwoAxes

section Windows

variable {n0 n1 n : ℕ}

/-- What a window along the last axis adds up. -/
theorem window_sum (lo hi : ℕ) (h : (⟨3, ![n0, n1, n]⟩ : Shape).ReduceWindows ![1, 1, n] ![1, 1, 1] ![0, 0, lo] ![0, 0, hi] ⟨3, ![n0, n1, n]⟩)
    {x : (⟨3, ![n0, n1, n]⟩ : Shape).Idx → EReal} {f : ℕ → ℕ → ℕ → ℝ} (hx : Is3 x f) (a : Fin n0) (b : Fin n1) (j : Fin n) :
    Ideal.hostReduceWindowAdd ![1, 1, n] ![1, 1, 1] ![0, 0, lo] ![0, 0, hi] h x 0 (ix3 a b j) =
      ((∑ w ∈ range n, if lo ≤ j.val + w ∧ j.val + w - lo < n then f a b (j.val + w - lo) else 0 : ℝ) : EReal) := by
  unfold Ideal.hostReduceWindowAdd Host.reduceWindow
  dsimp only
  have e := sum_idx_eq_foldl (M := EReal) ⟨3, ![1, 1, n]⟩ fun w =>
    if hin : ∀ c : Fin 3, (![0, 0, lo] : Fin 3 → ℕ) c ≤ ((ix3 a b j : (⟨3, ![n0, n1, n]⟩ : Shape).Idx) c).val * (![1, 1, 1] : Fin 3 → ℕ) c + (w c).val ∧
      ((ix3 a b j : (⟨3, ![n0, n1, n]⟩ : Shape).Idx) c).val * (![1, 1, 1] : Fin 3 → ℕ) c + (w c).val - (![0, 0, lo] : Fin 3 → ℕ) c < (![n0, n1, n] : Fin 3 → ℕ) c
    then x (fun c => ⟨_, (hin c).2⟩) else 0
  refine Eq.trans ?_ (e.symm.trans ?_)
  · congr 1
    funext r k
    exact congrArg (r + ·) (dite_congr rfl (fun _ => rfl) fun _ => rfl)
  clear e
  rw [sum_idx3]
  simp only [Fin.sum_univ_one]
  refine coe_sum_fin (fun w => if lo ≤ j.val + w ∧ j.val + w - lo < n then f a b (j.val + w - lo) else 0) fun w => ?_
  by_cases hw : lo ≤ j.val + w.val ∧ j.val + w.val - lo < n
  · rw [dif_pos, if_pos hw, ← hx a b ⟨j.val + w.val - lo, hw.2⟩]
    · congr 1
      funext c
      apply Fin.ext
      match c with
      | ⟨0, _⟩ => show a.val * 1 + 0 - 0 = a.val; omega
      | ⟨1, _⟩ => show b.val * 1 + 0 - 0 = b.val; omega
      | ⟨2, _⟩ => show j.val * 1 + w.val - lo = j.val + w.val - lo; rw [mul_one]
    · intro c
      match c with
      | ⟨0, _⟩ => show 0 ≤ a.val * 1 + 0 ∧ a.val * 1 + 0 - 0 < n0; have := a.isLt; omega
      | ⟨1, _⟩ => show 0 ≤ b.val * 1 + 0 ∧ b.val * 1 + 0 - 0 < n1; have := b.isLt; omega
      | ⟨2, _⟩ => show lo ≤ j.val * 1 + w.val ∧ j.val * 1 + w.val - lo < n; rw [mul_one]; exact hw
  · rw [dif_neg, if_neg hw, EReal.coe_zero]
    intro hin
    apply hw
    have := hin (2 : Fin 3)
    change lo ≤ j.val * 1 + w.val ∧ j.val * 1 + w.val - lo < n at this
    rwa [mul_one] at this

/-- The sum from an index on is the whole sum less the sum before it. -/
theorem suffix_sum (f : ℕ → ℝ) {j : ℕ} (hj : j < n) :
    (∑ w ∈ range n, if 0 ≤ j + w ∧ j + w - 0 < n then f (j + w - 0) else 0) = ∑ t ∈ range n, f t - ∑ t ∈ range j, f t := by
  obtain ⟨r, rfl⟩ : ∃ r, n = j + r := ⟨n - j, by omega⟩
  rw [sum_range_add_shift j r f, add_sub_cancel_left]
  rw [show range (j + r) = range (r + j) by rw [add_comm], sum_range_add_shift r j, add_eq_left.mpr (sum_eq_zero fun w _ => if_neg (by omega))]
  exact sum_congr rfl fun w hw => if_pos ⟨by omega, by have := mem_range.mp hw; omega⟩

/-- The sum up to an index. -/
theorem prefix_sum (f : ℕ → ℝ) {j : ℕ} (hj : j < n) :
    (∑ w ∈ range n, if n - 1 ≤ j + w ∧ j + w - (n - 1) < n then f (j + w - (n - 1)) else 0) = ∑ t ∈ range (j + 1), f t := by
  obtain ⟨r, rfl⟩ : ∃ r, n = r + (j + 1) := ⟨n - 1 - j, by omega⟩
  rw [sum_range_add_shift r (j + 1), add_eq_right.mpr (sum_eq_zero fun w hw => if_neg (by have := mem_range.mp hw; omega))]
  refine sum_congr rfl fun w hw => ?_
  have := mem_range.mp hw
  rw [if_pos ⟨by omega, by omega⟩]
  congr 1
  omega

end Windows

end Cert.Attn
-- ==== Proof.Trip.lean ====
module

public import proofs.«01_k».proof.Proof.Block
public import proofs.«01_k».proof.Proof.Gen.KernelIdeal.Loops
public import Idealize.ShloMosaic.Lib.WritesUnit

@[expose] public section

/-!
# The loop over the key blocks before the diagonal

For one block of queries the kernel runs over the blocks of keys before it, both heads in one trip. The carried values
are, per head, the running sums of the logarithms and of the weights' cotangents and the cotangent of the queries; two
scratch arrays receive the cotangents of the keys and of the values. `st_is` says what they hold after `n` trips.
-/

set_option maxRecDepth 16384

namespace Cert.Attn

open Idealize.ShloMosaic Cert.KernelIdeal Cert.KernelIdeal.Gen Finset

/-- The contents `X` of the buffer behind `a` are, seen through `a`, the real numbers `f`. -/
def Holds {l m n : ℕ} (a : Memref sig .tc .vmem ⟨3, ![l, m, n]⟩ .f32) (X : BufTy.Contents (Elt Ideal) a.view.ty)
    (f : ℕ → ℕ → ℕ → ℝ) : Prop :=
  Is3 (a.view.read (Elt Ideal) X) f

/-- The same for a buffer of the narrow type. -/
def HoldsB {l m n : ℕ} (a : Memref sig .tc .vmem ⟨3, ![l, m, n]⟩ .bf16) (X : BufTy.Contents (Elt Ideal) a.view.ty)
    (f : ℕ → ℕ → ℕ → ℝ) : Prop :=
  Is3 (a.view.read (Elt Ideal) X) f

/-- The 512 rows of one head that start at `off`, loaded from contents `X`. -/
noncomputable abbrev rows {φ : EltTy} (a : Memref sig .tc .vmem S2x4096x64 φ) (X : BufTy.Contents (Elt Ideal) a.view.ty)
    (off : Fin 3 → ℕ) (h : ∀ x, off x + S1x512x64.size x ≤ S2x4096x64.size x) : Vec Ideal S1x512x64 φ :=
  View.readAt (Elt Ideal) a.view (Rect.unit (s := S2x4096x64) off S1x512x64.size h).toLoadRect X

theorem idx_is {R : S2x4096x64.Idx → EReal} {f : ℕ → ℕ → ℕ → ℝ} (hR : Is3 R f) {off : Fin 3 → ℕ}
    (h : ∀ x, off x + S1x512x64.size x ≤ S2x4096x64.size x) {e r : ℕ} (ho : off = ![e, r, 0])
    (x : Fin 1) (j : Fin 512) (d : Fin 64) :
    R ((Rect.unit (s := S2x4096x64) off S1x512x64.size h).toLoadRect.idx (ix3 x j d)) = (f e (r + j.val) d.val : ℝ) := by
  subst ho
  have h0 : e + 1 ≤ 2 := h 0
  have h1 : r + 512 ≤ 4096 := h 1
  have := hR ⟨e, by omega⟩ ⟨r + j.val, by omega⟩ d
  refine Eq.trans (congrArg R (funext fun y => Fin.ext ?_)) this
  have hx := x.isLt
  match y with
  | ⟨0, _⟩ => show e + 1 * x.val = e; omega
  | ⟨1, _⟩ => show r + 1 * j.val = r + j.val; omega
  | ⟨2, _⟩ => show 0 + 1 * d.val = d.val; omega

theorem rows_is {a : Memref sig .tc .vmem S2x4096x64 .f32} {X : BufTy.Contents (Elt Ideal) a.view.ty}
    {f : ℕ → ℕ → ℕ → ℝ} (hX : Holds a X f) {off : Fin 3 → ℕ} (h : ∀ x, off x + S1x512x64.size x ≤ S2x4096x64.size x)
    {e r : ℕ} (ho : off = ![e, r, 0]) : Is3 (rows a X off h) fun _ j d => f e (r + j) d :=
  fun x j d => idx_is (R := a.view.read (Elt Ideal) X) hX h ho x j d

theorem rowsB_is {a : Memref sig .tc .vmem S2x4096x64 .bf16} {X : BufTy.Contents (Elt Ideal) a.view.ty}
    {f : ℕ → ℕ → ℕ → ℝ} (hX : HoldsB a X f) {off : Fin 3 → ℕ} (h : ∀ x, off x + S1x512x64.size x ≤ S2x4096x64.size x)
    {e r : ℕ} (ho : off = ![e, r, 0]) : Is3 (rows a X off h) fun _ j d => f e (r + j) d :=
  fun x j d => idx_is (R := a.view.read (Elt Ideal) X) hX h ho x j d

/-- Two stores of 512 rows from row `r` on, one per head: the rows stored read the values stored, the others what they read before. -/
theorem holds_two {a : Memref sig .tc .vmem S2x4096x64 .f32} {X : BufTy.Contents (Elt Ideal) a.view.ty}
    {f g : ℕ → ℕ → ℕ → ℝ} (hX : Holds a X f) {off0 off1 : Fin 3 → ℕ}
    (h0 : ∀ x, off0 x + S1x512x64.size x ≤ S2x4096x64.size x) (h1 : ∀ x, off1 x + S1x512x64.size x ≤ S2x4096x64.size x)
    {r : ℕ} (ho0 : off0 = ![0, r, 0]) (ho1 : off1 = ![1, r, 0]) {w0 w1 : FVec Ideal S1x512x64 .f32}
    (hw0 : Is3 w0 fun _ j d => g 0 j d) (hw1 : Is3 w1 fun _ j d => g 1 j d) :
    Holds a (a.view.writes (Elt Ideal) X [⟨Rect.unit (s := S2x4096x64) off1 S1x512x64.size h1, w1⟩,
      ⟨Rect.unit (s := S2x4096x64) off0 S1x512x64.size h0, w0⟩])
      fun e j d => if r ≤ j ∧ j < r + 512 then g e (j - r) d else f e j d := by
  intro e j d
  have hr : r + 512 ≤ 4096 := by have := h0 1; rw [ho0] at this; exact this
  match e with
  | ⟨0, _⟩ =>
    refine (View.read_writes_cons_unit_of_not_mem a.view X h1 w1 _ (ix3 0 j d) ho1 0 (Or.inl ?_)).trans ?_
    · show 0 < 1; omega
    · by_cases hj : r ≤ j.val ∧ j.val < r + 512
      · refine (View.read_writes_cons_unit_of_mem a.view X h0 w0 _ (ix3 0 j d) (ix3 0 ⟨j.val - r, by omega⟩ d) ho0 ?_).trans ?_
        · intro y
          match y with
          | ⟨0, _⟩ => rfl
          | ⟨1, _⟩ => show j.val = r + (j.val - r); omega
          | ⟨2, _⟩ => show d.val = 0 + d.val; omega
        · rw [hw0]; simp only [if_pos hj]
      · refine (View.read_writes_cons_unit_of_not_mem a.view X h0 w0 _ (ix3 0 j d) ho0 1 ?_).trans ?_
        · show j.val < r ∨ r + 512 ≤ j.val; omega
        · simp only [if_neg hj]; exact hX 0 j d
  | ⟨1, _⟩ =>
    by_cases hj : r ≤ j.val ∧ j.val < r + 512
    · refine (View.read_writes_cons_unit_of_mem a.view X h1 w1 _ (ix3 1 j d) (ix3 0 ⟨j.val - r, by omega⟩ d) ho1 ?_).trans ?_
      · intro y
        match y with
        | ⟨0, _⟩ => rfl
        | ⟨1, _⟩ => show j.val = r + (j.val - r); omega
        | ⟨2, _⟩ => show d.val = 0 + d.val; omega
      · rw [hw1]; simp only [if_pos hj]
    · refine (View.read_writes_cons_unit_of_not_mem a.view X h1 w1 _ (ix3 1 j d) ho1 1 ?_).trans ?_
      · show j.val < r ∨ r + 512 ≤ j.val; omega
      · refine (View.read_writes_cons_unit_of_not_mem a.view X h0 w0 _ (ix3 1 j d) ho0 0 (Or.inr ?_)).trans ?_
        · show 0 + 1 ≤ 1; omega
        · simp only [if_neg hj]; exact hX 1 j d

/-- What one trip carries to the next. -/
abbrev Carry : Type := FVec Ideal S512x1 .f32 × FVec Ideal S512x1 .f32 × FVec Ideal S512x64 .f32 × FVec Ideal S512x1 .f32 × FVec Ideal S512x1 .f32 × FVec Ideal S512x64 .f32

/-- The carried values for the queries from `q0` on, the keys below `k0` taken: `H 0` and `H 1` are the two heads. -/
structure Carried (H : ℕ → Head) (q0 k0 : ℕ) (acc : Carry) : Prop where
  c0 : Is2 acc.1 fun i _ => ∑ s ∈ range k0, (H 0).L1 (q0 + i) s
  e0 : Is2 acc.2.1 fun i _ => ∑ s ∈ range k0, (H 0).E (q0 + i) s
  d0 : Is2 acc.2.2.1 fun i d => ∑ s ∈ range k0, (H 0).DZ (q0 + i) s * (H 0).KN s d
  c1 : Is2 acc.2.2.2.1 fun i _ => ∑ s ∈ range k0, (H 1).L1 (q0 + i) s
  e1 : Is2 acc.2.2.2.2.1 fun i _ => ∑ s ∈ range k0, (H 1).E (q0 + i) s
  d1 : Is2 acc.2.2.2.2.2 fun i d => ∑ s ∈ range k0, (H 1).DZ (q0 + i) s * (H 1).KN s d

/-- The block of queries from `q0` on: the normalised queries, the totals and the cotangents of the output, per head. -/
structure Queries (H : ℕ → Head) (q0 : ℕ) (qa qb : FVec Ideal S512x64 .bf16) (Ta Tb : FVec Ideal S512x1 .f32)
    (da db : FVec Ideal S512x64 .bf16) : Prop where
  qa : Is2 qa fun i d => (H 0).QN (q0 + i) d
  qb : Is2 qb fun i d => (H 1).QN (q0 + i) d
  Ta : Is2 Ta fun i _ => (H 0).T (q0 + i)
  Tb : Is2 Tb fun i _ => (H 1).T (q0 + i)
  da : Is2 da fun i d => (H 0).DO (q0 + i) d
  db : Is2 db fun i d => (H 1).DO (q0 + i) d

/-- The block of keys and values from `k0` on, per head. -/
structure Keys (H : ℕ → Head) (k0 : ℕ) (ka kb va vb : FVec Ideal S1x512x64 .bf16) : Prop where
  ka : Is3 ka fun _ j d => (H 0).KN (k0 + j) d
  kb : Is3 kb fun _ j d => (H 1).KN (k0 + j) d
  va : Is3 va fun _ j d => (H 0).V (k0 + j) d
  vb : Is3 vb fun _ j d => (H 1).V (k0 + j) d

section Step

variable (mk : (S512x512.Idx → EReal) → S512x512.Idx → EReal) (qa qb : FVec Ideal S512x64 .bf16) (Ta Tb : FVec Ideal S512x1 .f32)
  (da db : FVec Ideal S512x64 .bf16) (ka kb va vb : FVec Ideal S1x512x64 .bf16) (acc : Carry)

/-- The carried values after one block of keys. -/
noncomputable def stepR : Carry :=
  (bC mk qa ka acc.1, bCE mk qa ka Ta acc.1 acc.2.1 da va, bDQ mk qa ka Ta acc.1 acc.2.1 da va acc.2.2.1,
    bC mk qb kb acc.2.2.2.1, bCE mk qb kb Tb acc.2.2.2.1 acc.2.2.2.2.1 db vb,
    bDQ mk qb kb Tb acc.2.2.2.1 acc.2.2.2.2.1 db vb acc.2.2.2.2.2)

variable {mk qa qb Ta Tb da db ka kb va vb acc} {H : ℕ → Head} {q0 k0 : ℕ}

theorem stepR_is (hmk : Masks mk q0 k0) (hq : Queries H q0 qa qb Ta Tb da db) (hk : Keys H k0 ka kb va vb)
    (h : Carried H q0 k0 acc) : Carried H q0 (k0 + 512) (stepR mk qa qb Ta Tb da db ka kb va vb acc) where
  c0 := bC_is hmk hq.qa hk.ka h.c0
  e0 := bCE_is hmk hq.qa hk.ka hq.Ta h.c0 h.e0 hq.da hk.va
  d0 := bDQ_is hmk hq.qa hk.ka hq.Ta h.c0 h.e0 hq.da hk.va h.d0
  c1 := bC_is hmk hq.qb hk.kb h.c1
  e1 := bCE_is hmk hq.qb hk.kb hq.Tb h.c1 h.e1 hq.db hk.vb
  d1 := bDQ_is hmk hq.qb hk.kb hq.Tb h.c1 h.e1 hq.db hk.vb h.d1

/-- The cotangent of the keys that the queries from `q0` on give. -/
noncomputable def gK (H : ℕ → Head) (q0 : ℕ) (e j d : ℕ) : ℝ := ∑ i ∈ range 512, (H e).DZ (q0 + i) j * (H e).QN (q0 + i) d

/-- The cotangent of the values that the queries from `q0` on give. -/
noncomputable def gV (H : ℕ → Head) (q0 : ℕ) (e j d : ℕ) : ℝ := ∑ i ∈ range 512, (H e).W (q0 + i) j * (H e).DO (q0 + i) d

/-- The keys' scratch after one block: its rows have the block's cotangent added. -/
theorem stepK_is (hmk : Masks mk q0 k0) (hq : Queries H q0 qa qb Ta Tb da db) (hk : Keys H k0 ka kb va vb)
    (h : Carried H q0 k0 acc) {a : Memref sig .tc .vmem S2x4096x64 .f32} {X : BufTy.Contents (Elt Ideal) a.view.ty}
    {f : ℕ → ℕ → ℕ → ℝ} (hX : Holds a X f) {off0 off1 : Fin 3 → ℕ}
    (h0 : ∀ x, off0 x + S1x512x64.size x ≤ S2x4096x64.size x) (h1 : ∀ x, off1 x + S1x512x64.size x ≤ S2x4096x64.size x)
    (ho0 : off0 = ![0, k0, 0]) (ho1 : off1 = ![1, k0, 0]) :
    Holds a (a.view.writes (Elt Ideal) X
      [⟨Rect.unit (s := S2x4096x64) off1 S1x512x64.size h1, bDK mk qb kb Tb acc.2.2.2.1 acc.2.2.2.2.1 db vb (rows a X off1 h1)⟩,
      ⟨Rect.unit (s := S2x4096x64) off0 S1x512x64.size h0, bDK mk qa ka Ta acc.1 acc.2.1 da va (rows a X off0 h0)⟩])
      fun e j d => if k0 ≤ j ∧ j < k0 + 512 then f e j d + gK H q0 e j d else f e j d := by
  have r0 := bDK_is hmk hq.qa hk.ka hq.Ta h.c0 h.e0 hq.da hk.va (rows_is hX h0 ho0)
  have r1 := bDK_is hmk hq.qb hk.kb hq.Tb h.c1 h.e1 hq.db hk.vb (rows_is hX h1 ho1)
  refine Is3.congr (holds_two (g := fun e j d => f e (k0 + j) d + gK H q0 e (k0 + j) d) hX h0 h1 ho0 ho1 r0 r1) fun e j d => ?_
  by_cases hj : k0 ≤ j ∧ j < k0 + 512
  · rw [if_pos hj, if_pos hj, Nat.add_sub_cancel' hj.1]
  · rw [if_neg hj, if_neg hj]

/-- The values' scratch after one block. -/
theorem stepV_is (hmk : Masks mk q0 k0) (hq : Queries H q0 qa qb Ta Tb da db) (hk : Keys H k0 ka kb va vb)
    (h : Carried H q0 k0 acc) {a : Memref sig .tc .vmem S2x4096x64 .f32} {X : BufTy.Contents (Elt Ideal) a.view.ty}
    {f : ℕ → ℕ → ℕ → ℝ} (hX : Holds a X f) {off0 off1 : Fin 3 → ℕ}
    (h0 : ∀ x, off0 x + S1x512x64.size x ≤ S2x4096x64.size x) (h1 : ∀ x, off1 x + S1x512x64.size x ≤ S2x4096x64.size x)
    (ho0 : off0 = ![0, k0, 0]) (ho1 : off1 = ![1, k0, 0]) :
    Holds a (a.view.writes (Elt Ideal) X
      [⟨Rect.unit (s := S2x4096x64) off1 S1x512x64.size h1, bDV mk qb kb Tb acc.2.2.2.1 db (rows a X off1 h1)⟩,
      ⟨Rect.unit (s := S2x4096x64) off0 S1x512x64.size h0, bDV mk qa ka Ta acc.1 da (rows a X off0 h0)⟩])
      fun e j d => if k0 ≤ j ∧ j < k0 + 512 then f e j d + gV H q0 e j d else f e j d := by
  have r0 := bDV_is hmk hq.qa hk.ka hq.Ta h.c0 hq.da (rows_is hX h0 ho0)
  have r1 := bDV_is hmk hq.qb hk.kb hq.Tb h.c1 hq.db (rows_is hX h1 ho1)
  refine Is3.congr (holds_two (g := fun e j d => f e (k0 + j) d + gV H q0 e (k0 + j) d) hX h0 h1 ho0 ho1 r0 r1) fun e j d => ?_
  by_cases hj : k0 ≤ j ∧ j < k0 + 512
  · rw [if_pos hj, if_pos hj, Nat.add_sub_cancel' hj.1]
  · rw [if_neg hj, if_neg hj]

end Step

/-! ## The printed loop -/

theorem trips_eq : ∀ i : grid0.Coords, (k0_t1_loop i).trips = (i 1).val := by decide +kernel

theorem off1_eq : ∀ (i : grid0.Coords) (k : Fin (k0_t1_loop i).trips), k0_off1 i k = ![0, 512 * k.val, 0] := by decide +kernel

theorem off2_eq : ∀ (i : grid0.Coords) (k : Fin (k0_t1_loop i).trips), k0_off2 i k = ![1, 512 * k.val, 0] := by decide +kernel

/-- The rows of the first head that trip `k` loads. -/
noncomputable abbrev rows1 (i : grid0.Coords) {φ : EltTy} (a : Memref sig .tc .vmem S2x4096x64 φ)
    (X : BufTy.Contents (Elt Ideal) a.view.ty) (k : Fin (k0_t1_loop i).trips) : Vec Ideal S1x512x64 φ :=
  rows a X (k0_off1 i k) (k0_off1_inb i k)

/-- The rows of the second head that trip `k` loads. -/
noncomputable abbrev rows2 (i : grid0.Coords) {φ : EltTy} (a : Memref sig .tc .vmem S2x4096x64 φ)
    (X : BufTy.Contents (Elt Ideal) a.view.ty) (k : Fin (k0_t1_loop i).trips) : Vec Ideal S1x512x64 φ :=
  rows a X (k0_off2 i k) (k0_off2_inb i k)

section Loop

variable (𝒱 : Variants) (c : Dev nD) (bd : Option 𝒱.V) (i : grid0.Coords) (arg2 : Memref sig .tc .vmem S2x512x64 .f32)
  (harg2 : arg2.IsWhole) (arg3 : Memref sig .tc .vmem S2x4096x64 .f32) (harg3 : arg3.IsWhole)
  (arg4 : Memref sig .tc .vmem S2x4096x64 .f32) (harg4 : arg4.IsWhole) (arg5 : Memref sig .tc .vmem S1x64 .f32)
  (harg5 : arg5.IsWhole) (arg6 : Memref sig .tc .vmem S1x64 .f32) (harg6 : arg6.IsWhole)
  (arg7 : Memref sig .tc .vmem S2x512x128 .f32) (harg7 : arg7.IsWhole) (arg8 : Memref sig .tc .vmem S2x512x64 .f32)
  (harg8 : arg8.IsWhole) (arg9 : Memref sig .tc .vmem S2x512x64 .bf16) (harg9 : arg9.IsWhole)
  (arg10 : Memref sig .tc .vmem S2x4096x64 .bf16) (harg10 : arg10.IsWhole)
  (arg11 : Memref sig .tc .vmem S2x4096x64 .bf16) (harg11 : arg11.IsWhole) (arg12 : Memref sig .tc .vmem S1x64 .f32)
  (harg12 : arg12.IsWhole) (arg13 : Memref sig .tc .vmem S1x64 .f32) (harg13 : arg13.IsWhole)
  (arg14 : Memref sig .tc .vmem S2x4096x64 .bf16) (harg14 : arg14.IsWhole)
  (arg15 : Memref sig .tc .vmem S2x4096x64 .bf16) (harg15 : arg15.IsWhole)
  (arg16 : Memref sig .tc .vmem S2x4096x64 .f32) (harg16 : arg16.IsWhole)
  (arg17 : Memref sig .tc .vmem S2x4096x64 .f32) (harg17 : arg17.IsWhole) (arg1 : BitVec 32)
  (v11 : FVec Ideal S512x64 .f32) (v27 : FVec Ideal S512x1 .f32) (v35 : FVec Ideal S512x64 .bf16)
  (v38 : Vec Ideal S1x64 .f32) (v44 : Vec Ideal S1x512x64 .f32) (v47 : Vec Ideal S1x512x64 .f32)
  (v50 : Vec Ideal S1x512x128 .f32) (v53 : Vec Ideal S1x512x128 .f32)
  (X_arg14 : BufTy.Contents (Elt Ideal) arg14.view.ty) (X_arg15 : BufTy.Contents (Elt Ideal) arg15.view.ty)

/-- One trip's carried values are those of one block of keys, unmasked. -/
theorem tripR_eq (k : Fin (k0_t1_loop i).trips) (acc : Carry) (f_arg16 : BufTy.Contents (Elt Ideal) arg16.view.ty)
    (f_arg17 : BufTy.Contents (Elt Ideal) arg17.view.ty) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v27 v35 v38 v44 v47 v50 v53 X_arg14 X_arg15 k acc f_arg16 f_arg17 =
      stepR id v35 (k0_pay137 v11 v27 v38) (k0_pay140 v50) (k0_pay141 v53) (k0_pay138 v44) (k0_pay139 v47)
        (rows1 i arg14 X_arg14 k) (rows2 i arg14 X_arg14 k) (rows1 i arg15 X_arg15 k) (rows2 i arg15 X_arg15 k) acc := by
  unfold tripR_k0_t1 trip_k0_t1
  dsimp only
  rfl

/-- One trip's stores are those of one block of keys, unmasked. -/
theorem tripL_eq (k : Fin (k0_t1_loop i).trips) (acc : Carry) (f_arg16 : BufTy.Contents (Elt Ideal) arg16.view.ty)
    (f_arg17 : BufTy.Contents (Elt Ideal) arg17.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v27 v35 v38 v44 v47 v50 v53 X_arg14 X_arg15 k acc f_arg16 f_arg17 =
      ([⟨Rect.unit (s := S2x4096x64) (k0_off2 i k) S1x512x64.size (k0_off2_inb i k),
          bDK id (k0_pay137 v11 v27 v38) (rows2 i arg14 X_arg14 k) (k0_pay141 v53) acc.2.2.2.1 acc.2.2.2.2.1 (k0_pay139 v47)
            (rows2 i arg15 X_arg15 k) (rows2 i arg16 f_arg16 k)⟩,
        ⟨Rect.unit (s := S2x4096x64) (k0_off1 i k) S1x512x64.size (k0_off1_inb i k),
          bDK id v35 (rows1 i arg14 X_arg14 k) (k0_pay140 v50) acc.1 acc.2.1 (k0_pay138 v44)
            (rows1 i arg15 X_arg15 k) (rows1 i arg16 f_arg16 k)⟩],
      [⟨Rect.unit (s := S2x4096x64) (k0_off2 i k) S1x512x64.size (k0_off2_inb i k),
          bDV id (k0_pay137 v11 v27 v38) (rows2 i arg14 X_arg14 k) (k0_pay141 v53) acc.2.2.2.1 (k0_pay139 v47)
            (rows2 i arg17 f_arg17 k)⟩,
        ⟨Rect.unit (s := S2x4096x64) (k0_off1 i k) S1x512x64.size (k0_off1_inb i k),
          bDV id v35 (rows1 i arg14 X_arg14 k) (k0_pay140 v50) acc.1 (k0_pay138 v44) (rows1 i arg17 f_arg17 k)⟩]) := by
  unfold tripL_k0_t1 trip_k0_t1
  dsimp only
  rfl

variable (G_arg16 : BufTy.Contents (Elt Ideal) arg16.view.ty) (G_arg17 : BufTy.Contents (Elt Ideal) arg17.view.ty) (init : Carry)

/-- After `n` trips: the carried values have taken the keys below `512 n`, and the two scratch arrays have the cotangents
of those keys and of their values added. -/
theorem st_is {H : ℕ → Head} {B16 B17 : ℕ → ℕ → ℕ → ℝ}
    (hq : Queries H (512 * (i 1).val) v35 (k0_pay137 v11 v27 v38) (k0_pay140 v50) (k0_pay141 v53) (k0_pay138 v44) (k0_pay139 v47))
    (hk : HoldsB arg14 X_arg14 fun e => (H e).KN) (hv : HoldsB arg15 X_arg15 fun e => (H e).V)
    (h16 : Holds arg16 G_arg16 B16) (h17 : Holds arg17 G_arg17 B17) (hi : Carried H (512 * (i 1).val) 0 init) :
    ∀ n : ℕ, n ≤ (i 1).val →
      Carried H (512 * (i 1).val) (512 * n) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v27 v35 v38 v44 v47 v50 v53 X_arg14 X_arg15 G_arg16 G_arg17 init n).1 ∧
      Holds arg16 (arg16.view.writes (Elt Ideal) G_arg16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v27 v35 v38 v44 v47 v50 v53 X_arg14 X_arg15 G_arg16 G_arg17 init n).2.1)
        (fun e j d => if j < 512 * n then B16 e j d + gK H (512 * (i 1).val) e j d else B16 e j d) ∧
      Holds arg17 (arg17.view.writes (Elt Ideal) G_arg17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v27 v35 v38 v44 v47 v50 v53 X_arg14 X_arg15 G_arg16 G_arg17 init n).2.2)
        (fun e j d => if j < 512 * n then B17 e j d + gV H (512 * (i 1).val) e j d else B17 e j d) := by
  intro n
  induction n with
  | zero => exact fun _ => ⟨hi, Is3.congr h16 fun e j d => by simp, Is3.congr h17 fun e j d => by simp⟩
  | succ n ih =>
    intro hn
    obtain ⟨hc, i16, i17⟩ := ih (by omega)
    have hlt : n < (k0_t1_loop i).trips := by rw [trips_eq]; omega
    have e1 := off1_eq i ⟨n, hlt⟩
    have e2 := off2_eq i ⟨n, hlt⟩
    have hK : Keys H (512 * n) (rows1 i arg14 X_arg14 ⟨n, hlt⟩) (rows2 i arg14 X_arg14 ⟨n, hlt⟩)
        (rows1 i arg15 X_arg15 ⟨n, hlt⟩) (rows2 i arg15 X_arg15 ⟨n, hlt⟩) :=
      ⟨rowsB_is hk _ e1, rowsB_is hk _ e2, rowsB_is hv _ e1, rowsB_is hv _ e2⟩
    have hmk : Masks id (512 * (i 1).val) (512 * n) := masks_id (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v27 v35 v38 v44 v47 v50 v53 X_arg14 X_arg15 G_arg16 G_arg17 init ⟨n, hlt⟩
    rw [tripR_eq, tripL_eq] at hs
    rw [show ((⟨n, hlt⟩ : Fin (k0_t1_loop i).trips).val) = n from rfl] at hs
    rw [hs]
    refine ⟨?_, ?_, ?_⟩
    · exact stepR_is hmk hq hK hc
    · rw [View.writes_append]
      refine Is3.congr (stepK_is hmk hq hK hc i16 _ _ e1 e2) fun e j d => ?_
      split_ifs <;> first | rfl | omega
    · rw [View.writes_append]
      refine Is3.congr (stepV_is hmk hq hK hc i17 _ _ e1 e2) fun e j d => ?_
      split_ifs <;> first | rfl | omega

end Loop

end Cert.Attn
-- ==== Proof.Point.lean ====
module

public import proofs.«01_k».proof.Proof.Trip

@[expose] public section

/-!
# One block of queries

The blocks of keys before the diagonal, then the block on the diagonal with its mask: `R1`, `R2` are the states the two
printed loops end in (the second makes no trip), `RD` the carried values after the diagonal, `L16`, `L17` the stores.
-/

set_option maxRecDepth 16384

namespace Cert.Attn

open Idealize.ShloMosaic Cert.KernelIdeal Cert.KernelIdeal.Gen Finset

section Defs

variable (c : Dev nD) (i : grid0.Coords) (arg2 : Memref sig .tc .vmem S2x512x64 .f32)
  (harg2 : arg2.IsWhole) (arg3 : Memref sig .tc .vmem S2x4096x64 .f32) (harg3 : arg3.IsWhole)
  (arg4 : Memref sig .tc .vmem S2x4096x64 .f32) (harg4 : arg4.IsWhole) (arg5 : Memref sig .tc .vmem S1x64 .f32)
  (harg5 : arg5.IsWhole) (arg6 : Memref sig .tc .vmem S1x64 .f32) (harg6 : arg6.IsWhole)
  (arg7 : Memref sig .tc .vmem S2x512x128 .f32) (harg7 : arg7.IsWhole) (arg8 : Memref sig .tc .vmem S2x512x64 .f32)
  (harg8 : arg8.IsWhole) (arg9 : Memref sig .tc .vmem S2x512x64 .bf16) (harg9 : arg9.IsWhole)
  (arg10 : Memref sig .tc .vmem S2x4096x64 .bf16) (harg10 : arg10.IsWhole)
  (arg11 : Memref sig .tc .vmem S2x4096x64 .bf16) (harg11 : arg11.IsWhole) (arg12 : Memref sig .tc .vmem S1x64 .f32)
  (harg12 : arg12.IsWhole) (arg13 : Memref sig .tc .vmem S1x64 .f32) (harg13 : arg13.IsWhole)
  (arg14 : Memref sig .tc .vmem S2x4096x64 .bf16) (harg14 : arg14.IsWhole)
  (arg15 : Memref sig .tc .vmem S2x4096x64 .bf16) (harg15 : arg15.IsWhole)
  (arg16 : Memref sig .tc .vmem S2x4096x64 .f32) (harg16 : arg16.IsWhole)
  (arg17 : Memref sig .tc .vmem S2x4096x64 .f32) (harg17 : arg17.IsWhole)
  (X14 : BufTy.Contents (Elt Ideal) arg14.view.ty) (X15 : BufTy.Contents (Elt Ideal) arg15.view.ty)
  (g16 f16 : BufTy.Contents (Elt Ideal) arg16.view.ty) (A16 : List (View.Piece (Elt Ideal) S2x4096x64 .f32) → List (View.Piece (Elt Ideal) S2x4096x64 .f32))
  (g17 f17 : BufTy.Contents (Elt Ideal) arg17.view.ty) (A17 : List (View.Piece (Elt Ideal) S2x4096x64 .f32) → List (View.Piece (Elt Ideal) S2x4096x64 .f32))
  (xa xb : Vec Ideal S1x512x64 .f32) (g : Vec Ideal S1x64 .f32) (da db : Vec Ideal S1x512x64 .f32) (oa ob : Vec Ideal S1x512x128 .f32)

/-- The state after the blocks before the diagonal. -/
noncomputable def R1 : Carry × List (View.Piece (Elt Ideal) S2x4096x64 .f32) × List (View.Piece (Elt Ideal) S2x4096x64 .f32) :=
  st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 1)) (k0_pay133 xb) (k0_pay135 xb) (k0_pay136 xa g) g da db oa ob X14 X15 g16 g17
    (k0_pay143, k0_pay144, k0_pay145, k0_pay143, k0_pay144, k0_pay145)
    (Scf.trips (k0_t1_loop i).lb (k0_t1_loop i).ub (k0_t1_loop i).st)

/-- The state after the loop that makes no trip. -/
noncomputable def R2 : Carry × List (View.Piece (Elt Ideal) S2x4096x64 .f32) × List (View.Piece (Elt Ideal) S2x4096x64 .f32) :=
  st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 1)) (k0_pay133 xb) (k0_pay135 xb) (k0_pay136 xa g) g da db oa ob
    (Scalar.addi (0#32) (Scalar.muli (Scalar.divsi (Scalar.subi (BitVec.ofNat 32 ↑(i 1)) 0#32) 1#32) 1#32)) X14 X15
    (arg16.view.writes (Elt Ideal) f16 (A16 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.1))
    (arg17.view.writes (Elt Ideal) f17 (A17 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.2))
    ((R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1.1, (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1.2.1, (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1.2.2.1, (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1.2.2.2.1, (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1.2.2.2.2.1, (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1.2.2.2.2.2)
    (Scf.trips (k0_t2_loop i).lb (k0_t2_loop i).ub (k0_t2_loop i).st)

/-- The carried values after the diagonal. -/
noncomputable def RD : Carry :=
  stepR diagMask (k0_pay136 xa g) (k0_pay137 (k0_pay133 xb) (k0_pay135 xb) g) (k0_pay140 oa) (k0_pay141 ob) (k0_pay138 da) (k0_pay139 db)
    (rows arg14 X14 (k0_off5 i) (k0_off5_inb i)) (rows arg14 X14 (k0_off6 i) (k0_off6_inb i))
    (rows arg15 X15 (k0_off5 i) (k0_off5_inb i)) (rows arg15 X15 (k0_off6 i) (k0_off6_inb i)) (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1

/-- The stores into the keys' scratch up to the first head's on the diagonal. -/
noncomputable def M16 : List (View.Piece (Elt Ideal) S2x4096x64 .f32) :=
  ⟨Rect.unit (s := S2x4096x64) (k0_off5 i) S1x512x64.size (k0_off5_inb i),
    bDK diagMask (k0_pay136 xa g) (rows arg14 X14 (k0_off5 i) (k0_off5_inb i)) (k0_pay140 oa) (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1.1 (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1.2.1
      (k0_pay138 da) (rows arg15 X15 (k0_off5 i) (k0_off5_inb i))
      (rows arg16 (arg16.view.writes (Elt Ideal) f16 ((R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).2.1 ++ (A16 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.1))) (k0_off5 i) (k0_off5_inb i))⟩ ::
    ((R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).2.1 ++ (A16 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.1))

/-- All stores into the keys' scratch. -/
noncomputable def L16 : List (View.Piece (Elt Ideal) S2x4096x64 .f32) :=
  ⟨Rect.unit (s := S2x4096x64) (k0_off6 i) S1x512x64.size (k0_off6_inb i),
    bDK diagMask (k0_pay137 (k0_pay133 xb) (k0_pay135 xb) g) (rows arg14 X14 (k0_off6 i) (k0_off6_inb i)) (k0_pay141 ob)
      (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1.2.2.2.1 (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1.2.2.2.2.1 (k0_pay139 db) (rows arg15 X15 (k0_off6 i) (k0_off6_inb i))
      (rows arg16 (arg16.view.writes (Elt Ideal) f16 (M16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob)) (k0_off6 i) (k0_off6_inb i))⟩ :: M16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob

/-- The stores into the values' scratch up to the first head's on the diagonal. -/
noncomputable def M17 : List (View.Piece (Elt Ideal) S2x4096x64 .f32) :=
  ⟨Rect.unit (s := S2x4096x64) (k0_off5 i) S1x512x64.size (k0_off5_inb i),
    bDV diagMask (k0_pay136 xa g) (rows arg14 X14 (k0_off5 i) (k0_off5_inb i)) (k0_pay140 oa) (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1.1 (k0_pay138 da)
      (rows arg17 (arg17.view.writes (Elt Ideal) f17 ((R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).2.2 ++ (A17 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.2))) (k0_off5 i) (k0_off5_inb i))⟩ ::
    ((R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).2.2 ++ (A17 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.2))

/-- All stores into the values' scratch. -/
noncomputable def L17 : List (View.Piece (Elt Ideal) S2x4096x64 .f32) :=
  ⟨Rect.unit (s := S2x4096x64) (k0_off6 i) S1x512x64.size (k0_off6_inb i),
    bDV diagMask (k0_pay137 (k0_pay133 xb) (k0_pay135 xb) g) (rows arg14 X14 (k0_off6 i) (k0_off6_inb i)) (k0_pay141 ob)
      (R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob).1.2.2.2.1 (k0_pay139 db) (rows arg17 (arg17.view.writes (Elt Ideal) f17 (M17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob)) (k0_off6 i) (k0_off6_inb i))⟩ ::
    M17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob

end Defs

end Cert.Attn
-- ==== Proof.Norm.lean ====
module

public import proofs.«01_k».proof.Proof.Point

@[expose] public section

/-!
# The normalised rows and their cotangents

Queries and keys are divided by the root of their mean square before the logits. `Raw` holds one head as the kernel
receives it; the definitions are the five results as plain formulas, and the theorems say that the printed values of one
point are these formulas.
-/

set_option maxRecDepth 16384

namespace Cert.Attn

open Idealize.ShloMosaic Cert.KernelIdeal Cert.KernelIdeal.Gen Finset

/-- The small number added to a mean square. -/
noncomputable def eps : ℝ := 8796093 / 8796093022208

theorem eps_pos : 0 < eps := by unfold eps; norm_num

/-- What the pattern of a normal positive number of the wide type denotes. -/
theorem ofBits_normal (b : BitVec 32) (ex fr : ℕ) (hn : (b.extractLsb' 31 1 == 1#1) = false) (he : (b.extractLsb' 23 8).toNat = ex)
    (hf : (b.extractLsb' 0 23).toNat = fr) (h1 : ex ≠ 255) (h0 : ex ≠ 0) :
    Ideal.ofBits .f32 b = (((8388608 + fr : ℕ) * (2 : ℝ) ^ ((ex : ℤ) - 150) : ℝ) : EReal) := by
  show Ideal.ieee 8 23 b = _
  unfold Ideal.ieee
  simp only [show 8 + 23 = 31 from rfl, hn, he, hf]
  rw [if_neg (by norm_num; exact h1), if_neg h0]
  congr 1
  rw [show ((ex : ℤ) - (2 ^ (8 - 1) - 1) - ((23 : ℕ) : ℤ)) = (ex : ℤ) - 150 by norm_num; ring]
  norm_num

theorem ofBits_eps : Ideal.ofBits .f32 0x358637BD#32 = ((eps : ℝ) : EReal) := by
  rw [ofBits_normal _ 107 407485 (by decide) (by decide) (by decide) (by decide) (by decide), eps]
  norm_num [zpow_neg]

theorem ofBits_64th : Ideal.ofBits .f32 0x3C800000#32 = (((1 / 64 : ℝ)) : EReal) := by
  rw [ofBits_normal _ 121 0 (by decide) (by decide) (by decide) (by decide) (by decide)]
  norm_num [zpow_neg]

theorem ofBits_8th : Ideal.ofBits .f32 0x3E000000#32 = (((1 / 8 : ℝ)) : EReal) := by
  rw [ofBits_normal _ 124 0 (by decide) (by decide) (by decide) (by decide) (by decide)]
  norm_num [zpow_neg]

theorem rsqrt_coe {r : ℝ} (h : 0 < r) : Ideal.rsqrt ((r : ℝ) : EReal) = (((√r)⁻¹ : ℝ) : EReal) := by
  show (if r < 0 then (⊥ : EReal) else if r = 0 then ⊤ else _) = _
  rw [if_neg (not_lt.mpr h.le), if_neg h.ne']

/-- The reciprocal of the root of a row's mean square. -/
noncomputable def rs (x : ℕ → ℝ) : ℝ := (√((∑ d ∈ range 64, x d * x d) * (1 / 64) + eps))⁻¹

theorem ms_pos (x : ℕ → ℝ) : 0 < (∑ d ∈ range 64, x d * x d) * (1 / 64) + eps := by
  have : 0 ≤ ∑ d ∈ range 64, x d * x d := sum_nonneg fun d _ => mul_self_nonneg _
  have := eps_pos
  positivity

/-- The cotangent of a row `x` when `u` is the cotangent of the normalised row times `g`. -/
noncomputable def dnorm (x g u : ℕ → ℝ) (d : ℕ) : ℝ :=
  rs x * (u d * g d) - x d * (rs x * rs x * rs x) * ((∑ e ∈ range 64, u e * g e * x e) * (1 / 64))

/-- The scale of the queries: an eighth, and the change of the logits' base to two. -/
noncomputable def cs : ℝ := (1 / 8) * (Real.log 2)⁻¹

/-- One head as the kernel receives it. -/
structure Raw where
  Q : ℕ → ℕ → ℝ
  K : ℕ → ℕ → ℝ
  V : ℕ → ℕ → ℝ
  DO : ℕ → ℕ → ℝ
  T : ℕ → ℝ
  GQ : ℕ → ℝ
  GK : ℕ → ℝ

namespace Raw

variable (A : Raw)

/-- The head after the normalisation. -/
noncomputable def head : Head where
  QN := fun i d => A.Q i d * rs (A.Q i) * A.GQ d * cs
  KN := fun j d => A.K j d * rs (A.K j) * A.GK d
  V := A.V
  DO := A.DO
  T := A.T

/-- The cotangent of the normalised query. -/
noncomputable def UQ (i d : ℕ) : ℝ := (∑ s ∈ range 4096, A.head.DZ i s * A.head.KN s d) * (1 / 8)

/-- The cotangent of a query. -/
noncomputable def DQ (i d : ℕ) : ℝ := dnorm (A.Q i) A.GQ (A.UQ i) d

/-- What query `i` adds to the cotangent of the queries' gain. -/
noncomputable def PQ (i d : ℕ) : ℝ := A.UQ i d * A.Q i d * rs (A.Q i)

/-- The cotangent of the normalised key. -/
noncomputable def UK (j d : ℕ) : ℝ := (∑ i ∈ range 4096, A.head.DZ i j * A.head.QN i d) * Real.log 2

/-- The cotangent of a key. -/
noncomputable def DK (j d : ℕ) : ℝ := dnorm (A.K j) A.GK (A.UK j) d

/-- What key `j` adds to the cotangent of the keys' gain. -/
noncomputable def PK (j d : ℕ) : ℝ := A.UK j d * A.K j d * rs (A.K j)

/-- The cotangent of a value. -/
noncomputable def DV (j d : ℕ) : ℝ := ∑ i ∈ range 4096, A.head.W i j * A.head.DO i d

end Raw

section Payloads

variable {n : ℕ} {X : Fin n → Fin 64 → EReal} {x : ℕ → ℕ → ℝ}

/-- The printed reciprocal root of a row's mean square. -/
theorem rs_is {X : Fin 64 → EReal} {x : ℕ → ℝ} (h : ∀ d, X d = ((x d.val : ℝ) : EReal)) :
    Ideal.rsqrt ((∑ d, X d * X d) * Ideal.ofBits FTy.f32 1015021568#32 + Ideal.ofBits FTy.f32 897988541#32) = ((rs x : ℝ) : EReal) := by
  rw [coe_sum_fin (fun d => x d * x d) fun d => by rw [h, EReal.coe_mul], ofBits_64th, ofBits_eps, ← EReal.coe_mul, ← EReal.coe_add,
    rsqrt_coe (ms_pos x)]
  rfl

/-- The printed cotangent of a row. -/
theorem dnorm_is {X G U : Fin 64 → EReal} {R : EReal} {x g u : ℕ → ℝ} (h : ∀ d, X d = ((x d.val : ℝ) : EReal))
    (hg : ∀ d, G d = ((g d.val : ℝ) : EReal)) (hu : ∀ d, U d = ((u d.val : ℝ) : EReal)) (hR : R = ((rs x : ℝ) : EReal)) (d : Fin 64) :
    R * (U d * G d) - X d * (R * R * R) * ((∑ e, U e * G e * X e) * Ideal.ofBits FTy.f32 1015021568#32) =
      ((dnorm x g u d.val : ℝ) : EReal) := by
  rw [coe_sum_fin (fun e => u e * g e * x e) fun e => by rw [h, hg, hu, EReal.coe_mul, EReal.coe_mul], ofBits_64th, h, hg, hu, hR]
  unfold dnorm
  norm_cast

variable {x1 g : ℕ → ℕ → ℝ}

theorem pay132_is {v : Vec Ideal S1x512x64 .f32} {x : ℕ → ℕ → ℝ} (h : Is3 (l := 1) (m := 512) (n := 64) v fun _ => x) : Is2 (k0_pay132 (F := Ideal) v) x := by
  intro i d
  pointwise [k0_pay132]
  exact h _ _ _

theorem pay133_is {v : Vec Ideal S1x512x64 .f32} {x : ℕ → ℕ → ℝ} (h : Is3 (l := 1) (m := 512) (n := 64) v fun _ => x) : Is2 (k0_pay133 (F := Ideal) v) x := by
  intro i d
  pointwise [k0_pay133]
  exact h _ _ _

theorem pay134_is {v : Vec Ideal S1x512x64 .f32} {x : ℕ → ℕ → ℝ} (h : Is3 (l := 1) (m := 512) (n := 64) v fun _ => x) : Is2 (k0_pay134 (F := Ideal) v) fun i _ => rs (x i) := by
  intro i d
  pointwise [k0_pay134, k0_pay132]
  exact rs_is fun d => h _ _ _

theorem pay135_is {v : Vec Ideal S1x512x64 .f32} {x : ℕ → ℕ → ℝ} (h : Is3 (l := 1) (m := 512) (n := 64) v fun _ => x) : Is2 (k0_pay135 (F := Ideal) v) fun i _ => rs (x i) := by
  intro i d
  pointwise [k0_pay135, k0_pay133]
  exact rs_is fun d => h _ _ _

theorem cs_eq : (Named.named (F := Ideal) (φ := .f32) Cert.KernelIdeal.κ "scale_log2e" 0x3E38AA3B#32 : EReal) = ((cs : ℝ) : EReal) := rfl

theorem ln2_eq : (Named.named (F := Ideal) (φ := .f32) Cert.KernelIdeal.κ "ln2" 0x3F317218#32 : EReal) = ((Real.log 2 : ℝ) : EReal) := rfl

theorem pay136_is {v : Vec Ideal S1x512x64 .f32} {w : Vec Ideal S1x64 .f32} {x : ℕ → ℕ → ℝ} {g : ℕ → ℝ} (h : Is3 (l := 1) (m := 512) (n := 64) v fun _ => x)
    (hg : Is2 (m := 1) (n := 64) w fun _ => g) : Is2 (k0_pay136 (F := Ideal) v w) fun i d => x i d * rs (x i) * g d * cs := by
  intro i d
  have h2 := pay134_is h
  have h1 := pay132_is h
  unfold k0_pay136
  generalize k0_pay134 v = R at h2 ⊢
  generalize k0_pay132 v = Y at h1 ⊢
  pointwise
  rw [h1, h2, hg, cs_eq]
  norm_cast

theorem pay137_is {v : FVec Ideal S512x64 .f32} {r : FVec Ideal S512x1 .f32} {w : Vec Ideal S1x64 .f32} {x : ℕ → ℕ → ℝ} {ρ g : ℕ → ℝ} (h1 : Is2 v x) (h2 : Is2 r fun i _ => ρ i)
    (hg : Is2 (m := 1) (n := 64) w fun _ => g) : Is2 (k0_pay137 (F := Ideal) v r w) fun i d => x i d * ρ i * g d * cs := by
  intro i d
  pointwise [k0_pay137]
  rw [h1, h2, hg, cs_eq]
  norm_cast

theorem pay138_is {v : Vec Ideal S1x512x64 .f32} {x : ℕ → ℕ → ℝ} (h : Is3 (l := 1) (m := 512) (n := 64) v fun _ => x) : Is2 (k0_pay138 (F := Ideal) v) x := by
  intro i d
  pointwise [k0_pay138]
  exact h _ _ _

theorem pay139_is {v : Vec Ideal S1x512x64 .f32} {x : ℕ → ℕ → ℝ} (h : Is3 (l := 1) (m := 512) (n := 64) v fun _ => x) : Is2 (k0_pay139 (F := Ideal) v) x := by
  intro i d
  pointwise [k0_pay139]
  exact h _ _ _

theorem pay140_is {v : Vec Ideal S1x512x128 .f32} {x : ℕ → ℝ} (h : ∀ i : Fin 512, v (ix3 0 i 64) = ((x i.val : ℝ) : EReal)) : Is2 (k0_pay140 (F := Ideal) v) fun i _ => x i := by
  intro i d
  pointwise [k0_pay140]
  exact h _

theorem pay141_is {v : Vec Ideal S1x512x128 .f32} {x : ℕ → ℝ} (h : ∀ i : Fin 512, v (ix3 0 i 64) = ((x i.val : ℝ) : EReal)) : Is2 (k0_pay141 (F := Ideal) v) fun i _ => x i := by
  intro i d
  pointwise [k0_pay141]
  exact h _

/-- The printed cotangent of the first head's queries. -/
theorem pay183_is {v : FVec Ideal S512x64 .f32} {r : FVec Ideal S512x1 .f32} {y : FVec Ideal S512x64 .f32} {w : Vec Ideal S1x64 .f32} {x u : ℕ → ℕ → ℝ} {g : ℕ → ℝ}
    (h1 : Is2 v x) (h2 : Is2 r fun i _ => rs (x i)) (hu : Is2 y u) (hg : Is2 (m := 1) (n := 64) w fun _ => g) :
    Is3 (k0_pay183 (F := Ideal) v r y w) fun _ i d => dnorm (x i) g (fun d => u i d * (1 / 8)) d := by
  intro e i d
  obtain rfl : e = 0 := Subsingleton.elim _ _
  pointwise [k0_pay183, k0_pay182]
  exact dnorm_is (X := fun d => v (ix2 i d)) (G := fun d => w (ix2 0 d)) (U := fun d => y (ix2 i d) * Ideal.ofBits FTy.f32 1040187392#32)
    (fun d => h1 i d) (fun d => hg 0 d) (fun d => by rw [hu, ofBits_8th, ← EReal.coe_mul]) (h2 i 0) d

/-- The printed cotangent of the second head's queries. -/
theorem pay1_is {v : FVec Ideal S512x64 .f32} {r : FVec Ideal S512x1 .f32} {y : FVec Ideal S512x64 .f32} {w : Vec Ideal S1x64 .f32} {x u : ℕ → ℕ → ℝ} {g : ℕ → ℝ}
    (h1 : Is2 v x) (h2 : Is2 r fun i _ => rs (x i)) (hu : Is2 y u) (hg : Is2 (m := 1) (n := 64) w fun _ => g) :
    Is3 (k0_pay1 (F := Ideal) v r (k0_pay185 y) w) fun _ i d => dnorm (x i) g (fun d => u i d * (1 / 8)) d := by
  intro e i d
  obtain rfl : e = 0 := Subsingleton.elim _ _
  pointwise [k0_pay1, k0_pay185]
  exact dnorm_is (X := fun d => v (ix2 i d)) (G := fun d => w (ix2 0 d)) (U := fun d => y (ix2 i d) * Ideal.ofBits FTy.f32 1040187392#32)
    (fun d => h1 i d) (fun d => hg 0 d) (fun d => by rw [hu, ofBits_8th, ← EReal.coe_mul]) (h2 i 0) d

/-- The first head's addition to the cotangent of the queries' gain. -/
theorem pay184_is {v : FVec Ideal S512x64 .f32} {r : FVec Ideal S512x1 .f32} {y : FVec Ideal S512x64 .f32} {w : Vec Ideal S1x64 .f32} {x u : ℕ → ℕ → ℝ} {ρ p : ℕ → ℝ}
    (h1 : Is2 v x) (h2 : Is2 r fun i _ => ρ i) (hu : Is2 y u) (hp : Is2 (m := 1) (n := 64) w fun _ => p) :
    Is2 (k0_pay184 (F := Ideal) v r y w) fun _ d => p d + ∑ i ∈ range 512, u i d * (1 / 8) * x i d * ρ i := by
  intro e d
  obtain rfl : e = 0 := Subsingleton.elim _ _
  pointwise [k0_pay184, k0_pay182]
  rw [coe_sum_fin (fun i => u i d * (1 / 8) * x i d * ρ i) fun i => by rw [h1, h2, hu, ofBits_8th, EReal.coe_mul, EReal.coe_mul, EReal.coe_mul],
    hp, EReal.coe_add]

/-- The second head's addition. -/
theorem pay2_is {v : FVec Ideal S512x64 .f32} {r : FVec Ideal S512x1 .f32} {y : FVec Ideal S512x64 .f32} {w : Vec Ideal S1x64 .f32} {x u : ℕ → ℕ → ℝ} {ρ p : ℕ → ℝ}
    (h1 : Is2 v x) (h2 : Is2 r fun i _ => ρ i) (hu : Is2 y u) (hp : Is2 (m := 1) (n := 64) w fun _ => p) :
    Is2 (k0_pay2 (F := Ideal) v r (k0_pay185 y) w) fun _ d => p d + ∑ i ∈ range 512, u i d * (1 / 8) * x i d * ρ i := by
  intro e d
  obtain rfl : e = 0 := Subsingleton.elim _ _
  pointwise [k0_pay2, k0_pay185]
  rw [coe_sum_fin (fun i => u i d * (1 / 8) * x i d * ρ i) fun i => by rw [h1, h2, hu, ofBits_8th, EReal.coe_mul, EReal.coe_mul, EReal.coe_mul],
    hp, EReal.coe_add]

/-- The first head's normalised keys. -/
theorem pay6_is {v : Vec Ideal S1x4096x64 .f32} {w : Vec Ideal S1x64 .f32} {x : ℕ → ℕ → ℝ} {g : ℕ → ℝ} (h : Is3 (l := 1) (m := 4096) (n := 64) v fun _ => x)
    (hg : Is2 (m := 1) (n := 64) w fun _ => g) : Is3 (k0_pay6 (F := Ideal) v w) fun _ i d => x i d * rs (x i) * g d := by
  intro e i d
  obtain rfl : e = 0 := Subsingleton.elim _ _
  pointwise [k0_pay6]
  rw [rs_is (x := x i) fun d => h 0 i d, h, hg]
  norm_cast

/-- The second head's normalised keys. -/
theorem pay128_is {v : Vec Ideal S1x4096x64 .f32} {w : Vec Ideal S1x64 .f32} {x : ℕ → ℕ → ℝ} {g : ℕ → ℝ} (h : Is3 (l := 1) (m := 4096) (n := 64) v fun _ => x)
    (hg : Is2 (m := 1) (n := 64) w fun _ => g) : Is3 (k0_pay128 (F := Ideal) (k0_pay8 v) (k0_pay9 v) w) fun _ i d => x i d * rs (x i) * g d := by
  intro e i d
  obtain rfl : e = 0 := Subsingleton.elim _ _
  pointwise [k0_pay128, k0_pay9, k0_pay8]
  rw [rs_is (x := x i) fun d => h 0 i d, h, hg]
  norm_cast

theorem pay7_is {v : Vec Ideal S1x4096x64 .f32} {x : ℕ → ℕ → ℝ} (h : Is3 (l := 1) (m := 4096) (n := 64) v fun _ => x) : Is3 (k0_pay7 (F := Ideal) v) fun _ => x := by
  intro e i d
  obtain rfl : e = 0 := Subsingleton.elim _ _
  pointwise [k0_pay7]
  exact h _ _ _

theorem pay129_is {v : Vec Ideal S1x4096x64 .f32} {x : ℕ → ℕ → ℝ} (h : Is3 (l := 1) (m := 4096) (n := 64) v fun _ => x) : Is3 (k0_pay129 (F := Ideal) v) fun _ => x := by
  intro e i d
  obtain rfl : e = 0 := Subsingleton.elim _ _
  pointwise [k0_pay129]
  exact h _ _ _

theorem pay130_is : Is3 (k0_pay130 (F := Ideal)) fun _ _ _ => 0 := by
  intro e i d
  pointwise [k0_pay130]
  rfl

theorem pay131_is : Is3 (k0_pay131 (F := Ideal)) fun _ _ _ => 0 := by
  intro e i d
  pointwise [k0_pay131]
  rfl

theorem pay126_is : Is2 (k0_pay126 (F := Ideal)) fun _ _ => 0 := by
  intro i d
  pointwise [k0_pay126]
  rfl

theorem pay127_is : Is2 (k0_pay127 (F := Ideal)) fun _ _ => 0 := by
  intro i d
  pointwise [k0_pay127]
  rfl

theorem pay143_is : Is2 (k0_pay143 (F := Ideal)) fun _ _ => 0 := by
  intro i d
  pointwise [k0_pay143]
  rfl

theorem pay144_is : Is2 (k0_pay144 (F := Ideal)) fun _ _ => 0 := by
  intro i d
  pointwise [k0_pay144]
  rfl

theorem pay145_is : Is2 (k0_pay145 (F := Ideal)) fun _ _ => 0 := by
  intro i d
  pointwise [k0_pay145]
  rfl

/-- The printed cotangent of the first head's keys. -/
theorem pay115_is {v y : Vec Ideal S1x4096x64 .f32} {w : Vec Ideal S1x64 .f32} {x u : ℕ → ℕ → ℝ} {g : ℕ → ℝ}
    (h1 : Is3 (l := 1) (m := 4096) (n := 64) v fun _ => x) (hu : Is3 (l := 1) (m := 4096) (n := 64) y fun _ => u) (hg : Is2 (m := 1) (n := 64) w fun _ => g) :
    Is3 (k0_pay115 (F := Ideal) v y w) fun _ i d => dnorm (x i) g (fun d => u i d * Real.log 2) d := by
  intro e i d
  obtain rfl : e = 0 := Subsingleton.elim _ _
  pointwise [k0_pay115, k0_pay114, k0_pay113, k0_pay112]
  exact dnorm_is (X := fun d => v (ix3 0 i d)) (G := fun d => w (ix2 0 d)) (U := fun d => y (ix3 0 i d) * Named.named (F := Ideal) (φ := .f32) Cert.KernelIdeal.κ "ln2" 0x3F317218#32)
    (fun d => h1 0 i d) (fun d => hg 0 d) (fun d => by rw [hu, ln2_eq, ← EReal.coe_mul]) (rs_is fun d => h1 0 i d) d

/-- The printed cotangent of the second head's keys. -/
theorem pay3_is {v y : Vec Ideal S1x4096x64 .f32} {w : Vec Ideal S1x64 .f32} {x u : ℕ → ℕ → ℝ} {g : ℕ → ℝ}
    (h1 : Is3 (l := 1) (m := 4096) (n := 64) v fun _ => x) (hu : Is3 (l := 1) (m := 4096) (n := 64) y fun _ => u) (hg : Is2 (m := 1) (n := 64) w fun _ => g) :
    Is3 (k0_pay3 (F := Ideal) (k0_pay119 v) (k0_pay120 v) (k0_pay123 v y w) (k0_pay124 v y w) (k0_pay125 v)) fun _ i d => dnorm (x i) g (fun d => u i d * Real.log 2) d := by
  intro e i d
  obtain rfl : e = 0 := Subsingleton.elim _ _
  pointwise [k0_pay3, k0_pay125, k0_pay124, k0_pay123, k0_pay122, k0_pay121, k0_pay120, k0_pay119]
  exact dnorm_is (X := fun d => v (ix3 0 i d)) (G := fun d => w (ix2 0 d)) (U := fun d => y (ix3 0 i d) * Named.named (F := Ideal) (φ := .f32) Cert.KernelIdeal.κ "ln2" 0x3F317218#32)
    (fun d => h1 0 i d) (fun d => hg 0 d) (fun d => by rw [hu, ln2_eq, ← EReal.coe_mul]) (rs_is fun d => h1 0 i d) d

theorem pay117_is {v : Vec Ideal S1x4096x64 .f32} {x : ℕ → ℕ → ℝ} (h : Is3 (l := 1) (m := 4096) (n := 64) v fun _ => x) : Is3 (k0_pay117 (F := Ideal) (k0_pay116 v)) fun _ => x := by
  intro e i d
  obtain rfl : e = 0 := Subsingleton.elim _ _
  pointwise [k0_pay117, k0_pay116]
  exact h _ _ _

theorem pay4_is {v : Vec Ideal S1x4096x64 .f32} {x : ℕ → ℕ → ℝ} (h : Is3 (l := 1) (m := 4096) (n := 64) v fun _ => x) : Is3 (k0_pay4 (F := Ideal) v) fun _ => x := by
  intro e i d
  obtain rfl : e = 0 := Subsingleton.elim _ _
  pointwise [k0_pay4]
  exact h _ _ _

/-- The first head's addition to the cotangent of the keys' gain. -/
theorem pay118_is {v y : Vec Ideal S1x4096x64 .f32} {w : Vec Ideal S1x64 .f32} {x u : ℕ → ℕ → ℝ} {p : ℕ → ℝ}
    (h1 : Is3 (l := 1) (m := 4096) (n := 64) v fun _ => x) (hu : Is3 (l := 1) (m := 4096) (n := 64) y fun _ => u) (hp : Is2 (m := 1) (n := 64) w fun _ => p) :
    Is2 (k0_pay118 (F := Ideal) (k0_pay112 v) (k0_pay113 v) (k0_pay114 y) w) fun _ d => p d + ∑ i ∈ range 4096, u i d * Real.log 2 * x i d * rs (x i) := by
  intro e d
  obtain rfl : e = 0 := Subsingleton.elim _ _
  pointwise [k0_pay118, k0_pay114, k0_pay113, k0_pay112]
  rw [coe_sum_fin (fun i => u i d * Real.log 2 * x i d * rs (x i)) fun i => by rw [rs_is (x := x i) fun d => h1 0 i d, h1, hu, ln2_eq, EReal.coe_mul, EReal.coe_mul, EReal.coe_mul],
    hp, EReal.coe_add]

/-- The second head's addition. -/
theorem pay5_is {v y : Vec Ideal S1x4096x64 .f32} {w : Vec Ideal S1x64 .f32} {x u : ℕ → ℕ → ℝ} {p : ℕ → ℝ}
    (h1 : Is3 (l := 1) (m := 4096) (n := 64) v fun _ => x) (hu : Is3 (l := 1) (m := 4096) (n := 64) y fun _ => u) (hp : Is2 (m := 1) (n := 64) w fun _ => p) :
    Is2 (k0_pay5 (F := Ideal) (k0_pay119 v) (k0_pay120 v) (k0_pay121 y) w) fun _ d => p d + ∑ i ∈ range 4096, u i d * Real.log 2 * x i d * rs (x i) := by
  intro e d
  obtain rfl : e = 0 := Subsingleton.elim _ _
  pointwise [k0_pay5, k0_pay121, k0_pay120, k0_pay119]
  rw [coe_sum_fin (fun i => u i d * Real.log 2 * x i d * rs (x i)) fun i => by rw [rs_is (x := x i) fun d => h1 0 i d, h1, hu, ln2_eq, EReal.coe_mul, EReal.coe_mul, EReal.coe_mul],
    hp, EReal.coe_add]

end Payloads

end Cert.Attn
-- ==== Proof.Shares.lean ====
module

public import proofs.«01_k».proof.Proof.Norm

@[expose] public section

/-!
# The shares of the sticks in natural logarithms

The reference writes the shares with the natural logarithm of the sigmoid, the kernel with logarithms in base two. The
theorems here say that the two are the same numbers.
-/

namespace Cert.Attn

open Idealize.ShloMosaic Finset

/-- The logarithm of one more than an exponential. -/
noncomputable def sp (x : ℝ) : ℝ := Real.log (1 + Real.exp x)

theorem one_add_exp_pos (x : ℝ) : 0 < 1 + Real.exp x := by positivity

theorem exp_sp (x : ℝ) : Real.exp (sp x) = 1 + Real.exp x := Real.exp_log (one_add_exp_pos x)

/-- The difference of the two signs. -/
theorem sp_neg (x : ℝ) : sp (-x) = sp x - x := by
  apply Real.exp_injective
  rw [Real.exp_sub, exp_sp, exp_sp, Real.exp_neg, add_div, div_self (Real.exp_pos x).ne', one_div, add_comm]

/-- The form that does not overflow. -/
theorem sp_stable (x : ℝ) : max x 0 + Real.log (1 + Real.exp (-|x|)) = sp x := by
  rcases le_total 0 x with h | h
  · rw [max_eq_left h, abs_of_nonneg h]
    have := sp_neg x
    unfold sp at this ⊢
    linarith
  · rw [max_eq_right h, abs_of_nonpos h, neg_neg, zero_add]
    rfl

/-- A share and what it leaves make one. -/
theorem shares (x : ℝ) : Real.exp (-sp x) = 1 - Real.exp (-sp (-x)) := by
  have h : Real.exp (-sp (-x)) = Real.exp x * Real.exp (-sp x) := by rw [sp_neg, ← Real.exp_add]; congr 1; ring
  have e : Real.exp (-sp x) * (1 + Real.exp x) = 1 := by rw [← exp_sp x, ← Real.exp_add]; simp
  rw [h]
  linarith

theorem log_two_pos : 0 < Real.log 2 := Real.log_pos (by norm_num)

/-- A power of two of a logarithm in base two. -/
theorem two_pow_div (y : ℝ) : (2 : ℝ) ^ (y * (Real.log 2)⁻¹) = Real.exp y := by
  rw [Real.rpow_def_of_pos (by norm_num)]
  congr 1
  have := log_two_pos.ne'
  field_simp

/-- The base-two logarithm of the sigmoid, from the natural one. -/
theorem lsig_eq (z : ℝ) : Head.lsig (z * (Real.log 2)⁻¹) = -sp (-z) * (Real.log 2)⁻¹ := by
  have hp : 0 < (Real.log 2)⁻¹ := inv_pos.mpr log_two_pos
  unfold Head.lsig
  rw [← sp_stable, show 0 - |z * (Real.log 2)⁻¹| = -|(-z)| * (Real.log 2)⁻¹ by rw [abs_mul, abs_of_pos hp, abs_neg]; ring, two_pow_div,
    show min (z * (Real.log 2)⁻¹) 0 = -max (-z) 0 * (Real.log 2)⁻¹ by
      rw [← min_neg_neg, neg_neg, neg_zero]
      rcases le_total z 0 with h | h
      · rw [min_eq_left h, min_eq_left (mul_nonpos_of_nonpos_of_nonneg h hp.le)]
      · rw [min_eq_right h, min_eq_right (mul_nonneg h hp.le), zero_mul]]
  ring

namespace Raw

variable (A : Raw)

/-- The normalised query times an eighth. -/
noncomputable def qn (i d : ℕ) : ℝ := A.Q i d * rs (A.Q i) * A.GQ d * (1 / 8)

/-- The logit. -/
noncomputable def lz (i j : ℕ) : ℝ := ∑ d ∈ range 64, A.qn i d * A.head.KN j d

/-- The logarithm of what a key leaves; `0` for a key that is not before the query. -/
noncomputable def lm (i j : ℕ) : ℝ := if j < i then -sp (A.lz i j) else 0

/-- The total of the logarithms of a query, in base two. -/
noncomputable def tot (i : ℕ) : ℝ := (∑ j ∈ range 4096, A.lm i j) * (Real.log 2)⁻¹

theorem head_qn (i d : ℕ) : A.head.QN i d = A.qn i d * (Real.log 2)⁻¹ := by
  show A.Q i d * rs (A.Q i) * A.GQ d * cs = A.Q i d * rs (A.Q i) * A.GQ d * (1 / 8) * (Real.log 2)⁻¹
  unfold cs
  ring

theorem head_z (i j : ℕ) : A.head.Z i j = A.lz i j * (Real.log 2)⁻¹ := by
  unfold Head.Z lz
  rw [sum_mul]
  exact sum_congr rfl fun d _ => by rw [head_qn]; ring

theorem head_lb (i j : ℕ) : A.head.LB i j = -sp (-A.lz i j) * (Real.log 2)⁻¹ := by
  unfold Head.LB
  rw [head_z, lsig_eq]

theorem head_l1 (i j : ℕ) : A.head.L1 i j = A.lm i j * (Real.log 2)⁻¹ := by
  unfold Head.L1 lm
  split_ifs with h
  · rw [head_lb, head_z, sp_neg]
    ring
  · rw [zero_mul]

/-- The share a query takes. -/
theorem head_pow (i j : ℕ) : (2 : ℝ) ^ A.head.LB i j = Real.exp (-sp (-A.lz i j)) := by rw [head_lb, two_pow_div]

/-- The weights, when the totals are those of the logits. -/
theorem head_w (hT : ∀ i, A.T i = A.tot i) {i j : ℕ} (h : j < i) :
    A.head.W i j = Real.exp (-sp (-A.lz i j) + (∑ t ∈ range 4096, A.lm i t - ∑ t ∈ range (j + 1), A.lm i t)) := by
  unfold Head.W
  rw [if_pos h, head_lb, show A.head.T i = A.T i from rfl, hT, tot, show ∑ t ∈ range (j + 1), A.head.L1 i t = (∑ t ∈ range (j + 1), A.lm i t) * (Real.log 2)⁻¹ by
    rw [sum_mul]; exact sum_congr rfl fun t _ => A.head_l1 i t, ← two_pow_div]
  congr 1
  ring

/-- The cotangent of the normalised key, in the reference's logits. -/
theorem uk_eq (j d : ℕ) : A.UK j d = ∑ i ∈ range 4096, A.head.DZ i j * A.qn i d := by
  unfold UK
  rw [sum_mul]
  refine sum_congr rfl fun i _ => ?_
  rw [head_qn]
  have := log_two_pos.ne'
  field_simp

end Raw

end Cert.Attn
-- ==== Proof.Ref.lean ====
module

public import proofs.«01_k».proof.Proof.HostSums
public import proofs.«01_k».proof.Proof.Shares
public import proofs.«01_k».proof.Proof.Gen.ReferenceIdeal.Read

@[expose] public section

/-!
# The reference on real numbers

Every array the reference goes through holds real numbers when its arguments do. The theorems say which, down to the five
results.
-/

set_option maxHeartbeats 1000000

namespace Cert.Attn

open Cert.ReferenceIdeal Cert.ReferenceIdeal.Gen Cert.ReferenceIdeal.Read Idealize.ShloMosaic Idealize.ShloMosaic.TcCoe Finset

section Scalars

theorem div_coe {a b : ℝ} (hb : b ≠ 0) : Ideal.div ((a : ℝ) : EReal) ((b : ℝ) : EReal) = ((a / b : ℝ) : EReal) := by
  unfold Ideal.div
  rw [if_neg (by exact_mod_cast hb), ← EReal.coe_inv, ← EReal.coe_mul, div_eq_mul_inv]

theorem exp_coe (a : ℝ) : Ideal.exp ((a : ℝ) : EReal) = ((Real.exp a : ℝ) : EReal) := rfl

theorem log1p_coe {a : ℝ} (h : 0 < 1 + a) : Ideal.log1p ((a : ℝ) : EReal) = ((Real.log (1 + a) : ℝ) : EReal) := by
  unfold Ideal.log1p
  rw [← EReal.coe_one, ← EReal.coe_add, log_coe h]

theorem ofBits_64 : Ideal.ofBits .f32 0x42800000#32 = (((64 : ℝ)) : EReal) := by
  rw [ofBits_normal _ 133 0 (by decide) (by decide) (by decide) (by decide) (by decide)]
  norm_num [zpow_neg]

theorem ofBits_2 : Ideal.ofBits .f32 0x40000000#32 = (((2 : ℝ)) : EReal) := by
  rw [ofBits_normal _ 128 0 (by decide) (by decide) (by decide) (by decide) (by decide)]
  norm_num [zpow_neg]

theorem ofBits_half : Ideal.ofBits .f32 0xBF000000#32 = (((-(1 / 2) : ℝ)) : EReal) := by
  show Ideal.ieee 8 23 0xBF000000#32 = _
  unfold Ideal.ieee
  simp only [show 8 + 23 = 31 from rfl, show ((0xBF000000#32).extractLsb' 31 1 == 1#1) = true by decide,
    show ((0xBF000000#32).extractLsb' 23 8).toNat = 126 by decide, show ((0xBF000000#32).extractLsb' 0 23).toNat = 0 by decide]
  norm_num [zpow_neg]

theorem ofBits_top : Ideal.ofBits .f32 0x7F800000#32 = (⊤ : EReal) := by
  show Ideal.ieee 8 23 0x7F800000#32 = _
  unfold Ideal.ieee
  simp only [show 8 + 23 = 31 from rfl, show ((0x7F800000#32).extractLsb' 31 1 == 1#1) = false by decide,
    show ((0x7F800000#32).extractLsb' 23 8).toNat = 255 by decide, show ((0x7F800000#32).extractLsb' 0 23).toNat = 0 by decide]
  norm_num

theorem ofBits_zero : Ideal.ofBits .f32 0x00000000#32 = (0 : EReal) := by
  show Ideal.ieee 8 23 0x00000000#32 = _
  unfold Ideal.ieee
  simp only [show 8 + 23 = 31 from rfl, show ((0x00000000#32).extractLsb' 31 1 == 1#1) = false by decide,
    show ((0x00000000#32).extractLsb' 23 8).toNat = 0 by decide, show ((0x00000000#32).extractLsb' 0 23).toNat = 0 by decide]
  norm_num

end Scalars

/-- The arguments hold real numbers: one head each of `A`. -/
structure Given (x0 x1 x2 x5 : (⟨S8x4096x64, .f32⟩ : BufTy).Contents (Elt Ideal)) (x3 x4 : (⟨S1x64, .f32⟩ : BufTy).Contents (Elt Ideal)) (A : ℕ → Raw) : Prop where
  q : Is3 (l := 8) (m := 4096) (n := 64) x0 fun h => (A h).Q
  k : Is3 (l := 8) (m := 4096) (n := 64) x1 fun h => (A h).K
  v : Is3 (l := 8) (m := 4096) (n := 64) x2 fun h => (A h).V
  dO : Is3 (l := 8) (m := 4096) (n := 64) x5 fun h => (A h).DO
  gq : ∀ h, Is2 (m := 1) (n := 64) x3 fun _ => (A h).GQ
  gk : ∀ h, Is2 (m := 1) (n := 64) x4 fun _ => (A h).GK

variable {x0 x1 x2 x5 : (⟨S8x4096x64, .f32⟩ : BufTy).Contents (Elt Ideal)} {x3 x4 : (⟨S1x64, .f32⟩ : BufTy).Contents (Elt Ideal)} {A : ℕ → Raw}

section Norms

/-- The mean square of a row and the small number. -/
noncomputable def ms (x : ℕ → ℝ) : ℝ := (∑ d ∈ range 64, x d * x d) * (1 / 64) + eps

theorem ms_pos' (x : ℕ → ℝ) : 0 < ms x := ms_pos x

theorem rs_ms (x : ℕ → ℝ) : rs x = (√(ms x))⁻¹ := rfl

theorem rs_div (x : ℕ → ℝ) : rs x / ms x = rs x * rs x * rs x := by
  have hp : 0 < ms x := ms_pos x
  have h2 : √(ms x) * √(ms x) = ms x := Real.mul_self_sqrt hp.le
  have h0 : √(ms x) ≠ 0 := (Real.sqrt_pos.mpr hp).ne'
  rw [rs_ms]
  nth_rewrite 2 [← h2]
  field_simp

theorem ms_is {X : Fin 64 → EReal} {x : ℕ → ℝ} (h : ∀ d, X d = ((x d.val : ℝ) : EReal)) :
    Ideal.div (0 + ∑ d, X d * X d) (Ideal.ofBits .f32 0x42800000#32) + Ideal.ofBits .f32 0x358637BD#32 = ((ms x : ℝ) : EReal) := by
  rw [coe_sum_fin (fun d => x d * x d) fun d => by rw [h, EReal.coe_mul], ofBits_64, ofBits_eps, zero_add, div_coe (by norm_num), ← EReal.coe_add, ms]
  congr 2
  ring

theorem v6_is (g : Given x0 x1 x2 x5 x3 x4 A) : Is3 (val_main_v6 x0) fun h i _ => ms ((A h).Q i) := by
  intro h i d
  obtain rfl : d = 0 := Subsingleton.elim _ _
  pointwise [val_main_v6, val_main_v5, val_main_v4, val_main_v3, val_main_v2, val_main_v1, val_main_v0, val_main_cst, val_main_cst_0, val_main_cst_1]
  simpa [ofBits_zero] using ms_is (fun d => g.q h i d)

theorem v24_is (g : Given x0 x1 x2 x5 x3 x4 A) : Is3 (val_main_v24 x1) fun h i _ => ms ((A h).K i) := by
  intro h i d
  obtain rfl : d = 0 := Subsingleton.elim _ _
  pointwise [val_main_v24, val_main_v23, val_main_v22, val_main_v21, val_main_v20, val_main_v19, val_main_v18, val_main_cst_4, val_main_cst_5, val_main_cst_6]
  simpa [ofBits_zero] using ms_is (fun d => g.k h i d)

theorem v7_is (g : Given x0 x1 x2 x5 x3 x4 A) : Is3 (val_main_v7 x0) fun h i _ => rs ((A h).Q i) := by
  intro h i d
  pointwise [val_main_v7]
  rw [v6_is g, rsqrt_coe (ms_pos' _)]
  rfl

theorem v25_is (g : Given x0 x1 x2 x5 x3 x4 A) : Is3 (val_main_v25 x1) fun h i _ => rs ((A h).K i) := by
  intro h i d
  pointwise [val_main_v25]
  rw [v24_is g, rsqrt_coe (ms_pos' _)]
  rfl

theorem v10_is (g : Given x0 x1 x2 x5 x3 x4 A) : Is3 (val_main_v10 x0) fun h i _ => -(1 / 2) * (rs ((A h).Q i) * rs ((A h).Q i) * rs ((A h).Q i)) := by
  intro h i d
  pointwise [val_main_v10, val_main_v9, val_main_v8, val_main_cst_2]
  rw [v6_is g, v7_is g]
  dsimp only
  rw [div_coe (ms_pos' _).ne', rs_div, ofBits_half, ← EReal.coe_mul]

theorem v28_is (g : Given x0 x1 x2 x5 x3 x4 A) : Is3 (val_main_v28 x1) fun h i _ => -(1 / 2) * (rs ((A h).K i) * rs ((A h).K i) * rs ((A h).K i)) := by
  intro h i d
  pointwise [val_main_v28, val_main_v27, val_main_v26, val_main_cst_7]
  rw [v24_is g, v25_is g]
  dsimp only
  rw [div_coe (ms_pos' _).ne', rs_div, ofBits_half, ← EReal.coe_mul]

theorem v12_is (g : Given x0 x1 x2 x5 x3 x4 A) : Is3 (val_main_v12 x0) fun h i d => (A h).Q i d * rs ((A h).Q i) := by
  intro h i d
  pointwise [val_main_v12, val_main_v11]
  rw [g.q, v7_is g, ← EReal.coe_mul]

theorem v30_is (g : Given x0 x1 x2 x5 x3 x4 A) : Is3 (val_main_v30 x1) fun h i d => (A h).K i d * rs ((A h).K i) := by
  intro h i d
  pointwise [val_main_v30, val_main_v29]
  rw [g.k, v25_is g, ← EReal.coe_mul]

theorem v17_is (g : Given x0 x1 x2 x5 x3 x4 A) : Is3 (val_main_v17 x0 x3) fun h => (A h).qn := by
  intro h i d
  pointwise [val_main_v17, val_main_v16, val_main_v15, val_main_v14, val_main_v13, val_main_cst_3]
  rw [v12_is g, g.gq h, ofBits_8th, ← EReal.coe_mul, ← EReal.coe_mul]
  rfl

theorem v33_is (g : Given x0 x1 x2 x5 x3 x4 A) : Is3 (val_main_v33 x1 x4) fun h => (A h).head.KN := by
  intro h i d
  pointwise [val_main_v33, val_main_v32, val_main_v31]
  rw [v30_is g, g.gk h, ← EReal.coe_mul]
  rfl

end Norms

section Logits

theorem v34_is (g : Given x0 x1 x2 x5 x3 x4 A) : Is3 (val_main_v34 x0 x1 x3 x4) fun h => (A h).lz := by
  intro h i j
  pointwise [val_main_v34]
  exact coe_sum_fin (fun d => (A h).qn i d * (A h).head.KN j d) fun d => by rw [v17_is g, v33_is g, EReal.coe_mul]

/-- The stable form of the logarithm of one more than an exponential, on an extended real. -/
theorem sp_is {x : EReal} {r : ℝ} (h : x = ((r : ℝ) : EReal)) :
    (if x ≠ x then x else max x 0 + Ideal.log1p (Ideal.exp (-FloatOps.absf (F := Ideal) (φ := .f32) x))) = ((sp r : ℝ) : EReal) := by
  subst h
  rw [if_neg (by simp), absf_coe, ← EReal.coe_neg, exp_coe, log1p_coe (by positivity), show max ((r : ℝ) : EReal) 0 = ((max r 0 : ℝ) : EReal) from (EReal.coe_strictMono.monotone.map_max (a := r) (b := 0)).symm, ← EReal.coe_add, sp_stable]

theorem share_is {x y : EReal} {r s : ℝ} (hx : x = ((r : ℝ) : EReal)) (hy : y = ((s : ℝ) : EReal)) :
    Ideal.exp ((if x = Ideal.ofBits FTy.f32 2139095040#32 then 0 else x) - if y = Ideal.ofBits FTy.f32 2139095040#32 then 0 else y) =
      ((Real.exp (r - s) : ℝ) : EReal) := by
  subst hx hy
  rw [show Ideal.ofBits FTy.f32 2139095040#32 = (⊤ : EReal) from ofBits_top, if_neg (EReal.coe_ne_top r), if_neg (EReal.coe_ne_top s), ← EReal.coe_sub, exp_coe]

theorem c0_is (g : Given x0 x1 x2 x5 x3 x4 A) : Is3 (val_main_call0_v1_0 x0 x1 x3 x4) fun h i j => sp (-(A h).lz i j) := by
  intro h i j
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  exact sp_is (by rw [v34_is g, EReal.coe_neg])

theorem c1_is (g : Given x0 x1 x2 x5 x3 x4 A) : Is3 (val_main_call1_v1_0 x0 x1 x3 x4) fun h i j => sp ((A h).lz i j) := by
  intro h i j
  pointwise [val_main_call1_v1_0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v42]
  exact sp_is (by rw [v34_is g, neg_neg])

theorem v35_1_is (g : Given x0 x1 x2 x5 x3 x4 A) : Is3 (val_main_v35_1 x0 x1 x3 x4) fun h i j => 1 - Real.exp (-sp (-(A h).lz i j)) := by
  intro h i j
  pointwise [val_main_v35_1, val_main_call0_call0_v21, val_main_call0_call0_v20, val_main_call0_call0_v19,val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3]
  rw [share_is (r := -(A h).lz i j) (s := sp (-(A h).lz i j)) ?_ (c0_is g h i j), ← shares, sp_neg]
  · congr 2
    ring
  · pointwise [val_main_call0_v0]
    rw [v34_is g, EReal.coe_neg]

theorem v43_1_is (g : Given x0 x1 x2 x5 x3 x4 A) : Is3 (val_main_v43_1 x0 x1 x3 x4) fun h i j => Real.exp (-sp (-(A h).lz i j)) := by
  intro h i j
  pointwise [val_main_v43_1, val_main_call1_call0_v21, val_main_call1_call0_v20, val_main_call1_call0_v19,val_main_call1_call0_v18, val_main_call1_call0_v17, val_main_call1_call0_v16, val_main_call1_call0_v15, val_main_call1_call0_v14, val_main_call1_call0_v13, val_main_call1_call0_cst_0, val_main_call1_call0_cst_1, val_main_call1_call0_cst_2, val_main_call1_call0_cst_3]
  rw [share_is (r := (A h).lz i j) (s := sp ((A h).lz i j)) ?_ (c1_is g h i j), sp_neg]
  · congr 2
    ring
  · pointwise [val_main_call1_v0, val_main_v42]
    rw [v34_is g, neg_neg]

/-- A choice by the mask of the keys before the query. -/
theorem mask_is {i j : Fin 4096} {x y : EReal} {a b : ℝ} (hx : x = ((a : ℝ) : EReal)) (hy : y = ((b : ℝ) : EReal)) :
    Scalar.select (IntOp.cmpi CmpIPredicate.slt (BitVec.ofNat 32 j.val) (BitVec.ofNat 32 i.val)) x y = ((if j.val < i.val then a else b : ℝ) : EReal) := by
  rw [slt_bit _ _ (by omega) (by omega)]
  split_ifs with hl
  · exact hx
  · exact hy

theorem v44_is (g : Given x0 x1 x2 x5 x3 x4 A) : Is3 (val_main_v44_0 x0 x1 x3 x4) fun h => (A h).lm := by
  intro h i j
  pointwise [val_main_v44_0, val_main_v44_1, val_main_v41, val_main_v40, val_main_v39, val_main_v38, val_main_v37, val_main_v36, val_main_v43_0, val_main_call2_v2, val_main_call2_v0, val_main_cst_8]
  exact mask_is (by rw [c1_is g, EReal.coe_neg]) (by first | rfl | exact ofBits_zero)

/-- A window sum whose first value is zero. -/
theorem window_read (lo hi : ℕ) (x : FVec Ideal S8x4096x4096 .f32) (init : FVec Ideal S_ .f32)
    (h : (⟨3, ![8, 4096, 4096]⟩ : Shape).ReduceWindows ![1, 1, 4096] ![1, 1, 1] ![0, 0, lo] ![0, 0, hi] ⟨3, ![8, 4096, 4096]⟩) (hu : 0 < S_.numel) (hi0 : ∀ e, init e = (0 : EReal)) :
    Host.reduceWindowAdd ![1, 1, 4096] ![1, 1, 1] ![0, 0, lo] ![0, 0, hi] x init h hu = Ideal.hostReduceWindowAdd ![1, 1, 4096] ![1, 1, 1] ![0, 0, lo] ![0, 0, hi] h x 0 := by
  unfold Host.reduceWindowAdd
  rw [hi0]
  rfl

theorem v45_is (g : Given x0 x1 x2 x5 x3 x4 A) : Is3 (val_main_v45 x0 x1 x3 x4) fun h i j => ∑ t ∈ range 4096, (A h).lm i t - ∑ t ∈ range j, (A h).lm i t := by
  have hx := v44_is g
  unfold val_main_v45
  generalize val_main_v44_0 x0 x1 x3 x4 = x at hx ⊢
  intro h i j
  have e := window_sum 0 4095 reduceWindows_S8x4096x4096_S8x4096x4096_w1s1p0_0_w1s1p0_0_w4096s1p0_4095 hx h i j
  beta_reduce at e ⊢
  rw [suffix_sum ((A h).lm i) j.isLt] at e
  rw [← e]
  exact congrFun (window_read 0 4095 x _ _ _ fun _ => ofBits_zero) _

theorem v48_is (g : Given x0 x1 x2 x5 x3 x4 A) : Is3 (val_main_v48 x0 x1 x3 x4) fun h i j =>
    Real.exp (-sp (-(A h).lz i j) + (∑ t ∈ range 4096, (A h).lm i t - ∑ t ∈ range (j + 1), (A h).lm i t)) := by
  intro h i j
  pointwise [val_main_v48, val_main_v47, val_main_v46, val_main_v35_0]
  rw [c0_is g, v45_is g, v44_is g]
  beta_reduce
  rw [← EReal.coe_neg, ← EReal.coe_sub, ← EReal.coe_add, exp_coe, sum_range_succ _ j.val]
  congr 3
  ring

end Logits

section Weights

variable (hT : ∀ h i, (A h).T i = (A h).tot i)
include hT

theorem v49_is (g : Given x0 x1 x2 x5 x3 x4 A) : Is3 (val_main_v49_0 x0 x1 x3 x4) fun h => (A h).head.W := by
  intro h i j
  pointwise [val_main_v49_0, val_main_v49_1, val_main_v41, val_main_v40, val_main_v39, val_main_v38, val_main_v37, val_main_v36, val_main_call4_v2, val_main_call4_v0, val_main_cst_9]
  rw [mask_is (v48_is g h i j) (b := 0) (by first | rfl | exact ofBits_zero)]
  congr 1
  split_ifs with hl
  · exact ((A h).head_w (hT h) hl).symm
  · exact ((A h).head.W_of_le (by omega)).symm

theorem v52_is (g : Given x0 x1 x2 x5 x3 x4 A) : Is3 (val_main_v52 x0 x1 x3 x4 x5) fun h => (A h).DV := by
  intro h j d
  pointwise [val_main_v52, val_main_v51]
  exact coe_sum_fin (fun i => (A h).head.W i j * (A h).head.DO i d) fun i => by
    rw [g.dO, v49_is hT g, EReal.coe_mul, mul_comm]; rfl

theorem v55_is (g : Given x0 x1 x2 x5 x3 x4 A) : Is3 (val_main_v55 x0 x1 x2 x3 x4 x5) fun h => (A h).head.E := by
  intro h i j
  pointwise [val_main_v55, val_main_v54, val_main_v53, val_main_v49_1, val_main_v41, val_main_v40, val_main_v39, val_main_v38, val_main_v37, val_main_v36, val_main_call5_v0, val_main_call5_cst]
  rw [mask_is (a := (A h).head.DW i j * Real.exp (-sp (-(A h).lz i j) + (∑ t ∈ range 4096, (A h).lm i t - ∑ t ∈ range (j.val + 1), (A h).lm i t))) (b := 0) ?_ EReal.coe_zero.symm]
  · congr 1
    split_ifs with hl
    · rw [Head.E, (A h).head_w (hT h) hl, mul_comm]
    · rw [(A h).head.E_of_le (i := i.val) (s := j.val) (by omega)]
  · rw [v48_is g, EReal.coe_mul]
    exact congrArg (· * _) (coe_sum_fin (fun d => (A h).head.DO i d * (A h).head.V j d) fun d => by rw [g.dO, g.v, EReal.coe_mul]; rfl)

theorem v57_is (g : Given x0 x1 x2 x5 x3 x4 A) : Is3 (val_main_v57 x0 x1 x2 x3 x4 x5) fun h i j => ∑ t ∈ range (j + 1), (A h).head.E i t := by
  have hx := v55_is hT g
  unfold val_main_v57
  generalize val_main_v55 x0 x1 x2 x3 x4 x5 = x at hx ⊢
  intro h i j
  have e := window_sum 4095 0 reduceWindows_S8x4096x4096_S8x4096x4096_w1s1p0_0_w1s1p0_0_w4096s1p4095_0 hx h i j
  beta_reduce at e ⊢
  rw [prefix_sum (n := 4096) ((A h).head.E i) j.isLt] at e
  rw [← e]
  exact congrFun (window_read 4095 0 x _ _ _ fun _ => ofBits_zero) _

theorem v59_is (g : Given x0 x1 x2 x5 x3 x4 A) : Is3 (val_main_v59 x0 x1 x2 x3 x4 x5) fun h i j => if j < i then ∑ t ∈ range j, (A h).head.E i t else 0 := by
  intro h i j
  pointwise [val_main_v59, val_main_v58, val_main_v56, val_main_v44_1, val_main_v41, val_main_v40, val_main_v39, val_main_v38, val_main_v37, val_main_v36, val_main_call7_v0, val_main_call7_cst]
  refine mask_is ?_ (by first | rfl | exact ofBits_zero)
  rw [v55_is hT g, v57_is hT g]
  beta_reduce
  rw [← EReal.coe_neg, ← EReal.coe_add, sum_range_succ _ j.val]
  congr 1
  ring

theorem v63_is (g : Given x0 x1 x2 x5 x3 x4 A) : Is3 (val_main_v63 x0 x1 x2 x3 x4 x5) fun h => (A h).head.DZ := by
  intro h i j
  pointwise [val_main_v63, val_main_v62, val_main_v61, val_main_v60, val_main_call8_v1, val_main_call8_v0, val_main_call9_v1, val_main_call9_v0]
  rw [v59_is hT g, v55_is hT g, v35_1_is g, v43_1_is g]
  beta_reduce
  rw [← EReal.coe_neg, ← EReal.coe_neg, ← EReal.coe_mul, ← EReal.coe_mul, ← EReal.coe_neg, ← EReal.coe_neg, ← EReal.coe_neg, ← EReal.coe_add]
  congr 1
  unfold Head.DZ
  split_ifs with hl
  · rw [(A h).head_pow]
    ring
  · rw [(A h).head.E_of_le (i := i.val) (s := j.val) (by omega)]
    ring

theorem v64_is (g : Given x0 x1 x2 x5 x3 x4 A) : Is3 (val_main_v64 x0 x1 x2 x3 x4 x5) fun h => (A h).UK := by
  intro h j d
  pointwise [val_main_v64]
  rw [(A h).uk_eq]
  exact coe_sum_fin (fun i => (A h).head.DZ i j * (A h).qn i d) fun i => by rw [v63_is hT g, v17_is g, EReal.coe_mul]

theorem v88_is (g : Given x0 x1 x2 x5 x3 x4 A) : Is3 (val_main_v88 x0 x1 x2 x3 x4 x5) fun h => (A h).UQ := by
  intro h i d
  pointwise [val_main_v88, val_main_v87, val_main_cst_15, val_main_v65]
  rw [coe_sum_fin (fun s => (A h).head.DZ i s * (A h).head.KN s d) fun s => by rw [v63_is hT g, v33_is g, EReal.coe_mul], ofBits_8th, ← EReal.coe_mul]
  rfl

end Weights

section Results

variable (hT : ∀ h i, (A h).T i = (A h).tot i)
include hT

theorem v82_is (g : Given x0 x1 x2 x5 x3 x4 A) : Is3 (val_main_v82 x0 x1 x2 x3 x4 x5) fun h j _ =>
    (∑ d ∈ range 64, (A h).K j d * ((A h).UK j d * (A h).GK d)) * (-(1 / 2) * (rs ((A h).K j) * rs ((A h).K j) * rs ((A h).K j))) / 64 := by
  intro h j d
  pointwise [val_main_v82, val_main_v81, val_main_v80, val_main_v78, val_main_v75, val_main_v79, val_main_v74, val_main_v73, val_main_v70, val_main_v69, val_main_v31, val_main_cst_14, val_main_cst_13, val_main_cst_12]
  simp only [Fin.sum_univ_one]
  rw [coe_sum_fin (fun d => (A h).K j d * ((A h).UK j d * (A h).GK d)) fun d => by rw [g.k, v64_is hT g, g.gk h, EReal.coe_mul, EReal.coe_mul], v28_is g, ofBits_64]
  simp only [ofBits_zero, zero_add]
  rw [← EReal.coe_mul, div_coe (by norm_num)]

theorem v86_is (g : Given x0 x1 x2 x5 x3 x4 A) : Is3 (val_main_v86 x0 x1 x2 x3 x4 x5) fun h => (A h).DK := by
  intro h j d
  pointwise [val_main_v86, val_main_v85, val_main_v84, val_main_v83, val_main_v77, val_main_v76, val_main_v70, val_main_v69, val_main_v31]
  rw [v64_is hT g, g.gk h, v25_is g, g.k, v82_is hT g]
  beta_reduce
  simp only [← EReal.coe_mul, ← EReal.coe_add]
  congr 1
  unfold Raw.DK dnorm
  rw [show ∑ e ∈ range 64, (A h).UK j e * (A h).GK e * (A h).K j e = ∑ e ∈ range 64, (A h).K j e * ((A h).UK j e * (A h).GK e) from
    sum_congr rfl fun e _ => mul_comm _ _]
  ring

theorem v105_is (g : Given x0 x1 x2 x5 x3 x4 A) : Is3 (val_main_v105 x0 x1 x2 x3 x4 x5) fun h i _ =>
    (∑ d ∈ range 64, (A h).Q i d * ((A h).UQ i d * (A h).GQ d)) * (-(1 / 2) * (rs ((A h).Q i) * rs ((A h).Q i) * rs ((A h).Q i))) / 64 := by
  intro h i d
  pointwise [val_main_v105, val_main_v104, val_main_v103, val_main_v101, val_main_v98, val_main_v102, val_main_v97, val_main_v96, val_main_v93, val_main_v92, val_main_v13, val_main_cst_18, val_main_cst_19, val_main_cst_20]
  simp only [Fin.sum_univ_one]
  rw [coe_sum_fin (fun d => (A h).Q i d * ((A h).UQ i d * (A h).GQ d)) fun d => by rw [g.q, v88_is hT g, g.gq h, EReal.coe_mul, EReal.coe_mul], v10_is g, ofBits_64]
  simp only [ofBits_zero, zero_add]
  rw [← EReal.coe_mul, div_coe (by norm_num)]

theorem v109_is (g : Given x0 x1 x2 x5 x3 x4 A) : Is3 (val_main_v109 x0 x1 x2 x3 x4 x5) fun h => (A h).DQ := by
  intro h i d
  pointwise [val_main_v109, val_main_v108, val_main_v107, val_main_v106, val_main_v100, val_main_v99, val_main_v93, val_main_v92, val_main_v13]
  rw [v88_is hT g, g.gq h, v7_is g, g.q, v105_is hT g]
  beta_reduce
  simp only [← EReal.coe_mul, ← EReal.coe_add]
  congr 1
  unfold Raw.DQ dnorm
  rw [show ∑ e ∈ range 64, (A h).UQ i e * (A h).GQ e * (A h).Q i e = ∑ e ∈ range 64, (A h).Q i e * ((A h).UQ i e * (A h).GQ e) from
    sum_congr rfl fun e _ => mul_comm _ _]
  ring

/-- The cotangent of the queries. -/
theorem ref_dq (g : Given x0 x1 x2 x5 x3 x4 A) : Is3 (val_main_v110 x0 x1 x2 x3 x4 x5) fun h => (A h).DQ := by
  intro h i d
  pointwise [val_main_v110]
  exact v109_is hT g h i d

/-- The cotangent of the keys. -/
theorem ref_dk (g : Given x0 x1 x2 x5 x3 x4 A) : Is3 (val_main_v111 x0 x1 x2 x3 x4 x5) fun h => (A h).DK := by
  intro h i d
  pointwise [val_main_v111]
  exact v86_is hT g h i d

/-- The cotangent of the values. -/
theorem ref_dv (g : Given x0 x1 x2 x5 x3 x4 A) : Is3 (val_main_v112 x0 x1 x3 x4 x5) fun h => (A h).DV := by
  intro h i d
  pointwise [val_main_v112]
  exact v52_is hT g h i d

theorem v67_at (g : Given x0 x1 x2 x5 x3 x4 A) (d : Fin 64) : val_main_v67 x0 x1 x2 x3 x4 x5 (ix1 d) =
    ((∑ h ∈ range 8, ∑ j ∈ range 4096, (A h).PK j d : ℝ) : EReal) := by
  unfold val_main_v67
  refine (sum01 reducesTo_S8x4096x64_S64_d0_1 _ _ d).trans ?_
  rw [show val_main_cst_10 (F := Ideal) _ = (0 : EReal) from ofBits_zero, zero_add]
  refine coe_sum_fin (fun h => ∑ j ∈ range 4096, (A h).PK j d) fun h => coe_sum_fin (fun j => (A h).PK j d) fun j => ?_
  pointwise [val_main_v66]
  rw [v30_is g, v64_is hT g, ← EReal.coe_mul, Raw.PK]
  congr 1
  ring

theorem v90_at (g : Given x0 x1 x2 x5 x3 x4 A) (d : Fin 64) : val_main_v90 x0 x1 x2 x3 x4 x5 (ix1 d) =
    ((∑ h ∈ range 8, ∑ i ∈ range 4096, (A h).PQ i d : ℝ) : EReal) := by
  unfold val_main_v90
  refine (sum01 reducesTo_S8x4096x64_S64_d0_1 _ _ d).trans ?_
  rw [show val_main_cst_16 (F := Ideal) _ = (0 : EReal) from ofBits_zero, zero_add]
  refine coe_sum_fin (fun h => ∑ j ∈ range 4096, (A h).PQ j d) fun h => coe_sum_fin (fun j => (A h).PQ j d) fun j => ?_
  pointwise [val_main_v89]
  rw [v12_is g, v88_is hT g, ← EReal.coe_mul, Raw.PQ]
  congr 1
  ring

/-- The cotangent of the keys' gain. -/
theorem ref_dgk (g : Given x0 x1 x2 x5 x3 x4 A) : Is2 (val_main_v72 x0 x1 x2 x3 x4 x5) fun _ d => ∑ h ∈ range 8, ∑ j ∈ range 4096, (A h).PK j d := by
  intro u d
  pointwise [val_main_v72, val_main_v71]
  refine (sum01 reducesTo_S1x1x64_S64_d0_1 _ _ d).trans ?_
  rw [show val_main_cst_11 (F := Ideal) _ = (0 : EReal) from ofBits_zero, zero_add]
  simp only [Fin.sum_univ_one]
  pointwise [val_main_v68]
  exact v67_at hT g d

/-- The cotangent of the queries' gain. -/
theorem ref_dgq (g : Given x0 x1 x2 x5 x3 x4 A) : Is2 (val_main_v95 x0 x1 x2 x3 x4 x5) fun _ d => ∑ h ∈ range 8, ∑ j ∈ range 4096, (A h).PQ j d := by
  intro u d
  pointwise [val_main_v95, val_main_v94]
  refine (sum01 reducesTo_S1x1x64_S64_d0_1 _ _ d).trans ?_
  rw [show val_main_cst_17 (F := Ideal) _ = (0 : EReal) from ofBits_zero, zero_add]
  simp only [Fin.sum_univ_one]
  pointwise [val_main_v91]
  exact v90_at hT g d

end Results

end Cert.Attn
-- ==== Proof.Finite.lean ====
module

public import proofs.«01_k».proof.Defs
public import proofs.«01_k».proof.Proof.Gen.Pre_finite
public import proofs.«01_k».proof.Proof.Ref

@[expose] public section

/-!
# Arguments without infinities

The claims are made of arguments whose entries are all finite. Such an array is an array of real numbers.
-/

set_option maxHeartbeats 1000000

noncomputable section

namespace Cert.Attn

open Idealize.ShloMosaic Idealize.ShloMosaic.TcCoe Finset

/-- A number whose absolute value is below infinity is real. -/
theorem real_of_lt {x : EReal} (h : Ideal.cmp .olt (max x (-x)) (Ideal.ofBits .f32 0x7F800000#32) = 1#1) : ((x.toReal : ℝ) : EReal) = x := by
  rw [ofBits_top] at h
  have hlt : max x (-x) < ⊤ := by
    unfold Ideal.cmp at h
    by_contra hc
    simp [hc] at h
  refine EReal.coe_toReal ?_ ?_
  · rintro rfl
    simp at hlt
  · rintro rfl
    simp at hlt

/-- The real numbers of an array of rank three; `0` outside of it. -/
def arr3 {l m n : ℕ} (x : Shape.Idx ⟨3, ![l, m, n]⟩ → EReal) (a b c : ℕ) : ℝ :=
  if h : a < l ∧ b < m ∧ c < n then (x (ix3 ⟨a, h.1⟩ ⟨b, h.2.1⟩ ⟨c, h.2.2⟩)).toReal else 0

/-- The real numbers of the row of an array of one row; `0` outside of it. -/
def arr1 {n : ℕ} (x : Shape.Idx ⟨2, ![1, n]⟩ → EReal) (c : ℕ) : ℝ := if h : c < n then (x (ix2 0 ⟨c, h⟩)).toReal else 0

theorem arr3_is {l m n : ℕ} {x : Shape.Idx ⟨3, ![l, m, n]⟩ → EReal} (h : ∀ i, ((x i).toReal : EReal) = x i) : Is3 x (arr3 x) := fun a b c => by
  unfold arr3
  rw [dif_pos ⟨a.isLt, b.isLt, c.isLt⟩]
  exact (h _).symm

theorem arr1_is {n : ℕ} {x : Shape.Idx ⟨2, ![1, n]⟩ → EReal} (h : ∀ i, ((x i).toReal : EReal) = x i) : Is2 x fun _ => arr1 x := fun a c => by
  obtain rfl : a = 0 := Subsingleton.elim _ _
  unfold arr1
  beta_reduce
  rw [dif_pos c.isLt]
  exact (h _).symm

section Inputs

variable (x0 x1 x2 : Shape.Idx ⟨3, ![8, 4096, 64]⟩ → EReal) (x3 x4 : Shape.Idx ⟨2, ![1, 64]⟩ → EReal) (x5 : Shape.Idx ⟨3, ![8, 4096, 64]⟩ → EReal)

/-- The heads that the arguments hold, with totals `T`. -/
def headsWith (T : ℕ → ℕ → ℝ) (h : ℕ) : Raw :=
  ⟨arr3 x0 h, arr3 x1 h, arr3 x2 h, arr3 x5 h, T h, arr1 x3, arr1 x4⟩

/-- The heads that the arguments hold, with the totals of their logits. -/
def heads : ℕ → Raw := headsWith x0 x1 x2 x3 x4 x5 fun h => (headsWith x0 x1 x2 x3 x4 x5 (fun _ _ => 0) h).tot

theorem heads_tot (h i : ℕ) : (heads x0 x1 x2 x3 x4 x5 h).T i = (heads x0 x1 x2 x3 x4 x5 h).tot i := rfl

variable {x0 x1 x2 x3 x4 x5}

/-- Arguments without infinities are the real numbers of their heads. -/
theorem heads_given (h : (Cert.Pre_finite.fn (F := Ideal) x0 x1 x2 x3 x4 x5).1 = (fun _ => 1#1)
    ∧ (Cert.Pre_finite.fn (F := Ideal) x0 x1 x2 x3 x4 x5).2.1 = (fun _ => 1#1)
    ∧ (Cert.Pre_finite.fn (F := Ideal) x0 x1 x2 x3 x4 x5).2.2.1 = (fun _ => 1#1)
    ∧ (Cert.Pre_finite.fn (F := Ideal) x0 x1 x2 x3 x4 x5).2.2.2.1 = (fun _ => 1#1)
    ∧ (Cert.Pre_finite.fn (F := Ideal) x0 x1 x2 x3 x4 x5).2.2.2.2.1 = (fun _ => 1#1)
    ∧ (Cert.Pre_finite.fn (F := Ideal) x0 x1 x2 x3 x4 x5).2.2.2.2.2 = (fun _ => 1#1)) :
    Given x0 x1 x2 x5 x3 x4 (heads x0 x1 x2 x3 x4 x5) where
  q := arr3_is fun i => real_of_lt (congrFun h.1 i)
  k := arr3_is fun i => real_of_lt (congrFun h.2.1 i)
  v := arr3_is fun i => real_of_lt (congrFun h.2.2.1 i)
  dO := arr3_is fun i => real_of_lt (congrFun h.2.2.2.2.2 i)
  gq := fun _ => arr1_is fun i => real_of_lt (congrFun h.2.2.2.1 i)
  gk := fun _ => arr1_is fun i => real_of_lt (congrFun h.2.2.2.2.1 i)

end Inputs

end Cert.Attn
-- ==== Proof.Sem.lean ====
module

public import proofs.«01_k».proof.Proof.Norm

@[expose] public section

/-!
# What one block of queries computes

The carried values after the diagonal and the two scratch arrays, over the real numbers: `RD_is`, `L16_is`, `L17_is`.
-/

set_option maxRecDepth 16384

namespace Cert.Attn

open Idealize.ShloMosaic Cert.KernelIdeal Cert.KernelIdeal.Gen Finset

theorem off5_eq : ∀ i : grid0.Coords, k0_off5 i = ![0, 512 * (i 1).val, 0] := by decide +kernel

theorem off6_eq : ∀ i : grid0.Coords, k0_off6 i = ![1, 512 * (i 1).val, 0] := by decide +kernel

theorem trips2_eq : ∀ i : grid0.Coords, (k0_t2_loop i).trips = 0 := by decide +kernel

/-- One store of 512 rows of one head. -/
theorem holds_one {a : Memref sig .tc .vmem S2x4096x64 .f32} {X : BufTy.Contents (Elt Ideal) a.view.ty}
    {f : ℕ → ℕ → ℕ → ℝ} {g : ℕ → ℕ → ℝ} {L : List (View.Piece (Elt Ideal) S2x4096x64 .f32)}
    (hX : Holds a (a.view.writes (Elt Ideal) X L) f) {off : Fin 3 → ℕ}
    (h : ∀ x, off x + S1x512x64.size x ≤ S2x4096x64.size x) {e0 r : ℕ} (ho : off = ![e0, r, 0]) {w : FVec Ideal S1x512x64 .f32}
    (hw : Is3 w fun _ j d => g j d) :
    Holds a (a.view.writes (Elt Ideal) X (⟨Rect.unit (s := S2x4096x64) off S1x512x64.size h, w⟩ :: L))
      fun e j d => if e = e0 ∧ r ≤ j ∧ j < r + 512 then g (j - r) d else f e j d := by
  intro e j d
  have he : e0 + 1 ≤ 2 := by have := h 0; rw [ho] at this; exact this
  have hr : r + 512 ≤ 4096 := by have := h 1; rw [ho] at this; exact this
  by_cases hj : e.val = e0 ∧ r ≤ j.val ∧ j.val < r + 512
  · refine (View.read_writes_cons_unit_of_mem a.view X h w L (ix3 e j d) (ix3 0 ⟨j.val - r, by omega⟩ d) ho ?_).trans ?_
    · intro y
      match y with
      | ⟨0, _⟩ => show e.val = e0 + 0; omega
      | ⟨1, _⟩ => show j.val = r + (j.val - r); omega
      | ⟨2, _⟩ => show d.val = 0 + d.val; omega
    · rw [hw]; simp only [if_pos hj]
  · simp only [if_neg hj]
    by_cases hx : e.val = e0
    · refine (View.read_writes_cons_unit_of_not_mem a.view X h w L (ix3 e j d) ho 1 ?_).trans (hX e j d)
      show j.val < r ∨ r + 512 ≤ j.val; omega
    · refine (View.read_writes_cons_unit_of_not_mem a.view X h w L (ix3 e j d) ho 0 ?_).trans (hX e j d)
      show e.val < e0 ∨ e0 + 1 ≤ e.val; omega

/-- `F` with `G` added on 512 rows of one head. -/
noncomputable def upd (F G : ℕ → ℕ → ℕ → ℝ) (q0 e0 : ℕ) : ℕ → ℕ → ℕ → ℝ := fun e j d =>
  if e = e0 ∧ q0 ≤ j ∧ j < q0 + 512 then F e0 (q0 + (j - q0)) d + G e0 (q0 + (j - q0)) d else F e j d

theorem upd_upd (B G : ℕ → ℕ → ℕ → ℝ) (q0 : ℕ) (hz : ∀ e j d, q0 + 512 ≤ j → G e j d = 0) {e : ℕ} (he : e < 2) (j d : ℕ) :
    upd (upd (fun e j d => if j < q0 then B e j d + G e j d else B e j d) G q0 0) G q0 1 e j d = B e j d + G e j d := by
  have hs : q0 ≤ j → q0 + (j - q0) = j := fun hj => by omega
  have : e = 0 ∨ e = 1 := by omega
  unfold upd
  beta_reduce
  by_cases h1 : j < q0
  · rw [if_neg (by omega), if_neg (by omega), if_pos h1]
  · by_cases h2 : j < q0 + 512
    · rcases this with rfl | rfl
      · rw [if_neg (by omega), if_pos (by omega), hs (by omega), if_neg h1]
      · rw [if_pos (by omega), if_neg (by omega), hs (by omega), if_neg h1]
    · rw [if_neg (by omega), if_neg (by omega), if_neg h1, hz e j d (by omega), add_zero]

section Sem

variable (c : Dev nD) (i : grid0.Coords) (arg2 : Memref sig .tc .vmem S2x512x64 .f32)
  (harg2 : arg2.IsWhole) (arg3 : Memref sig .tc .vmem S2x4096x64 .f32) (harg3 : arg3.IsWhole)
  (arg4 : Memref sig .tc .vmem S2x4096x64 .f32) (harg4 : arg4.IsWhole) (arg5 : Memref sig .tc .vmem S1x64 .f32)
  (harg5 : arg5.IsWhole) (arg6 : Memref sig .tc .vmem S1x64 .f32) (harg6 : arg6.IsWhole)
  (arg7 : Memref sig .tc .vmem S2x512x128 .f32) (harg7 : arg7.IsWhole) (arg8 : Memref sig .tc .vmem S2x512x64 .f32)
  (harg8 : arg8.IsWhole) (arg9 : Memref sig .tc .vmem S2x512x64 .bf16) (harg9 : arg9.IsWhole)
  (arg10 : Memref sig .tc .vmem S2x4096x64 .bf16) (harg10 : arg10.IsWhole)
  (arg11 : Memref sig .tc .vmem S2x4096x64 .bf16) (harg11 : arg11.IsWhole) (arg12 : Memref sig .tc .vmem S1x64 .f32)
  (harg12 : arg12.IsWhole) (arg13 : Memref sig .tc .vmem S1x64 .f32) (harg13 : arg13.IsWhole)
  (arg14 : Memref sig .tc .vmem S2x4096x64 .bf16) (harg14 : arg14.IsWhole)
  (arg15 : Memref sig .tc .vmem S2x4096x64 .bf16) (harg15 : arg15.IsWhole)
  (arg16 : Memref sig .tc .vmem S2x4096x64 .f32) (harg16 : arg16.IsWhole)
  (arg17 : Memref sig .tc .vmem S2x4096x64 .f32) (harg17 : arg17.IsWhole)
  (X14 : BufTy.Contents (Elt Ideal) arg14.view.ty) (X15 : BufTy.Contents (Elt Ideal) arg15.view.ty)
  (g16 f16 : BufTy.Contents (Elt Ideal) arg16.view.ty) (A16 : List (View.Piece (Elt Ideal) S2x4096x64 .f32) → List (View.Piece (Elt Ideal) S2x4096x64 .f32))
  (g17 f17 : BufTy.Contents (Elt Ideal) arg17.view.ty) (A17 : List (View.Piece (Elt Ideal) S2x4096x64 .f32) → List (View.Piece (Elt Ideal) S2x4096x64 .f32))
  (xa xb : Vec Ideal S1x512x64 .f32) (g : Vec Ideal S1x64 .f32) (da db : Vec Ideal S1x512x64 .f32) (oa ob : Vec Ideal S1x512x128 .f32)
  {A : ℕ → Raw} {B16 B17 : ℕ → ℕ → ℕ → ℝ}
  (hxa : Is3 (l := 1) (m := 512) (n := 64) xa fun _ r d => (A 0).Q (512 * (i 1).val + r) d) (hxb : Is3 (l := 1) (m := 512) (n := 64) xb fun _ r d => (A 1).Q (512 * (i 1).val + r) d)
  (hg0 : Is2 (m := 1) (n := 64) g fun _ => (A 0).GQ) (hg1 : Is2 (m := 1) (n := 64) g fun _ => (A 1).GQ)
  (hda : Is3 (l := 1) (m := 512) (n := 64) da fun _ r d => (A 0).DO (512 * (i 1).val + r) d) (hdb : Is3 (l := 1) (m := 512) (n := 64) db fun _ r d => (A 1).DO (512 * (i 1).val + r) d)
  (hoa : ∀ r : Fin 512, oa (ix3 0 r 64) = (((A 0).T (512 * (i 1).val + r.val) : ℝ) : EReal))
  (hob : ∀ r : Fin 512, ob (ix3 0 r 64) = (((A 1).T (512 * (i 1).val + r.val) : ℝ) : EReal))
  (hk : HoldsB arg14 X14 fun e => (A e).head.KN) (hv : HoldsB arg15 X15 fun e => (A e).head.V)
  (h16 : Holds arg16 g16 B16) (h17 : Holds arg17 g17 B17)
  (hA16 : ∀ L, arg16.view.writes (Elt Ideal) f16 (A16 L) = arg16.view.writes (Elt Ideal) g16 L)
  (hA17 : ∀ L, arg17.view.writes (Elt Ideal) f17 (A17 L) = arg17.view.writes (Elt Ideal) g17 L)

include hxa hxb hg0 hg1 hda hdb hoa hob in
theorem queries_is : Queries (fun e => (A e).head) (512 * (i 1).val) (k0_pay136 xa g) (k0_pay137 (k0_pay133 xb) (k0_pay135 xb) g)
    (k0_pay140 oa) (k0_pay141 ob) (k0_pay138 da) (k0_pay139 db) where
  qa := pay136_is hxa hg0
  qb := pay137_is (pay133_is hxb) (pay135_is hxb) hg1
  Ta := pay140_is hoa
  Tb := pay141_is hob
  da := pay138_is hda
  db := pay139_is hdb

theorem init_is (H : ℕ → Head) (q0 : ℕ) : Carried H q0 0 (k0_pay143, k0_pay144, k0_pay145, k0_pay143, k0_pay144, k0_pay145) where
  c0 := by simpa using pay143_is
  e0 := by simpa using pay144_is
  d0 := by simpa using pay145_is
  c1 := by simpa using pay143_is
  e1 := by simpa using pay144_is
  d1 := by simpa using pay145_is

include hxa hxb hg0 hg1 hda hdb hoa hob hk hv h16 h17 in
theorem R1_is : Carried (fun e => (A e).head) (512 * (i 1).val) (512 * (i 1).val) (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1 ∧
    Holds arg16 (arg16.view.writes (Elt Ideal) g16 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.1)
      (fun e j d => if j < 512 * (i 1).val then B16 e j d + gK (fun e => (A e).head) (512 * (i 1).val) e j d else B16 e j d) ∧
    Holds arg17 (arg17.view.writes (Elt Ideal) g17 (R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).2.2)
      (fun e j d => if j < 512 * (i 1).val then B17 e j d + gV (fun e => (A e).head) (512 * (i 1).val) e j d else B17 e j d) := by
  have h := st_is Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 1)) (k0_pay133 xb) (k0_pay135 xb) (k0_pay136 xa g) g da db oa ob X14 X15 g16 g17
    _ (queries_is i xa xb g da db oa ob hxa hxb hg0 hg1 hda hdb hoa hob) hk hv h16 h17 (init_is (fun e => (A e).head) _) (i 1).val le_rfl
  have e : Scf.trips (k0_t1_loop i).lb (k0_t1_loop i).ub (k0_t1_loop i).st = (i 1).val := trips_eq i
  unfold R1
  rw [e]
  exact h

theorem R2_eq : R2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob = ((R1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob).1, [], []) := by
  have e : Scf.trips (k0_t2_loop i).lb (k0_t2_loop i).ub (k0_t2_loop i).st = 0 := trips2_eq i
  unfold R2
  rw [e]
  rfl

include hxa hxb hg0 hg1 hda hdb hoa hob hk hv h16 h17 in
theorem RD_is : Carried (fun e => (A e).head) (512 * (i 1).val) (512 * (i 1).val + 512) (RD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob) := by
  unfold RD
  rw [R2_eq]
  exact stepR_is (masks_diag _) (queries_is i xa xb g da db oa ob hxa hxb hg0 hg1 hda hdb hoa hob)
    ⟨rowsB_is hk _ (off5_eq i), rowsB_is hk _ (off6_eq i), rowsB_is hv _ (off5_eq i), rowsB_is hv _ (off6_eq i)⟩
    (R1_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob hxa hxb hg0 hg1 hda hdb hoa hob hk hv h16 h17).1

include hxa hxb hg0 hg1 hda hdb hoa hob hk hv h16 h17 hA16 in
theorem L16_is : Holds arg16 (arg16.view.writes (Elt Ideal) f16 (L16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob))
    (fun e j d => B16 e j d + gK (fun e => (A e).head) (512 * (i 1).val) e j d) := by
  have hq := queries_is i xa xb g da db oa ob hxa hxb hg0 hg1 hda hdb hoa hob
  obtain ⟨hc, i16, -⟩ := R1_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob hxa hxb hg0 hg1 hda hdb hoa hob hk hv h16 h17
  have hK : Keys (fun e => (A e).head) (512 * (i 1).val) (rows arg14 X14 (k0_off5 i) (k0_off5_inb i)) (rows arg14 X14 (k0_off6 i) (k0_off6_inb i))
      (rows arg15 X15 (k0_off5 i) (k0_off5_inb i)) (rows arg15 X15 (k0_off6 i) (k0_off6_inb i)) :=
    ⟨rowsB_is hk _ (off5_eq i), rowsB_is hk _ (off6_eq i), rowsB_is hv _ (off5_eq i), rowsB_is hv _ (off6_eq i)⟩
  rw [← hA16] at i16
  have hM : Holds arg16 (arg16.view.writes (Elt Ideal) f16 (M16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob)) (upd (fun e j d => if j < 512 * (i 1).val then B16 e j d + gK (fun e => (A e).head) (512 * (i 1).val) e j d else B16 e j d) (gK (fun e => (A e).head) (512 * (i 1).val)) (512 * (i 1).val) 0) := by
    unfold M16
    rw [R2_eq]
    exact holds_one (g := fun j d => (fun e j d => if j < 512 * (i 1).val then B16 e j d + gK (fun e => (A e).head) (512 * (i 1).val) e j d else B16 e j d) 0 (512 * (i 1).val + j) d + gK (fun e => (A e).head) (512 * (i 1).val) 0 (512 * (i 1).val + j) d) i16 _ (off5_eq i) (bDK_is (H := (A 0).head) (masks_diag _) hq.qa hK.ka hq.Ta hc.c0 hc.e0 hq.da hK.va (rows_is i16 _ (off5_eq i)))
  have hL : Holds arg16 (arg16.view.writes (Elt Ideal) f16 (L16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob)) (upd (upd (fun e j d => if j < 512 * (i 1).val then B16 e j d + gK (fun e => (A e).head) (512 * (i 1).val) e j d else B16 e j d) (gK (fun e => (A e).head) (512 * (i 1).val)) (512 * (i 1).val) 0) (gK (fun e => (A e).head) (512 * (i 1).val)) (512 * (i 1).val) 1) := by
    unfold L16
    rw [R2_eq]
    exact holds_one hM _ (off6_eq i) (bDK_is (H := (A 1).head) (masks_diag _) hq.qb hK.kb hq.Tb hc.c1 hc.e1 hq.db hK.vb (rows_is hM _ (off6_eq i)))
  intro e j d
  refine (hL e j d).trans (congrArg _ ?_)
  exact upd_upd _ _ _ (fun e j d hj => sum_eq_zero fun x hx => by rw [Head.DZ_of_le _ (by have := mem_range.mp hx; omega), zero_mul]) e.isLt _ _

include hxa hxb hg0 hg1 hda hdb hoa hob hk hv h16 h17 hA17 in
theorem L17_is : Holds arg17 (arg17.view.writes (Elt Ideal) f17 (L17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob))
    (fun e j d => B17 e j d + gV (fun e => (A e).head) (512 * (i 1).val) e j d) := by
  have hq := queries_is i xa xb g da db oa ob hxa hxb hg0 hg1 hda hdb hoa hob
  obtain ⟨hc, -, i17⟩ := R1_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 g17 xa xb g da db oa ob hxa hxb hg0 hg1 hda hdb hoa hob hk hv h16 h17
  have hK : Keys (fun e => (A e).head) (512 * (i 1).val) (rows arg14 X14 (k0_off5 i) (k0_off5_inb i)) (rows arg14 X14 (k0_off6 i) (k0_off6_inb i))
      (rows arg15 X15 (k0_off5 i) (k0_off5_inb i)) (rows arg15 X15 (k0_off6 i) (k0_off6_inb i)) :=
    ⟨rowsB_is hk _ (off5_eq i), rowsB_is hk _ (off6_eq i), rowsB_is hv _ (off5_eq i), rowsB_is hv _ (off6_eq i)⟩
  rw [← hA17] at i17
  have hM : Holds arg17 (arg17.view.writes (Elt Ideal) f17 (M17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob)) (upd (fun e j d => if j < 512 * (i 1).val then B17 e j d + gV (fun e => (A e).head) (512 * (i 1).val) e j d else B17 e j d) (gV (fun e => (A e).head) (512 * (i 1).val)) (512 * (i 1).val) 0) := by
    unfold M17
    rw [R2_eq]
    exact holds_one (g := fun j d => (fun e j d => if j < 512 * (i 1).val then B17 e j d + gV (fun e => (A e).head) (512 * (i 1).val) e j d else B17 e j d) 0 (512 * (i 1).val + j) d + gV (fun e => (A e).head) (512 * (i 1).val) 0 (512 * (i 1).val + j) d) i17 _ (off5_eq i) (bDV_is (H := (A 0).head) (masks_diag _) hq.qa hK.ka hq.Ta hc.c0 hq.da (rows_is i17 _ (off5_eq i)))
  have hL : Holds arg17 (arg17.view.writes (Elt Ideal) f17 (L17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X14 X15 g16 f16 A16 g17 f17 A17 xa xb g da db oa ob)) (upd (upd (fun e j d => if j < 512 * (i 1).val then B17 e j d + gV (fun e => (A e).head) (512 * (i 1).val) e j d else B17 e j d) (gV (fun e => (A e).head) (512 * (i 1).val)) (512 * (i 1).val) 0) (gV (fun e => (A e).head) (512 * (i 1).val)) (512 * (i 1).val) 1) := by
    unfold L17
    rw [R2_eq]
    exact holds_one hM _ (off6_eq i) (bDV_is (H := (A 1).head) (masks_diag _) hq.qb hK.kb hq.Tb hc.c1 hq.db (rows_is hM _ (off6_eq i)))
  intro e j d
  refine (hL e j d).trans (congrArg _ ?_)
  exact upd_upd _ _ _ (fun e j d hj => sum_eq_zero fun x hx => by rw [Head.W_of_le _ (by have := mem_range.mp hx; omega), zero_mul]) e.isLt _ _

end Sem

end Cert.Attn
-- ==== Proof.Store.lean ====
module

public import proofs.«01_k».proof.Proof.Sem
public import proofs.«01_k».proof.Proof.Gen.KernelIdeal.Frame

@[expose] public section

/-!
# What one block of queries stores

The loads of a point's blocks and the arrays its stores leave, as real numbers: `dq_is` the cotangent of the queries,
`dgq_is` what the point adds to the cotangent of the queries' gain, `dk_is`, `dv_is`, `dgk_is` what a pair of heads'
last point stores.
-/

set_option maxRecDepth 16384

namespace Cert.Attn

open Idealize.ShloMosaic Cert.KernelIdeal Cert.KernelIdeal.Gen Finset

/-- One head's rows, loaded from an array that holds both heads. -/
theorem load_at {n k : ℕ} (a : Memref sig .tc .vmem ⟨3, ![2, n, k]⟩ .f32) (X : BufTy.Contents (Elt Ideal) a.view.ty)
    (e : ℕ) (he : e < 2)
    (h : ∀ x : Fin 3, (![e, 0, 0] : Fin 3 → ℕ) x + (![1, n, k] : Fin 3 → ℕ) x ≤ (![2, n, k] : Fin 3 → ℕ) x)
    (x : Fin 1) (j : Fin n) (d : Fin k) :
    View.readAt (Elt Ideal) a.view (Rect.unit (s := ⟨3, ![2, n, k]⟩) ![e, 0, 0] ![1, n, k] h).toLoadRect X
      (ix3 (n0 := 1) (n1 := n) (n2 := k) x j d) = a.view.read (Elt Ideal) X (ix3 ⟨e, he⟩ j d) := by
  refine congrArg (a.view.read (Elt Ideal) X) (funext fun y => Fin.ext ?_)
  have hx := x.isLt
  match y with
  | ⟨0, _⟩ => show e + 1 * x.val = e; omega
  | ⟨1, _⟩ => show 0 + 1 * j.val = j.val; omega
  | ⟨2, _⟩ => show 0 + 1 * d.val = d.val; omega

theorem load_held {n k : ℕ} (a : Memref sig .tc .vmem ⟨3, ![2, n, k]⟩ .f32) {X : BufTy.Contents (Elt Ideal) a.view.ty}
    {f : ℕ → ℕ → ℕ → ℝ} (hX : Holds a X f) (e : ℕ) (he : e < 2)
    (h : ∀ x : Fin 3, (![e, 0, 0] : Fin 3 → ℕ) x + (![1, n, k] : Fin 3 → ℕ) x ≤ (![2, n, k] : Fin 3 → ℕ) x) :
    Is3 (l := 1) (m := n) (n := k)
      (View.readAt (Elt Ideal) a.view (Rect.unit (s := ⟨3, ![2, n, k]⟩) ![e, 0, 0] ![1, n, k] h).toLoadRect X)
      fun _ j d => f e j d :=
  fun x j d => (load_at a X e he h x j d).trans (hX ⟨e, he⟩ j d)

theorem held {l n k : ℕ} (a : Memref sig .tc .vmem ⟨3, ![l, n, k]⟩ .f32) (ha : a.IsWhole)
    {x : Vec Ideal ⟨3, ![l, n, k]⟩ .f32} {f : ℕ → ℕ → ℕ → ℝ} (hx : Is3 x f) : Holds a (ha.unread x) f := by
  unfold Holds
  rw [ha.read_unread]
  exact hx

theorem heldB {l n k : ℕ} (a : Memref sig .tc .vmem ⟨3, ![l, n, k]⟩ .bf16) (ha : a.IsWhole)
    {x : Vec Ideal ⟨3, ![l, n, k]⟩ .bf16} {f : ℕ → ℕ → ℕ → ℝ} (hx : Is3 x f) : HoldsB a (ha.unread x) f := by
  unfold HoldsB
  rw [ha.read_unread]
  exact hx

/-- The one row of an array of shape `1 × 64`, loaded. -/
theorem row_load (a : Memref sig .tc .vmem S1x64 .f32) (ha : a.IsWhole) {x : Vec Ideal S1x64 .f32} {f : ℕ → ℕ → ℝ}
    (hx : Is2 (m := 1) (n := 64) x f) (h : ∀ y, (![0, 0] : Fin 2 → ℕ) y + S1x64.size y ≤ S1x64.size y) :
    Is2 (m := 1) (n := 64) (View.readAt (Elt Ideal) a.view (Rect.unit (s := S1x64) ![0, 0] S1x64.size h).toLoadRect (ha.unread x)) f := by
  intro r d
  refine Eq.trans ?_ (hx r d)
  refine Eq.trans (congrFun (ha.read_unread x) _) (congrArg x (funext fun y => Fin.ext ?_))
  match y with
  | ⟨0, _⟩ => show 0 + 1 * r.val = r.val; omega
  | ⟨1, _⟩ => show 0 + 1 * d.val = d.val; omega

/-- Two heads stored one after the other. -/
theorem two_is {n : ℕ} {κ : Kind} {sp : Space} (v : View sig κ sp ⟨3, ![2, n, 64]⟩ .bf16) (f : v.ty.Contents (Elt Ideal))
    {w1 w0 : Vec Ideal ⟨3, ![1, n, 64]⟩ .bf16} {g : ℕ → ℕ → ℕ → ℝ} (h1 : Is3 w1 fun _ => g 1) (h0 : Is3 w0 fun _ => g 0)
    (i1 : ∀ x : Fin 3, (![1, 0, 0] : Fin 3 → ℕ) x + (![1, n, 64] : Fin 3 → ℕ) x ≤ (![2, n, 64] : Fin 3 → ℕ) x)
    (i0 : ∀ x : Fin 3, (![0, 0, 0] : Fin 3 → ℕ) x + (![1, n, 64] : Fin 3 → ℕ) x ≤ (![2, n, 64] : Fin 3 → ℕ) x) :
    Is3 (v.read (Elt Ideal) (v.writes (Elt Ideal) f
      [⟨Rect.unit (s := ⟨3, ![2, n, 64]⟩) ![1, 0, 0] ![1, n, 64] i1, w1⟩,
        ⟨Rect.unit (s := ⟨3, ![2, n, 64]⟩) ![0, 0, 0] ![1, n, 64] i0, w0⟩])) g := by
  intro e j d
  match e with
  | ⟨0, _⟩ =>
    refine Eq.trans (View.read_writes_cons_unit_of_not_mem v f i1 w1 _ _ rfl (0 : Fin 3) (Or.inl Nat.zero_lt_one)) ?_
    refine Eq.trans (View.read_writes_cons_unit_of_mem v f i0 w0 [] _ (ix3 (n0 := 1) (n1 := n) (n2 := 64) 0 j d) rfl ?_) (h0 _ _ _)
    intro a
    match a with
    | ⟨0, _⟩ => rfl
    | ⟨1, _⟩ => show j.val = 0 + j.val; omega
    | ⟨2, _⟩ => show d.val = 0 + d.val; omega
  | ⟨1, _⟩ =>
    refine Eq.trans (View.read_writes_cons_unit_of_mem v f i1 w1 _ _ (ix3 (n0 := 1) (n1 := n) (n2 := 64) 0 j d) rfl ?_) (h1 _ _ _)
    intro a
    match a with
    | ⟨0, _⟩ => rfl
    | ⟨1, _⟩ => show j.val = 0 + j.val; omega
    | ⟨2, _⟩ => show d.val = 0 + d.val; omega

/-- A whole row stored. -/
theorem row_is {κ : Kind} {sp : Space} (v : View sig κ sp S1x64 .f32) (f : v.ty.Contents (Elt Ideal))
    {w : Vec Ideal S1x64 .f32} {g : ℕ → ℕ → ℝ} (hw : Is2 (m := 1) (n := 64) w g)
    (h : ∀ y, (![0, 0] : Fin 2 → ℕ) y + S1x64.size y ≤ S1x64.size y) (L : List (View.Piece (Elt Ideal) S1x64 .f32)) :
    Is2 (m := 1) (n := 64) (v.read (Elt Ideal) (v.writes (Elt Ideal) f (⟨Rect.unit (s := S1x64) ![0, 0] S1x64.size h, w⟩ :: L))) g := by
  intro r d
  refine Eq.trans (View.read_writes_cons_unit_of_mem v f h w L _ (ix2 r d) rfl ?_) (hw r d)
  intro a
  match a with
  | ⟨0, _⟩ => show r.val = 0 + r.val; omega
  | ⟨1, _⟩ => show d.val = 0 + d.val; omega

/-- A whole array of both heads stored. -/
theorem whole_is (a : Memref sig .tc .vmem S2x4096x64 .f32) (f : BufTy.Contents (Elt Ideal) a.view.ty)
    {w : Vec Ideal S2x4096x64 .f32} {g : ℕ → ℕ → ℕ → ℝ} (hw : Is3 (l := 2) (m := 4096) (n := 64) w g)
    (h : ∀ y, (![0, 0, 0] : Fin 3 → ℕ) y + S2x4096x64.size y ≤ S2x4096x64.size y) :
    Holds a (a.view.writes (Elt Ideal) f [⟨Rect.unit (s := S2x4096x64) ![0, 0, 0] S2x4096x64.size h, w⟩]) g := by
  intro e j d
  refine Eq.trans (View.read_writes_cons_unit_of_mem a.view f h w [] _ (ix3 e j d) rfl ?_) (hw e j d)
  intro a
  match a with
  | ⟨0, _⟩ => show e.val = 0 + e.val; omega
  | ⟨1, _⟩ => show j.val = 0 + j.val; omega
  | ⟨2, _⟩ => show d.val = 0 + d.val; omega

section Queries

variable {A : ℕ → Raw} {q0 : ℕ} (hq0 : q0 + 512 ≤ 4096) {R : Carry} (hR : Carried (fun e => (A e).head) q0 (q0 + 512) R)
  {xa xb : Vec Ideal S1x512x64 .f32} {g : Vec Ideal S1x64 .f32}
  (hxa : Is3 (l := 1) (m := 512) (n := 64) xa fun _ r d => (A 0).Q (q0 + r) d)
  (hxb : Is3 (l := 1) (m := 512) (n := 64) xb fun _ r d => (A 1).Q (q0 + r) d)

/-- The keys after a query add nothing to its cotangent. -/
theorem sum_keys (H : Head) (q0 r d : ℕ) (hq : q0 + 512 ≤ 4096) (hr : r < 512) :
    ∑ s ∈ range (q0 + 512), H.DZ (q0 + r) s * H.KN s d = ∑ s ∈ range 4096, H.DZ (q0 + r) s * H.KN s d := by
  refine sum_subset (range_mono hq) fun s _ hs => ?_
  rw [mem_range] at hs
  rw [H.DZ_of_le (by omega), zero_mul]

include hq0 hR in
theorem uq0_is : Is2 R.2.2.1 fun r d => ∑ s ∈ range 4096, (A 0).head.DZ (q0 + r) s * (A 0).head.KN s d :=
  fun r d => (hR.d0 r d).trans (congrArg _ (sum_keys (A 0).head q0 r.val d.val hq0 r.isLt))

include hq0 hR in
theorem uq1_is : Is2 R.2.2.2.2.2 fun r d => ∑ s ∈ range 4096, (A 1).head.DZ (q0 + r) s * (A 1).head.KN s d :=
  fun r d => (hR.d1 r d).trans (congrArg _ (sum_keys (A 1).head q0 r.val d.val hq0 r.isLt))

include hq0 hR hxa hxb in
/-- The block of the cotangent of the queries. -/
theorem dq_is (hg : ∀ e, Is2 (m := 1) (n := 64) g fun _ => (A e).GQ) (f : VO0_7.ty.Contents (Elt Ideal)) :
    Is3 (l := 2) (m := 512) (n := 64) (VO0_7.read (Elt Ideal) (VO0_7.writes (Elt Ideal) f
      [⟨Rect.unit (s := S2x512x64) ![1, 0, 0] S1x512x64.size inb_S2x512x64_S1x512x64_1_0_0,
          k0_pay1 (k0_pay133 xb) (k0_pay135 xb) (k0_pay185 R.2.2.2.2.2) g⟩,
        ⟨Rect.unit (s := S2x512x64) ![0, 0, 0] S1x512x64.size inb_S2x512x64_S1x512x64_0_0_0,
          k0_pay183 (k0_pay132 xa) (k0_pay134 xa) R.2.2.1 g⟩])) fun e r d => (A e).DQ (q0 + r) d :=
  two_is (n := 512) VO0_7 f (g := fun e r d => (A e).DQ (q0 + r) d)
    (pay1_is (pay133_is hxb) (pay135_is hxb) (uq1_is hq0 hR) (hg 1))
    (pay183_is (pay132_is hxa) (pay134_is hxa) (uq0_is hq0 hR) (hg 0)) _ _

include hq0 hR hxa hxb in
/-- What the block adds to the cotangent of the queries' gain. -/
theorem dgq_is {prev : Vec Ideal S1x64 .f32} {p : ℕ → ℝ} (hp : Is2 (m := 1) (n := 64) prev fun _ => p)
    (f : VO0_10.ty.Contents (Elt Ideal)) (v : View sig .tc .vmem S1x64 .f32) (L : List (View.Piece (Elt Ideal) S1x64 .f32)) :
    Is2 (m := 1) (n := 64) (VO0_10.read (Elt Ideal) (VO0_10.writes (Elt Ideal) f
      (⟨Rect.unit (s := S1x64) ![0, 0] S1x64.size inb_S1x64_S1x64_0_0,
          k0_pay2 (k0_pay133 xb) (k0_pay135 xb) (k0_pay185 R.2.2.2.2.2)
            (v.readCov (⟨Rect.unit (s := S1x64) ![0, 0] S1x64.size inb_S1x64_S1x64_0_0, k0_pay184 (k0_pay132 xa) (k0_pay134 xa) R.2.2.1 prev⟩ :: L)
              (Rect.unit (s := S1x64) ![0, 0] S1x64.size inb_S1x64_S1x64_0_0).toLoadRect)⟩ ::
        ⟨Rect.unit (s := S1x64) ![0, 0] S1x64.size inb_S1x64_S1x64_0_0, k0_pay184 (k0_pay132 xa) (k0_pay134 xa) R.2.2.1 prev⟩ :: L)))
      fun _ d => p d + ∑ r ∈ range 512, (A 0).PQ (q0 + r) d + ∑ r ∈ range 512, (A 1).PQ (q0 + r) d := by
  rw [View.readCov_cons_toLoadRect]
  exact row_is VO0_10 f (pay2_is (pay133_is hxb) (pay135_is hxb) (uq1_is hq0 hR)
    (pay184_is (pay132_is hxa) (pay134_is hxa) (uq0_is hq0 hR) hp)) _ _

end Queries

section Keys

variable {A : ℕ → Raw} {ka kb ya yb : Vec Ideal S1x4096x64 .f32} {g : Vec Ideal S1x64 .f32}
  (hka : Is3 (l := 1) (m := 4096) (n := 64) ka fun _ j d => (A 0).K j d)
  (hkb : Is3 (l := 1) (m := 4096) (n := 64) kb fun _ j d => (A 1).K j d)
  (hya : Is3 (l := 1) (m := 4096) (n := 64) ya fun _ j d => ∑ i ∈ range 4096, (A 0).head.DZ i j * (A 0).head.QN i d)
  (hyb : Is3 (l := 1) (m := 4096) (n := 64) yb fun _ j d => ∑ i ∈ range 4096, (A 1).head.DZ i j * (A 1).head.QN i d)

include hka hkb hya hyb in
/-- The cotangent of the keys of two heads. -/
theorem dk_is (hg : ∀ e, Is2 (m := 1) (n := 64) g fun _ => (A e).GK) (f : VO0_8.ty.Contents (Elt Ideal)) :
    Is3 (l := 2) (m := 4096) (n := 64) (VO0_8.read (Elt Ideal) (VO0_8.writes (Elt Ideal) f
      [⟨Rect.unit (s := S2x4096x64) ![1, 0, 0] S1x4096x64.size inb_S2x4096x64_S1x4096x64_1_0_0,
          k0_pay3 (k0_pay119 kb) (k0_pay120 kb) (k0_pay123 kb yb g) (k0_pay124 kb yb g) (k0_pay125 kb)⟩,
        ⟨Rect.unit (s := S2x4096x64) ![0, 0, 0] S1x4096x64.size inb_S2x4096x64_S1x4096x64_0_0_0, k0_pay115 ka ya g⟩]))
      fun e j d => (A e).DK j d :=
  two_is (n := 4096) VO0_8 f (g := fun e j d => (A e).DK j d) (pay3_is hkb hyb (hg 1)) (pay115_is hka hya (hg 0)) _ _

include hka hkb hya hyb in
/-- What two heads add to the cotangent of the keys' gain. -/
theorem dgk_is {prev : Vec Ideal S1x64 .f32} {p : ℕ → ℝ} (hp : Is2 (m := 1) (n := 64) prev fun _ => p)
    (f : VO0_11.ty.Contents (Elt Ideal)) (v : View sig .tc .vmem S1x64 .f32) (L : List (View.Piece (Elt Ideal) S1x64 .f32)) :
    Is2 (m := 1) (n := 64) (VO0_11.read (Elt Ideal) (VO0_11.writes (Elt Ideal) f
      (⟨Rect.unit (s := S1x64) ![0, 0] S1x64.size inb_S1x64_S1x64_0_0,
          k0_pay5 (k0_pay119 kb) (k0_pay120 kb) (k0_pay121 yb)
            (v.readCov (⟨Rect.unit (s := S1x64) ![0, 0] S1x64.size inb_S1x64_S1x64_0_0, k0_pay118 (k0_pay112 ka) (k0_pay113 ka) (k0_pay114 ya) prev⟩ :: L)
              (Rect.unit (s := S1x64) ![0, 0] S1x64.size inb_S1x64_S1x64_0_0).toLoadRect)⟩ ::
        ⟨Rect.unit (s := S1x64) ![0, 0] S1x64.size inb_S1x64_S1x64_0_0, k0_pay118 (k0_pay112 ka) (k0_pay113 ka) (k0_pay114 ya) prev⟩ :: L)))
      fun _ d => p d + ∑ j ∈ range 4096, (A 0).PK j d + ∑ j ∈ range 4096, (A 1).PK j d := by
  rw [View.readCov_cons_toLoadRect]
  exact row_is VO0_11 f (pay5_is hkb hyb (pay118_is hka hya hp)) _ _

/-- The cotangent of the values of two heads. -/
theorem dv_is {za zb : Vec Ideal S1x4096x64 .f32} {g : ℕ → ℕ → ℕ → ℝ} (ha : Is3 (l := 1) (m := 4096) (n := 64) za fun _ => g 0)
    (hb : Is3 (l := 1) (m := 4096) (n := 64) zb fun _ => g 1) (f : VO0_9.ty.Contents (Elt Ideal)) :
    Is3 (l := 2) (m := 4096) (n := 64) (VO0_9.read (Elt Ideal) (VO0_9.writes (Elt Ideal) f
      [⟨Rect.unit (s := S2x4096x64) ![1, 0, 0] S1x4096x64.size inb_S2x4096x64_S1x4096x64_1_0_0, k0_pay4 zb⟩,
        ⟨Rect.unit (s := S2x4096x64) ![0, 0, 0] S1x4096x64.size inb_S2x4096x64_S1x4096x64_0_0_0, k0_pay117 (k0_pay116 za)⟩])) g :=
  two_is (n := 4096) VO0_9 f (pay4_is hb) (pay117_is ha) _ _

/-- The normalised keys of two heads, kept for the pair's points. -/
theorem kn_is (hg : ∀ e, Is2 (m := 1) (n := 64) g fun _ => (A e).GK)
    (hka : Is3 (l := 1) (m := 4096) (n := 64) ka fun _ j d => (A 0).K j d)
    (hkb : Is3 (l := 1) (m := 4096) (n := 64) kb fun _ j d => (A 1).K j d)
    (a : Memref sig .tc .vmem S2x4096x64 .bf16) (f : BufTy.Contents (Elt Ideal) a.view.ty) :
    HoldsB a (a.view.writes (Elt Ideal) f
      [⟨Rect.unit (s := S2x4096x64) ![1, 0, 0] S1x4096x64.size inb_S2x4096x64_S1x4096x64_1_0_0, k0_pay128 (k0_pay8 kb) (k0_pay9 kb) g⟩,
        ⟨Rect.unit (s := S2x4096x64) ![0, 0, 0] S1x4096x64.size inb_S2x4096x64_S1x4096x64_0_0_0, k0_pay6 ka g⟩])
      fun e j d => (A e).head.KN j d :=
  two_is (n := 4096) a.view f (g := fun e j d => (A e).head.KN j d) (pay128_is hkb (hg 1)) (pay6_is hka (hg 0)) _ _

/-- The values of two heads, kept for the pair's points. -/
theorem vb_is {za zb : Vec Ideal S1x4096x64 .f32} {g : ℕ → ℕ → ℕ → ℝ} (ha : Is3 (l := 1) (m := 4096) (n := 64) za fun _ => g 0)
    (hb : Is3 (l := 1) (m := 4096) (n := 64) zb fun _ => g 1)
    (a : Memref sig .tc .vmem S2x4096x64 .bf16) (f : BufTy.Contents (Elt Ideal) a.view.ty) :
    HoldsB a (a.view.writes (Elt Ideal) f
      [⟨Rect.unit (s := S2x4096x64) ![1, 0, 0] S1x4096x64.size inb_S2x4096x64_S1x4096x64_1_0_0, k0_pay129 zb⟩,
        ⟨Rect.unit (s := S2x4096x64) ![0, 0, 0] S1x4096x64.size inb_S2x4096x64_S1x4096x64_0_0_0, k0_pay7 za⟩]) g :=
  two_is (n := 4096) a.view f (pay129_is hb) (pay7_is ha) _ _

end Keys

end Cert.Attn
-- ==== Proof.Cases.lean ====
module

public import proofs.«01_k».proof.Proof.Store

@[expose] public section

/-!
# The four kinds of grid points

The kernel's points go over the pairs of heads and, within a pair, over the blocks of queries. A point is the very first
one, the first of a later pair, one in the middle, or the last of a pair. For each kind the theorem says which real
numbers the point leaves in its results and in the arrays kept between the points.
-/

set_option maxRecDepth 16384
set_option maxHeartbeats 1000000

namespace Cert.Attn

open Idealize.ShloMosaic Cert.KernelIdeal Cert.KernelIdeal.Gen Finset

attribute [local irreducible] Cert.KernelIdeal.Gen.st_k0_t1 Cert.KernelIdeal.Gen.st_k0_t2

/-- The blocks a point reads: of two heads the queries from `q0` on with the cotangents of their outputs and the totals of
their logarithms, and all the keys and values. -/
structure Blocks (A : ℕ → Raw) (q0 : ℕ) (x0 : Vec Ideal S2x512x64 .f32) (x1 x2 : Vec Ideal S2x4096x64 .f32) (x3 x4 : Vec Ideal S1x64 .f32)
    (x5 : Vec Ideal S2x512x128 .f32) (x6 : Vec Ideal S2x512x64 .f32) : Prop where
  q : Is3 (l := 2) (m := 512) (n := 64) x0 fun e r d => (A e).Q (q0 + r) d
  k : Is3 (l := 2) (m := 4096) (n := 64) x1 fun e j d => (A e).K j d
  v : Is3 (l := 2) (m := 4096) (n := 64) x2 fun e j d => (A e).V j d
  gq : ∀ e, Is2 (m := 1) (n := 64) x3 fun _ => (A e).GQ
  gk : ∀ e, Is2 (m := 1) (n := 64) x4 fun _ => (A e).GK
  t : ∀ (e : Fin 2) (r : Fin 512), x5 (ix3 e r 64) = (((A e.val).T (q0 + r.val) : ℝ) : EReal)
  dO : Is3 (l := 2) (m := 512) (n := 64) x6 fun e r d => (A e).DO (q0 + r) d

/-- What is stored through one view of an array is read through the same view under another name. -/
theorem through {v w : View sig .tc .vmem S2x4096x64 .f32} (h : v = w) {L : List (View.Piece (Elt Ideal) S2x4096x64 .f32)}
    {f : ℕ → ℕ → ℕ → ℝ} (hw : Is3 (l := 2) (m := 4096) (n := 64) (w.read (Elt Ideal) (w.writes (Elt Ideal) w.junk L)) f) :
    Is3 (l := 2) (m := 4096) (n := 64) (v.read (Elt Ideal) (v.writes (Elt Ideal) v.junk L)) f := by
  subst h
  exact hw

theorem throughB {v w : View sig .tc .vmem S2x4096x64 .bf16} (h : v = w) {L : List (View.Piece (Elt Ideal) S2x4096x64 .bf16)}
    {f : ℕ → ℕ → ℕ → ℝ} (hw : Is3 (l := 2) (m := 4096) (n := 64) (w.read (Elt Ideal) (w.writes (Elt Ideal) w.junk L)) f) :
    Is3 (l := 2) (m := 4096) (n := 64) (v.read (Elt Ideal) (v.writes (Elt Ideal) v.junk L)) f := by
  subst h
  exact hw

/-- The very first point. -/
theorem case_A  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : cond0_0 i) (hc1 : cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32)
    {A : ℕ → Raw} {q0 : ℕ} (hq : 512 * (i 1).val = q0) (hb : Blocks A q0 x0 x1 x2 x3 x4 x5 x6)
    (v0 : VS0_0 = arg14.view) (v1 : VS0_1 = arg15.view) (v2 : VS0_2 = arg16.view) (v3 : VS0_3 = arg17.view) :
    Is3 (l := 2) (m := 512) (n := 64) (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun e r d => (A e).DQ (q0 + r) d) ∧
    Is2 (m := 1) (n := 64) (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun _ d => 0 + ∑ r ∈ range 512, (A 0).PQ (q0 + r) d + ∑ r ∈ range 512, (A 1).PQ (q0 + r) d) ∧
    Is3 (l := 2) (m := 4096) (n := 64) (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun e j d => gK (fun e => (A e).head) q0 e j d) ∧
    Is3 (l := 2) (m := 4096) (n := 64) (sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun e j d => gV (fun e => (A e).head) q0 e j d) ∧
    Is3 (l := 2) (m := 4096) (n := 64) (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun e j d => (A e).head.KN j d) ∧
    Is3 (l := 2) (m := 4096) (n := 64) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun e j d => (A e).head.V j d) ∧
    Is2 (m := 1) (n := 64) (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) (fun _ _ => 0) := by
  subst hq
  have hxa : Is3 (l := 1) (m := 512) (n := 64) (View.readAt (Elt Ideal) arg2.view (Rect.unit (s := S2x512x64) ![0, 0, 0] S1x512x64.size inb_S2x512x64_S1x512x64_0_0_0).toLoadRect (harg2.unread x0)) fun _ r d => (A 0).Q (512 * (i 1).val + r) d := load_held arg2 (held arg2 harg2 hb.q) 0 (by omega) inb_S2x512x64_S1x512x64_0_0_0
  have hxb : Is3 (l := 1) (m := 512) (n := 64) (View.readAt (Elt Ideal) arg2.view (Rect.unit (s := S2x512x64) ![1, 0, 0] S1x512x64.size inb_S2x512x64_S1x512x64_1_0_0).toLoadRect (harg2.unread x0)) fun _ r d => (A 1).Q (512 * (i 1).val + r) d := load_held arg2 (held arg2 harg2 hb.q) 1 (by omega) inb_S2x512x64_S1x512x64_1_0_0
  have hg : ∀ e, Is2 (m := 1) (n := 64) (View.readAt (Elt Ideal) arg5.view (Rect.unit (s := S1x64) ![0, 0] S1x64.size inb_S1x64_S1x64_0_0).toLoadRect (harg5.unread x3)) fun _ => (A e).GQ := fun e => row_load arg5 harg5 (hb.gq e) inb_S1x64_S1x64_0_0
  have hda : Is3 (l := 1) (m := 512) (n := 64) (View.readAt (Elt Ideal) arg8.view (Rect.unit (s := S2x512x64) ![0, 0, 0] S1x512x64.size inb_S2x512x64_S1x512x64_0_0_0).toLoadRect (harg8.unread x6)) fun _ r d => (A 0).DO (512 * (i 1).val + r) d := load_held arg8 (held arg8 harg8 hb.dO) 0 (by omega) inb_S2x512x64_S1x512x64_0_0_0
  have hdb : Is3 (l := 1) (m := 512) (n := 64) (View.readAt (Elt Ideal) arg8.view (Rect.unit (s := S2x512x64) ![1, 0, 0] S1x512x64.size inb_S2x512x64_S1x512x64_1_0_0).toLoadRect (harg8.unread x6)) fun _ r d => (A 1).DO (512 * (i 1).val + r) d := load_held arg8 (held arg8 harg8 hb.dO) 1 (by omega) inb_S2x512x64_S1x512x64_1_0_0
  have hoa : ∀ r : Fin 512, (View.readAt (Elt Ideal) arg7.view (Rect.unit (s := S2x512x128) ![0, 0, 0] S1x512x128.size inb_S2x512x128_S1x512x128_0_0_0).toLoadRect (harg7.unread x5)) (ix3 0 r 64) = (((A 0).T (512 * (i 1).val + r.val) : ℝ) : EReal) := fun r =>
    ((load_at arg7 (harg7.unread x5) 0 (by omega) inb_S2x512x128_S1x512x128_0_0_0 0 r 64).trans (congrFun (harg7.read_unread x5) _)).trans (hb.t 0 r)
  have hob : ∀ r : Fin 512, (View.readAt (Elt Ideal) arg7.view (Rect.unit (s := S2x512x128) ![1, 0, 0] S1x512x128.size inb_S2x512x128_S1x512x128_1_0_0).toLoadRect (harg7.unread x5)) (ix3 0 r 64) = (((A 1).T (512 * (i 1).val + r.val) : ℝ) : EReal) := fun r =>
    ((load_at arg7 (harg7.unread x5) 1 (by omega) inb_S2x512x128_S1x512x128_1_0_0 0 r 64).trans (congrFun (harg7.read_unread x5) _)).trans (hb.t 1 r)
  have hq0 : 512 * (i 1).val + 512 ≤ 4096 := by have : (i 1).val < 8 := (i 1).isLt; omega
  have hka : Is3 (l := 1) (m := 4096) (n := 64) (View.readAt (Elt Ideal) arg3.view (Rect.unit (s := S2x4096x64) ![0, 0, 0] S1x4096x64.size inb_S2x4096x64_S1x4096x64_0_0_0).toLoadRect (harg3.unread x1)) fun _ j d => (A 0).K j d := load_held arg3 (held arg3 harg3 hb.k) 0 (by omega) inb_S2x4096x64_S1x4096x64_0_0_0
  have hkb : Is3 (l := 1) (m := 4096) (n := 64) (View.readAt (Elt Ideal) arg3.view (Rect.unit (s := S2x4096x64) ![1, 0, 0] S1x4096x64.size inb_S2x4096x64_S1x4096x64_1_0_0).toLoadRect (harg3.unread x1)) fun _ j d => (A 1).K j d := load_held arg3 (held arg3 harg3 hb.k) 1 (by omega) inb_S2x4096x64_S1x4096x64_1_0_0
  have hgk : ∀ e, Is2 (m := 1) (n := 64) (View.readAt (Elt Ideal) arg6.view (Rect.unit (s := S1x64) ![0, 0] S1x64.size inb_S1x64_S1x64_0_0).toLoadRect (harg6.unread x4)) fun _ => (A e).GK := fun e => row_load arg6 harg6 (hb.gk e) inb_S1x64_S1x64_0_0
  have hva : Is3 (l := 1) (m := 4096) (n := 64) (View.readAt (Elt Ideal) arg4.view (Rect.unit (s := S2x4096x64) ![0, 0, 0] S1x4096x64.size inb_S2x4096x64_S1x4096x64_0_0_0).toLoadRect (harg4.unread x2)) fun _ j d => (A 0).V j d := load_held arg4 (held arg4 harg4 hb.v) 0 (by omega) inb_S2x4096x64_S1x4096x64_0_0_0
  have hvb : Is3 (l := 1) (m := 4096) (n := 64) (View.readAt (Elt Ideal) arg4.view (Rect.unit (s := S2x4096x64) ![1, 0, 0] S1x4096x64.size inb_S2x4096x64_S1x4096x64_1_0_0).toLoadRect (harg4.unread x2)) fun _ j d => (A 1).V j d := load_held arg4 (held arg4 harg4 hb.v) 1 (by omega) inb_S2x4096x64_S1x4096x64_1_0_0
  have hk := kn_is hgk hka hkb arg14 arg14.view.junk
  have hv := vb_is (g := fun e j d => (A e).head.V j d) hva hvb arg15 arg15.view.junk
  have h16 := whole_is arg16 arg16.view.junk pay130_is inb_S2x4096x64_S2x4096x64_0_0_0
  have h17 := whole_is arg17 arg17.view.junk pay131_is inb_S2x4096x64_S2x4096x64_0_0_0
  have hA16 : ∀ L, arg16.view.writes (Elt Ideal) arg16.view.junk (L ++ [⟨Rect.unit (s := S2x4096x64) ![0, 0, 0] S2x4096x64.size inb_S2x4096x64_S2x4096x64_0_0_0, k0_pay130 (F := Ideal)⟩]) = arg16.view.writes (Elt Ideal) (arg16.view.writes (Elt Ideal) arg16.view.junk [⟨Rect.unit (s := S2x4096x64) ![0, 0, 0] S2x4096x64.size inb_S2x4096x64_S2x4096x64_0_0_0, k0_pay130 (F := Ideal)⟩]) L := fun L => View.writes_append _ _ L _
  have hA17 : ∀ L, arg17.view.writes (Elt Ideal) arg17.view.junk (L ++ [⟨Rect.unit (s := S2x4096x64) ![0, 0, 0] S2x4096x64.size inb_S2x4096x64_S2x4096x64_0_0_0, k0_pay131 (F := Ideal)⟩]) = arg17.view.writes (Elt Ideal) (arg17.view.writes (Elt Ideal) arg17.view.junk [⟨Rect.unit (s := S2x4096x64) ![0, 0, 0] S2x4096x64.size inb_S2x4096x64_S2x4096x64_0_0_0, k0_pay131 (F := Ideal)⟩]) L := fun L => View.writes_append _ _ L _
  have hR := RD_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt Ideal) arg14.view.junk ([⟨Rect.unit (s := S2x4096x64) ![1, 0, 0] S1x4096x64.size inb_S2x4096x64_S1x4096x64_1_0_0, k0_pay128 (k0_pay8 (View.readAt (Elt Ideal) arg3.view (Rect.unit (s := S2x4096x64) ![1, 0, 0] S1x4096x64.size inb_S2x4096x64_S1x4096x64_1_0_0).toLoadRect (harg3.unread x1))) (k0_pay9 (View.readAt (Elt Ideal) arg3.view (Rect.unit (s := S2x4096x64) ![1, 0, 0] S1x4096x64.size inb_S2x4096x64_S1x4096x64_1_0_0).toLoadRect (harg3.unread x1))) (View.readAt (Elt Ideal) arg6.view (Rect.unit (s := S1x64) ![0, 0] S1x64.size inb_S1x64_S1x64_0_0).toLoadRect (harg6.unread x4))⟩, ⟨Rect.unit (s := S2x4096x64) ![0, 0, 0] S1x4096x64.size inb_S2x4096x64_S1x4096x64_0_0_0, k0_pay6 (View.readAt (Elt Ideal) arg3.view (Rect.unit (s := S2x4096x64) ![0, 0, 0] S1x4096x64.size inb_S2x4096x64_S1x4096x64_0_0_0).toLoadRect (harg3.unread x1)) (View.readAt (Elt Ideal) arg6.view (Rect.unit (s := S1x64) ![0, 0] S1x64.size inb_S1x64_S1x64_0_0).toLoadRect (harg6.unread x4))⟩])) (arg15.view.writes (Elt Ideal) arg15.view.junk ([⟨Rect.unit (s := S2x4096x64) ![1, 0, 0] S1x4096x64.size inb_S2x4096x64_S1x4096x64_1_0_0, k0_pay129 (View.readAt (Elt Ideal) arg4.view (Rect.unit (s := S2x4096x64) ![1, 0, 0] S1x4096x64.size inb_S2x4096x64_S1x4096x64_1_0_0).toLoadRect (harg4.unread x2))⟩, ⟨Rect.unit (s := S2x4096x64) ![0, 0, 0] S1x4096x64.size inb_S2x4096x64_S1x4096x64_0_0_0, k0_pay7 (View.readAt (Elt Ideal) arg4.view (Rect.unit (s := S2x4096x64) ![0, 0, 0] S1x4096x64.size inb_S2x4096x64_S1x4096x64_0_0_0).toLoadRect (harg4.unread x2))⟩])) (arg16.view.writes (Elt Ideal) arg16.view.junk [⟨Rect.unit (s := S2x4096x64) ![0, 0, 0] S2x4096x64.size inb_S2x4096x64_S2x4096x64_0_0_0, k0_pay130 (F := Ideal)⟩]) arg16.view.junk (fun L => L ++ [⟨Rect.unit (s := S2x4096x64) ![0, 0, 0] S2x4096x64.size inb_S2x4096x64_S2x4096x64_0_0_0, k0_pay130 (F := Ideal)⟩]) (arg17.view.writes (Elt Ideal) arg17.view.junk [⟨Rect.unit (s := S2x4096x64) ![0, 0, 0] S2x4096x64.size inb_S2x4096x64_S2x4096x64_0_0_0, k0_pay131 (F := Ideal)⟩]) arg17.view.junk (fun L => L ++ [⟨Rect.unit (s := S2x4096x64) ![0, 0, 0] S2x4096x64.size inb_S2x4096x64_S2x4096x64_0_0_0, k0_pay131 (F := Ideal)⟩]) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17
  have h2 := L16_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt Ideal) arg14.view.junk ([⟨Rect.unit (s := S2x4096x64) ![1, 0, 0] S1x4096x64.size inb_S2x4096x64_S1x4096x64_1_0_0, k0_pay128 (k0_pay8 (View.readAt (Elt Ideal) arg3.view (Rect.unit (s := S2x4096x64) ![1, 0, 0] S1x4096x64.size inb_S2x4096x64_S1x4096x64_1_0_0).toLoadRect (harg3.unread x1))) (k0_pay9 (View.readAt (Elt Ideal) arg3.view (Rect.unit (s := S2x4096x64) ![1, 0, 0] S1x4096x64.size inb_S2x4096x64_S1x4096x64_1_0_0).toLoadRect (harg3.unread x1))) (View.readAt (Elt Ideal) arg6.view (Rect.unit (s := S1x64) ![0, 0] S1x64.size inb_S1x64_S1x64_0_0).toLoadRect (harg6.unread x4))⟩, ⟨Rect.unit (s := S2x4096x64) ![0, 0, 0] S1x4096x64.size inb_S2x4096x64_S1x4096x64_0_0_0, k0_pay6 (View.readAt (Elt Ideal) arg3.view (Rect.unit (s := S2x4096x64) ![0, 0, 0] S1x4096x64.size inb_S2x4096x64_S1x4096x64_0_0_0).toLoadRect (harg3.unread x1)) (View.readAt (Elt Ideal) arg6.view (Rect.unit (s := S1x64) ![0, 0] S1x64.size inb_S1x64_S1x64_0_0).toLoadRect (harg6.unread x4))⟩])) (arg15.view.writes (Elt Ideal) arg15.view.junk ([⟨Rect.unit (s := S2x4096x64) ![1, 0, 0] S1x4096x64.size inb_S2x4096x64_S1x4096x64_1_0_0, k0_pay129 (View.readAt (Elt Ideal) arg4.view (Rect.unit (s := S2x4096x64) ![1, 0, 0] S1x4096x64.size inb_S2x4096x64_S1x4096x64_1_0_0).toLoadRect (harg4.unread x2))⟩, ⟨Rect.unit (s := S2x4096x64) ![0, 0, 0] S1x4096x64.size inb_S2x4096x64_S1x4096x64_0_0_0, k0_pay7 (View.readAt (Elt Ideal) arg4.view (Rect.unit (s := S2x4096x64) ![0, 0, 0] S1x4096x64.size inb_S2x4096x64_S1x4096x64_0_0_0).toLoadRect (harg4.unread x2))⟩])) (arg16.view.writes (Elt Ideal) arg16.view.junk [⟨Rect.unit (s := S2x4096x64) ![0, 0, 0] S2x4096x64.size inb_S2x4096x64_S2x4096x64_0_0_0, k0_pay130 (F := Ideal)⟩]) arg16.view.junk (fun L => L ++ [⟨Rect.unit (s := S2x4096x64) ![0, 0, 0] S2x4096x64.size inb_S2x4096x64_S2x4096x64_0_0_0, k0_pay130 (F := Ideal)⟩]) (arg17.view.writes (Elt Ideal) arg17.view.junk [⟨Rect.unit (s := S2x4096x64) ![0, 0, 0] S2x4096x64.size inb_S2x4096x64_S2x4096x64_0_0_0, k0_pay131 (F := Ideal)⟩]) arg17.view.junk (fun L => L ++ [⟨Rect.unit (s := S2x4096x64) ![0, 0, 0] S2x4096x64.size inb_S2x4096x64_S2x4096x64_0_0_0, k0_pay131 (F := Ideal)⟩]) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 hA16
  have h3 := L17_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt Ideal) arg14.view.junk ([⟨Rect.unit (s := S2x4096x64) ![1, 0, 0] S1x4096x64.size inb_S2x4096x64_S1x4096x64_1_0_0, k0_pay128 (k0_pay8 (View.readAt (Elt Ideal) arg3.view (Rect.unit (s := S2x4096x64) ![1, 0, 0] S1x4096x64.size inb_S2x4096x64_S1x4096x64_1_0_0).toLoadRect (harg3.unread x1))) (k0_pay9 (View.readAt (Elt Ideal) arg3.view (Rect.unit (s := S2x4096x64) ![1, 0, 0] S1x4096x64.size inb_S2x4096x64_S1x4096x64_1_0_0).toLoadRect (harg3.unread x1))) (View.readAt (Elt Ideal) arg6.view (Rect.unit (s := S1x64) ![0, 0] S1x64.size inb_S1x64_S1x64_0_0).toLoadRect (harg6.unread x4))⟩, ⟨Rect.unit (s := S2x4096x64) ![0, 0, 0] S1x4096x64.size inb_S2x4096x64_S1x4096x64_0_0_0, k0_pay6 (View.readAt (Elt Ideal) arg3.view (Rect.unit (s := S2x4096x64) ![0, 0, 0] S1x4096x64.size inb_S2x4096x64_S1x4096x64_0_0_0).toLoadRect (harg3.unread x1)) (View.readAt (Elt Ideal) arg6.view (Rect.unit (s := S1x64) ![0, 0] S1x64.size inb_S1x64_S1x64_0_0).toLoadRect (harg6.unread x4))⟩])) (arg15.view.writes (Elt Ideal) arg15.view.junk ([⟨Rect.unit (s := S2x4096x64) ![1, 0, 0] S1x4096x64.size inb_S2x4096x64_S1x4096x64_1_0_0, k0_pay129 (View.readAt (Elt Ideal) arg4.view (Rect.unit (s := S2x4096x64) ![1, 0, 0] S1x4096x64.size inb_S2x4096x64_S1x4096x64_1_0_0).toLoadRect (harg4.unread x2))⟩, ⟨Rect.unit (s := S2x4096x64) ![0, 0, 0] S1x4096x64.size inb_S2x4096x64_S1x4096x64_0_0_0, k0_pay7 (View.readAt (Elt Ideal) arg4.view (Rect.unit (s := S2x4096x64) ![0, 0, 0] S1x4096x64.size inb_S2x4096x64_S1x4096x64_0_0_0).toLoadRect (harg4.unread x2))⟩])) (arg16.view.writes (Elt Ideal) arg16.view.junk [⟨Rect.unit (s := S2x4096x64) ![0, 0, 0] S2x4096x64.size inb_S2x4096x64_S2x4096x64_0_0_0, k0_pay130 (F := Ideal)⟩]) arg16.view.junk (fun L => L ++ [⟨Rect.unit (s := S2x4096x64) ![0, 0, 0] S2x4096x64.size inb_S2x4096x64_S2x4096x64_0_0_0, k0_pay130 (F := Ideal)⟩]) (arg17.view.writes (Elt Ideal) arg17.view.junk [⟨Rect.unit (s := S2x4096x64) ![0, 0, 0] S2x4096x64.size inb_S2x4096x64_S2x4096x64_0_0_0, k0_pay131 (F := Ideal)⟩]) arg17.view.junk (fun L => L ++ [⟨Rect.unit (s := S2x4096x64) ![0, 0, 0] S2x4096x64.size inb_S2x4096x64_S2x4096x64_0_0_0, k0_pay131 (F := Ideal)⟩]) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 hA17
  have hp : Is2 (m := 1) (n := 64) (View.readCov (Val := Elt Ideal) arg12.view [⟨Rect.unit (s := S1x64) ![0, 0] S1x64.size inb_S1x64_S1x64_0_0, k0_pay126 (F := Ideal)⟩] (Rect.unit (s := S1x64) ![0, 0] S1x64.size inb_S1x64_S1x64_0_0).toLoadRect) fun _ => fun _ => 0 := by
    rw [View.readCov_cons_toLoadRect]
    exact pay126_is
  refine ⟨?_, ?_, ?_, ?_, ?_, ?_, ?_⟩
  · unfold out0_A_7
    exact dq_is hq0 hR hxa hxb hg VO0_7.junk
  · unfold out0_A_10
    exact dgq_is hq0 hR hxa hxb hp VO0_10.junk arg12.view [⟨Rect.unit (s := S1x64) ![0, 0] S1x64.size inb_S1x64_S1x64_0_0, k0_pay126 (F := Ideal)⟩]
  · unfold sout0_A_2
    exact (through v2 h2).congr fun _ _ _ => zero_add _
  · unfold sout0_A_3
    exact (through v3 h3).congr fun _ _ _ => zero_add _
  · unfold sout0_A_0
    exact throughB v0 hk
  · unfold sout0_A_1
    exact throughB v1 hv
  · unfold out0_A_11
    exact row_is VO0_11 VO0_11.junk pay127_is _ _

/-- A point in the middle of a pair of heads. -/
theorem case_B  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xs0 : Vec Ideal S2x4096x64 .bf16) (xs1 : Vec Ideal S2x4096x64 .bf16) (xs2 : Vec Ideal S2x4096x64 .f32) (xs3 : Vec Ideal S2x4096x64 .f32)
    {A : ℕ → Raw} {q0 : ℕ} (hq : 512 * (i 1).val = q0) (hb : Blocks A q0 x0 x1 x2 x3 x4 x5 x6)
    (hk : Is3 (l := 2) (m := 4096) (n := 64) xs0 fun e j d => (A e).head.KN j d) (hv : Is3 (l := 2) (m := 4096) (n := 64) xs1 fun e j d => (A e).head.V j d)
    {B16 B17 : ℕ → ℕ → ℕ → ℝ} (h16 : Is3 (l := 2) (m := 4096) (n := 64) xs2 B16) (h17 : Is3 (l := 2) (m := 4096) (n := 64) xs3 B17)
    {p : ℕ → ℝ} (hp : Is2 (m := 1) (n := 64) xo10 fun _ => p) :
    Is3 (l := 2) (m := 512) (n := 64) (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3) (fun e r d => (A e).DQ (q0 + r) d) ∧
    Is2 (m := 1) (n := 64) (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3) (fun _ d => p d + ∑ r ∈ range 512, (A 0).PQ (q0 + r) d + ∑ r ∈ range 512, (A 1).PQ (q0 + r) d) ∧
    Is3 (l := 2) (m := 4096) (n := 64) (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3) (fun e j d => B16 e j d + gK (fun e => (A e).head) q0 e j d) ∧
    Is3 (l := 2) (m := 4096) (n := 64) (sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3) (fun e j d => B17 e j d + gV (fun e => (A e).head) q0 e j d) := by
  subst hq
  have hxa : Is3 (l := 1) (m := 512) (n := 64) (View.readAt (Elt Ideal) arg2.view (Rect.unit (s := S2x512x64) ![0, 0, 0] S1x512x64.size inb_S2x512x64_S1x512x64_0_0_0).toLoadRect (harg2.unread x0)) fun _ r d => (A 0).Q (512 * (i 1).val + r) d := load_held arg2 (held arg2 harg2 hb.q) 0 (by omega) inb_S2x512x64_S1x512x64_0_0_0
  have hxb : Is3 (l := 1) (m := 512) (n := 64) (View.readAt (Elt Ideal) arg2.view (Rect.unit (s := S2x512x64) ![1, 0, 0] S1x512x64.size inb_S2x512x64_S1x512x64_1_0_0).toLoadRect (harg2.unread x0)) fun _ r d => (A 1).Q (512 * (i 1).val + r) d := load_held arg2 (held arg2 harg2 hb.q) 1 (by omega) inb_S2x512x64_S1x512x64_1_0_0
  have hg : ∀ e, Is2 (m := 1) (n := 64) (View.readAt (Elt Ideal) arg5.view (Rect.unit (s := S1x64) ![0, 0] S1x64.size inb_S1x64_S1x64_0_0).toLoadRect (harg5.unread x3)) fun _ => (A e).GQ := fun e => row_load arg5 harg5 (hb.gq e) inb_S1x64_S1x64_0_0
  have hda : Is3 (l := 1) (m := 512) (n := 64) (View.readAt (Elt Ideal) arg8.view (Rect.unit (s := S2x512x64) ![0, 0, 0] S1x512x64.size inb_S2x512x64_S1x512x64_0_0_0).toLoadRect (harg8.unread x6)) fun _ r d => (A 0).DO (512 * (i 1).val + r) d := load_held arg8 (held arg8 harg8 hb.dO) 0 (by omega) inb_S2x512x64_S1x512x64_0_0_0
  have hdb : Is3 (l := 1) (m := 512) (n := 64) (View.readAt (Elt Ideal) arg8.view (Rect.unit (s := S2x512x64) ![1, 0, 0] S1x512x64.size inb_S2x512x64_S1x512x64_1_0_0).toLoadRect (harg8.unread x6)) fun _ r d => (A 1).DO (512 * (i 1).val + r) d := load_held arg8 (held arg8 harg8 hb.dO) 1 (by omega) inb_S2x512x64_S1x512x64_1_0_0
  have hoa : ∀ r : Fin 512, (View.readAt (Elt Ideal) arg7.view (Rect.unit (s := S2x512x128) ![0, 0, 0] S1x512x128.size inb_S2x512x128_S1x512x128_0_0_0).toLoadRect (harg7.unread x5)) (ix3 0 r 64) = (((A 0).T (512 * (i 1).val + r.val) : ℝ) : EReal) := fun r =>
    ((load_at arg7 (harg7.unread x5) 0 (by omega) inb_S2x512x128_S1x512x128_0_0_0 0 r 64).trans (congrFun (harg7.read_unread x5) _)).trans (hb.t 0 r)
  have hob : ∀ r : Fin 512, (View.readAt (Elt Ideal) arg7.view (Rect.unit (s := S2x512x128) ![1, 0, 0] S1x512x128.size inb_S2x512x128_S1x512x128_1_0_0).toLoadRect (harg7.unread x5)) (ix3 0 r 64) = (((A 1).T (512 * (i 1).val + r.val) : ℝ) : EReal) := fun r =>
    ((load_at arg7 (harg7.unread x5) 1 (by omega) inb_S2x512x128_S1x512x128_1_0_0 0 r 64).trans (congrFun (harg7.read_unread x5) _)).trans (hb.t 1 r)
  have hq0 : 512 * (i 1).val + 512 ≤ 4096 := by have : (i 1).val < 8 := (i 1).isLt; omega
  replace hk := heldB arg14 harg14 hk
  replace hv := heldB arg15 harg15 hv
  replace h16 := held arg16 harg16 h16
  replace h17 := held arg17 harg17 h17
  have hR := RD_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17
  have h2 := L16_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 (fun _ => rfl)
  have h3 := L17_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 (fun _ => rfl)
  replace hp := row_load arg12 harg12 hp inb_S1x64_S1x64_0_0
  refine ⟨?_, ?_, ?_, ?_⟩
  · unfold out0_B_7
    exact dq_is hq0 hR hxa hxb hg VO0_7.junk
  · unfold out0_B_10
    exact dgq_is hq0 hR hxa hxb hp VO0_10.junk arg12.view []
  · unfold sout0_B_2
    exact h2
  · unfold sout0_B_3
    exact h3

/-- The last point of a pair of heads. -/
theorem case_C  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xo11 : Vec Ideal S1x64 .f32) (xs0 : Vec Ideal S2x4096x64 .bf16) (xs1 : Vec Ideal S2x4096x64 .bf16) (xs2 : Vec Ideal S2x4096x64 .f32) (xs3 : Vec Ideal S2x4096x64 .f32)
    {A : ℕ → Raw} {q0 : ℕ} (hq : 512 * (i 1).val = q0) (hb : Blocks A q0 x0 x1 x2 x3 x4 x5 x6)
    (hk : Is3 (l := 2) (m := 4096) (n := 64) xs0 fun e j d => (A e).head.KN j d) (hv : Is3 (l := 2) (m := 4096) (n := 64) xs1 fun e j d => (A e).head.V j d)
    {B16 B17 : ℕ → ℕ → ℕ → ℝ} (h16 : Is3 (l := 2) (m := 4096) (n := 64) xs2 B16) (h17 : Is3 (l := 2) (m := 4096) (n := 64) xs3 B17)
    {p : ℕ → ℝ} (hp : Is2 (m := 1) (n := 64) xo10 fun _ => p)
    (hK : ∀ e j d, B16 e j d + gK (fun e => (A e).head) q0 e j d = ∑ i ∈ range 4096, (A e).head.DZ i j * (A e).head.QN i d)
    (hV : ∀ e j d, B17 e j d + gV (fun e => (A e).head) q0 e j d = (A e).DV j d)
    {pk : ℕ → ℝ} (hpk : Is2 (m := 1) (n := 64) xo11 fun _ => pk) :
    Is3 (l := 2) (m := 512) (n := 64) (out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun e r d => (A e).DQ (q0 + r) d) ∧
    Is2 (m := 1) (n := 64) (out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun _ d => p d + ∑ r ∈ range 512, (A 0).PQ (q0 + r) d + ∑ r ∈ range 512, (A 1).PQ (q0 + r) d) ∧
    Is3 (l := 2) (m := 4096) (n := 64) (sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun e j d => B16 e j d + gK (fun e => (A e).head) q0 e j d) ∧
    Is3 (l := 2) (m := 4096) (n := 64) (sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun e j d => B17 e j d + gV (fun e => (A e).head) q0 e j d) ∧
    Is3 (l := 2) (m := 4096) (n := 64) (out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun e j d => (A e).DK j d) ∧
    Is3 (l := 2) (m := 4096) (n := 64) (out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun e j d => (A e).DV j d) ∧
    Is2 (m := 1) (n := 64) (out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3) (fun _ d => pk d + ∑ j ∈ range 4096, (A 0).PK j d + ∑ j ∈ range 4096, (A 1).PK j d) := by
  subst hq
  have hxa : Is3 (l := 1) (m := 512) (n := 64) (View.readAt (Elt Ideal) arg2.view (Rect.unit (s := S2x512x64) ![0, 0, 0] S1x512x64.size inb_S2x512x64_S1x512x64_0_0_0).toLoadRect (harg2.unread x0)) fun _ r d => (A 0).Q (512 * (i 1).val + r) d := load_held arg2 (held arg2 harg2 hb.q) 0 (by omega) inb_S2x512x64_S1x512x64_0_0_0
  have hxb : Is3 (l := 1) (m := 512) (n := 64) (View.readAt (Elt Ideal) arg2.view (Rect.unit (s := S2x512x64) ![1, 0, 0] S1x512x64.size inb_S2x512x64_S1x512x64_1_0_0).toLoadRect (harg2.unread x0)) fun _ r d => (A 1).Q (512 * (i 1).val + r) d := load_held arg2 (held arg2 harg2 hb.q) 1 (by omega) inb_S2x512x64_S1x512x64_1_0_0
  have hg : ∀ e, Is2 (m := 1) (n := 64) (View.readAt (Elt Ideal) arg5.view (Rect.unit (s := S1x64) ![0, 0] S1x64.size inb_S1x64_S1x64_0_0).toLoadRect (harg5.unread x3)) fun _ => (A e).GQ := fun e => row_load arg5 harg5 (hb.gq e) inb_S1x64_S1x64_0_0
  have hda : Is3 (l := 1) (m := 512) (n := 64) (View.readAt (Elt Ideal) arg8.view (Rect.unit (s := S2x512x64) ![0, 0, 0] S1x512x64.size inb_S2x512x64_S1x512x64_0_0_0).toLoadRect (harg8.unread x6)) fun _ r d => (A 0).DO (512 * (i 1).val + r) d := load_held arg8 (held arg8 harg8 hb.dO) 0 (by omega) inb_S2x512x64_S1x512x64_0_0_0
  have hdb : Is3 (l := 1) (m := 512) (n := 64) (View.readAt (Elt Ideal) arg8.view (Rect.unit (s := S2x512x64) ![1, 0, 0] S1x512x64.size inb_S2x512x64_S1x512x64_1_0_0).toLoadRect (harg8.unread x6)) fun _ r d => (A 1).DO (512 * (i 1).val + r) d := load_held arg8 (held arg8 harg8 hb.dO) 1 (by omega) inb_S2x512x64_S1x512x64_1_0_0
  have hoa : ∀ r : Fin 512, (View.readAt (Elt Ideal) arg7.view (Rect.unit (s := S2x512x128) ![0, 0, 0] S1x512x128.size inb_S2x512x128_S1x512x128_0_0_0).toLoadRect (harg7.unread x5)) (ix3 0 r 64) = (((A 0).T (512 * (i 1).val + r.val) : ℝ) : EReal) := fun r =>
    ((load_at arg7 (harg7.unread x5) 0 (by omega) inb_S2x512x128_S1x512x128_0_0_0 0 r 64).trans (congrFun (harg7.read_unread x5) _)).trans (hb.t 0 r)
  have hob : ∀ r : Fin 512, (View.readAt (Elt Ideal) arg7.view (Rect.unit (s := S2x512x128) ![1, 0, 0] S1x512x128.size inb_S2x512x128_S1x512x128_1_0_0).toLoadRect (harg7.unread x5)) (ix3 0 r 64) = (((A 1).T (512 * (i 1).val + r.val) : ℝ) : EReal) := fun r =>
    ((load_at arg7 (harg7.unread x5) 1 (by omega) inb_S2x512x128_S1x512x128_1_0_0 0 r 64).trans (congrFun (harg7.read_unread x5) _)).trans (hb.t 1 r)
  have hq0 : 512 * (i 1).val + 512 ≤ 4096 := by have : (i 1).val < 8 := (i 1).isLt; omega
  replace hk := heldB arg14 harg14 hk
  replace hv := heldB arg15 harg15 hv
  replace h16 := held arg16 harg16 h16
  replace h17 := held arg17 harg17 h17
  have hR := RD_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17
  have h2 := L16_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 (fun _ => rfl)
  have h3 := L17_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 (fun _ => rfl)
  replace hp := row_load arg12 harg12 hp inb_S1x64_S1x64_0_0
  have hy0 : Is3 (l := 1) (m := 4096) (n := 64) (View.readAt (Elt Ideal) arg16.view (Rect.unit (s := S2x4096x64) ![0, 0, 0] S1x4096x64.size inb_S2x4096x64_S1x4096x64_0_0_0).toLoadRect (arg16.view.writes (Elt Ideal) (harg16.unread xs2) (L16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5))))) fun _ j d => ∑ i ∈ range 4096, (A 0).head.DZ i j * (A 0).head.QN i d := (load_held arg16 h2 0 (by omega) inb_S2x4096x64_S1x4096x64_0_0_0).congr fun _ j d => hK 0 j d
  have hz0 : Is3 (l := 1) (m := 4096) (n := 64) (View.readAt (Elt Ideal) arg17.view (Rect.unit (s := S2x4096x64) ![0, 0, 0] S1x4096x64.size inb_S2x4096x64_S1x4096x64_0_0_0).toLoadRect (arg17.view.writes (Elt Ideal) (harg17.unread xs3) (L17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5))))) fun _ j d => (A 0).DV j d := (load_held arg17 h3 0 (by omega) inb_S2x4096x64_S1x4096x64_0_0_0).congr fun _ j d => hV 0 j d
  have hy1 : Is3 (l := 1) (m := 4096) (n := 64) (View.readAt (Elt Ideal) arg16.view (Rect.unit (s := S2x4096x64) ![1, 0, 0] S1x4096x64.size inb_S2x4096x64_S1x4096x64_1_0_0).toLoadRect (arg16.view.writes (Elt Ideal) (harg16.unread xs2) (L16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5))))) fun _ j d => ∑ i ∈ range 4096, (A 1).head.DZ i j * (A 1).head.QN i d := (load_held arg16 h2 1 (by omega) inb_S2x4096x64_S1x4096x64_1_0_0).congr fun _ j d => hK 1 j d
  have hz1 : Is3 (l := 1) (m := 4096) (n := 64) (View.readAt (Elt Ideal) arg17.view (Rect.unit (s := S2x4096x64) ![1, 0, 0] S1x4096x64.size inb_S2x4096x64_S1x4096x64_1_0_0).toLoadRect (arg17.view.writes (Elt Ideal) (harg17.unread xs3) (L17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.unread xs0) (harg15.unread xs1) (harg16.unread xs2) (harg16.unread xs2) (fun L => L) (harg17.unread xs3) (harg17.unread xs3) (fun L => L) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5))))) fun _ j d => (A 1).DV j d := (load_held arg17 h3 1 (by omega) inb_S2x4096x64_S1x4096x64_1_0_0).congr fun _ j d => hV 1 j d
  have hka : Is3 (l := 1) (m := 4096) (n := 64) (View.readAt (Elt Ideal) arg3.view (Rect.unit (s := S2x4096x64) ![0, 0, 0] S1x4096x64.size inb_S2x4096x64_S1x4096x64_0_0_0).toLoadRect (harg3.unread x1)) fun _ j d => (A 0).K j d := load_held arg3 (held arg3 harg3 hb.k) 0 (by omega) inb_S2x4096x64_S1x4096x64_0_0_0
  have hkb : Is3 (l := 1) (m := 4096) (n := 64) (View.readAt (Elt Ideal) arg3.view (Rect.unit (s := S2x4096x64) ![1, 0, 0] S1x4096x64.size inb_S2x4096x64_S1x4096x64_1_0_0).toLoadRect (harg3.unread x1)) fun _ j d => (A 1).K j d := load_held arg3 (held arg3 harg3 hb.k) 1 (by omega) inb_S2x4096x64_S1x4096x64_1_0_0
  have hgk : ∀ e, Is2 (m := 1) (n := 64) (View.readAt (Elt Ideal) arg6.view (Rect.unit (s := S1x64) ![0, 0] S1x64.size inb_S1x64_S1x64_0_0).toLoadRect (harg6.unread x4)) fun _ => (A e).GK := fun e => row_load arg6 harg6 (hb.gk e) inb_S1x64_S1x64_0_0
  replace hpk := row_load arg13 harg13 hpk inb_S1x64_S1x64_0_0
  refine ⟨?_, ?_, ?_, ?_, ?_, ?_, ?_⟩
  · unfold out0_C_7
    exact dq_is hq0 hR hxa hxb hg VO0_7.junk
  · unfold out0_C_10
    exact dgq_is hq0 hR hxa hxb hp VO0_10.junk arg12.view []
  · unfold sout0_C_2
    exact h2
  · unfold sout0_C_3
    exact h3
  · unfold out0_C_8
    exact dk_is hka hkb hy0 hy1 hgk VO0_8.junk
  · unfold out0_C_9
    exact dv_is (g := fun e j d => (A e).DV j d) hz0 hz1 VO0_9.junk
  · unfold out0_C_11
    exact dgk_is hka hkb hy0 hy1 hpk VO0_11.junk arg13.view []

/-- The first point of a later pair of heads. -/
theorem case_D  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32)
    {A : ℕ → Raw} {q0 : ℕ} (hq : 512 * (i 1).val = q0) (hb : Blocks A q0 x0 x1 x2 x3 x4 x5 x6)
    (v0 : VS0_0 = arg14.view) (v1 : VS0_1 = arg15.view) (v2 : VS0_2 = arg16.view) (v3 : VS0_3 = arg17.view)
    {p : ℕ → ℝ} (hp : Is2 (m := 1) (n := 64) xo10 fun _ => p) :
    Is3 (l := 2) (m := 512) (n := 64) (out0_D_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10) (fun e r d => (A e).DQ (q0 + r) d) ∧
    Is2 (m := 1) (n := 64) (out0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10) (fun _ d => p d + ∑ r ∈ range 512, (A 0).PQ (q0 + r) d + ∑ r ∈ range 512, (A 1).PQ (q0 + r) d) ∧
    Is3 (l := 2) (m := 4096) (n := 64) (sout0_D_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10) (fun e j d => gK (fun e => (A e).head) q0 e j d) ∧
    Is3 (l := 2) (m := 4096) (n := 64) (sout0_D_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10) (fun e j d => gV (fun e => (A e).head) q0 e j d) ∧
    Is3 (l := 2) (m := 4096) (n := 64) (sout0_D_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10) (fun e j d => (A e).head.KN j d) ∧
    Is3 (l := 2) (m := 4096) (n := 64) (sout0_D_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10) (fun e j d => (A e).head.V j d) := by
  subst hq
  have hxa : Is3 (l := 1) (m := 512) (n := 64) (View.readAt (Elt Ideal) arg2.view (Rect.unit (s := S2x512x64) ![0, 0, 0] S1x512x64.size inb_S2x512x64_S1x512x64_0_0_0).toLoadRect (harg2.unread x0)) fun _ r d => (A 0).Q (512 * (i 1).val + r) d := load_held arg2 (held arg2 harg2 hb.q) 0 (by omega) inb_S2x512x64_S1x512x64_0_0_0
  have hxb : Is3 (l := 1) (m := 512) (n := 64) (View.readAt (Elt Ideal) arg2.view (Rect.unit (s := S2x512x64) ![1, 0, 0] S1x512x64.size inb_S2x512x64_S1x512x64_1_0_0).toLoadRect (harg2.unread x0)) fun _ r d => (A 1).Q (512 * (i 1).val + r) d := load_held arg2 (held arg2 harg2 hb.q) 1 (by omega) inb_S2x512x64_S1x512x64_1_0_0
  have hg : ∀ e, Is2 (m := 1) (n := 64) (View.readAt (Elt Ideal) arg5.view (Rect.unit (s := S1x64) ![0, 0] S1x64.size inb_S1x64_S1x64_0_0).toLoadRect (harg5.unread x3)) fun _ => (A e).GQ := fun e => row_load arg5 harg5 (hb.gq e) inb_S1x64_S1x64_0_0
  have hda : Is3 (l := 1) (m := 512) (n := 64) (View.readAt (Elt Ideal) arg8.view (Rect.unit (s := S2x512x64) ![0, 0, 0] S1x512x64.size inb_S2x512x64_S1x512x64_0_0_0).toLoadRect (harg8.unread x6)) fun _ r d => (A 0).DO (512 * (i 1).val + r) d := load_held arg8 (held arg8 harg8 hb.dO) 0 (by omega) inb_S2x512x64_S1x512x64_0_0_0
  have hdb : Is3 (l := 1) (m := 512) (n := 64) (View.readAt (Elt Ideal) arg8.view (Rect.unit (s := S2x512x64) ![1, 0, 0] S1x512x64.size inb_S2x512x64_S1x512x64_1_0_0).toLoadRect (harg8.unread x6)) fun _ r d => (A 1).DO (512 * (i 1).val + r) d := load_held arg8 (held arg8 harg8 hb.dO) 1 (by omega) inb_S2x512x64_S1x512x64_1_0_0
  have hoa : ∀ r : Fin 512, (View.readAt (Elt Ideal) arg7.view (Rect.unit (s := S2x512x128) ![0, 0, 0] S1x512x128.size inb_S2x512x128_S1x512x128_0_0_0).toLoadRect (harg7.unread x5)) (ix3 0 r 64) = (((A 0).T (512 * (i 1).val + r.val) : ℝ) : EReal) := fun r =>
    ((load_at arg7 (harg7.unread x5) 0 (by omega) inb_S2x512x128_S1x512x128_0_0_0 0 r 64).trans (congrFun (harg7.read_unread x5) _)).trans (hb.t 0 r)
  have hob : ∀ r : Fin 512, (View.readAt (Elt Ideal) arg7.view (Rect.unit (s := S2x512x128) ![1, 0, 0] S1x512x128.size inb_S2x512x128_S1x512x128_1_0_0).toLoadRect (harg7.unread x5)) (ix3 0 r 64) = (((A 1).T (512 * (i 1).val + r.val) : ℝ) : EReal) := fun r =>
    ((load_at arg7 (harg7.unread x5) 1 (by omega) inb_S2x512x128_S1x512x128_1_0_0 0 r 64).trans (congrFun (harg7.read_unread x5) _)).trans (hb.t 1 r)
  have hq0 : 512 * (i 1).val + 512 ≤ 4096 := by have : (i 1).val < 8 := (i 1).isLt; omega
  have hka : Is3 (l := 1) (m := 4096) (n := 64) (View.readAt (Elt Ideal) arg3.view (Rect.unit (s := S2x4096x64) ![0, 0, 0] S1x4096x64.size inb_S2x4096x64_S1x4096x64_0_0_0).toLoadRect (harg3.unread x1)) fun _ j d => (A 0).K j d := load_held arg3 (held arg3 harg3 hb.k) 0 (by omega) inb_S2x4096x64_S1x4096x64_0_0_0
  have hkb : Is3 (l := 1) (m := 4096) (n := 64) (View.readAt (Elt Ideal) arg3.view (Rect.unit (s := S2x4096x64) ![1, 0, 0] S1x4096x64.size inb_S2x4096x64_S1x4096x64_1_0_0).toLoadRect (harg3.unread x1)) fun _ j d => (A 1).K j d := load_held arg3 (held arg3 harg3 hb.k) 1 (by omega) inb_S2x4096x64_S1x4096x64_1_0_0
  have hgk : ∀ e, Is2 (m := 1) (n := 64) (View.readAt (Elt Ideal) arg6.view (Rect.unit (s := S1x64) ![0, 0] S1x64.size inb_S1x64_S1x64_0_0).toLoadRect (harg6.unread x4)) fun _ => (A e).GK := fun e => row_load arg6 harg6 (hb.gk e) inb_S1x64_S1x64_0_0
  have hva : Is3 (l := 1) (m := 4096) (n := 64) (View.readAt (Elt Ideal) arg4.view (Rect.unit (s := S2x4096x64) ![0, 0, 0] S1x4096x64.size inb_S2x4096x64_S1x4096x64_0_0_0).toLoadRect (harg4.unread x2)) fun _ j d => (A 0).V j d := load_held arg4 (held arg4 harg4 hb.v) 0 (by omega) inb_S2x4096x64_S1x4096x64_0_0_0
  have hvb : Is3 (l := 1) (m := 4096) (n := 64) (View.readAt (Elt Ideal) arg4.view (Rect.unit (s := S2x4096x64) ![1, 0, 0] S1x4096x64.size inb_S2x4096x64_S1x4096x64_1_0_0).toLoadRect (harg4.unread x2)) fun _ j d => (A 1).V j d := load_held arg4 (held arg4 harg4 hb.v) 1 (by omega) inb_S2x4096x64_S1x4096x64_1_0_0
  have hk := kn_is hgk hka hkb arg14 arg14.view.junk
  have hv := vb_is (g := fun e j d => (A e).head.V j d) hva hvb arg15 arg15.view.junk
  have h16 := whole_is arg16 arg16.view.junk pay130_is inb_S2x4096x64_S2x4096x64_0_0_0
  have h17 := whole_is arg17 arg17.view.junk pay131_is inb_S2x4096x64_S2x4096x64_0_0_0
  have hA16 : ∀ L, arg16.view.writes (Elt Ideal) arg16.view.junk (L ++ [⟨Rect.unit (s := S2x4096x64) ![0, 0, 0] S2x4096x64.size inb_S2x4096x64_S2x4096x64_0_0_0, k0_pay130 (F := Ideal)⟩]) = arg16.view.writes (Elt Ideal) (arg16.view.writes (Elt Ideal) arg16.view.junk [⟨Rect.unit (s := S2x4096x64) ![0, 0, 0] S2x4096x64.size inb_S2x4096x64_S2x4096x64_0_0_0, k0_pay130 (F := Ideal)⟩]) L := fun L => View.writes_append _ _ L _
  have hA17 : ∀ L, arg17.view.writes (Elt Ideal) arg17.view.junk (L ++ [⟨Rect.unit (s := S2x4096x64) ![0, 0, 0] S2x4096x64.size inb_S2x4096x64_S2x4096x64_0_0_0, k0_pay131 (F := Ideal)⟩]) = arg17.view.writes (Elt Ideal) (arg17.view.writes (Elt Ideal) arg17.view.junk [⟨Rect.unit (s := S2x4096x64) ![0, 0, 0] S2x4096x64.size inb_S2x4096x64_S2x4096x64_0_0_0, k0_pay131 (F := Ideal)⟩]) L := fun L => View.writes_append _ _ L _
  have hR := RD_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt Ideal) arg14.view.junk ([⟨Rect.unit (s := S2x4096x64) ![1, 0, 0] S1x4096x64.size inb_S2x4096x64_S1x4096x64_1_0_0, k0_pay128 (k0_pay8 (View.readAt (Elt Ideal) arg3.view (Rect.unit (s := S2x4096x64) ![1, 0, 0] S1x4096x64.size inb_S2x4096x64_S1x4096x64_1_0_0).toLoadRect (harg3.unread x1))) (k0_pay9 (View.readAt (Elt Ideal) arg3.view (Rect.unit (s := S2x4096x64) ![1, 0, 0] S1x4096x64.size inb_S2x4096x64_S1x4096x64_1_0_0).toLoadRect (harg3.unread x1))) (View.readAt (Elt Ideal) arg6.view (Rect.unit (s := S1x64) ![0, 0] S1x64.size inb_S1x64_S1x64_0_0).toLoadRect (harg6.unread x4))⟩, ⟨Rect.unit (s := S2x4096x64) ![0, 0, 0] S1x4096x64.size inb_S2x4096x64_S1x4096x64_0_0_0, k0_pay6 (View.readAt (Elt Ideal) arg3.view (Rect.unit (s := S2x4096x64) ![0, 0, 0] S1x4096x64.size inb_S2x4096x64_S1x4096x64_0_0_0).toLoadRect (harg3.unread x1)) (View.readAt (Elt Ideal) arg6.view (Rect.unit (s := S1x64) ![0, 0] S1x64.size inb_S1x64_S1x64_0_0).toLoadRect (harg6.unread x4))⟩])) (arg15.view.writes (Elt Ideal) arg15.view.junk ([⟨Rect.unit (s := S2x4096x64) ![1, 0, 0] S1x4096x64.size inb_S2x4096x64_S1x4096x64_1_0_0, k0_pay129 (View.readAt (Elt Ideal) arg4.view (Rect.unit (s := S2x4096x64) ![1, 0, 0] S1x4096x64.size inb_S2x4096x64_S1x4096x64_1_0_0).toLoadRect (harg4.unread x2))⟩, ⟨Rect.unit (s := S2x4096x64) ![0, 0, 0] S1x4096x64.size inb_S2x4096x64_S1x4096x64_0_0_0, k0_pay7 (View.readAt (Elt Ideal) arg4.view (Rect.unit (s := S2x4096x64) ![0, 0, 0] S1x4096x64.size inb_S2x4096x64_S1x4096x64_0_0_0).toLoadRect (harg4.unread x2))⟩])) (arg16.view.writes (Elt Ideal) arg16.view.junk [⟨Rect.unit (s := S2x4096x64) ![0, 0, 0] S2x4096x64.size inb_S2x4096x64_S2x4096x64_0_0_0, k0_pay130 (F := Ideal)⟩]) arg16.view.junk (fun L => L ++ [⟨Rect.unit (s := S2x4096x64) ![0, 0, 0] S2x4096x64.size inb_S2x4096x64_S2x4096x64_0_0_0, k0_pay130 (F := Ideal)⟩]) (arg17.view.writes (Elt Ideal) arg17.view.junk [⟨Rect.unit (s := S2x4096x64) ![0, 0, 0] S2x4096x64.size inb_S2x4096x64_S2x4096x64_0_0_0, k0_pay131 (F := Ideal)⟩]) arg17.view.junk (fun L => L ++ [⟨Rect.unit (s := S2x4096x64) ![0, 0, 0] S2x4096x64.size inb_S2x4096x64_S2x4096x64_0_0_0, k0_pay131 (F := Ideal)⟩]) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17
  have h2 := L16_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt Ideal) arg14.view.junk ([⟨Rect.unit (s := S2x4096x64) ![1, 0, 0] S1x4096x64.size inb_S2x4096x64_S1x4096x64_1_0_0, k0_pay128 (k0_pay8 (View.readAt (Elt Ideal) arg3.view (Rect.unit (s := S2x4096x64) ![1, 0, 0] S1x4096x64.size inb_S2x4096x64_S1x4096x64_1_0_0).toLoadRect (harg3.unread x1))) (k0_pay9 (View.readAt (Elt Ideal) arg3.view (Rect.unit (s := S2x4096x64) ![1, 0, 0] S1x4096x64.size inb_S2x4096x64_S1x4096x64_1_0_0).toLoadRect (harg3.unread x1))) (View.readAt (Elt Ideal) arg6.view (Rect.unit (s := S1x64) ![0, 0] S1x64.size inb_S1x64_S1x64_0_0).toLoadRect (harg6.unread x4))⟩, ⟨Rect.unit (s := S2x4096x64) ![0, 0, 0] S1x4096x64.size inb_S2x4096x64_S1x4096x64_0_0_0, k0_pay6 (View.readAt (Elt Ideal) arg3.view (Rect.unit (s := S2x4096x64) ![0, 0, 0] S1x4096x64.size inb_S2x4096x64_S1x4096x64_0_0_0).toLoadRect (harg3.unread x1)) (View.readAt (Elt Ideal) arg6.view (Rect.unit (s := S1x64) ![0, 0] S1x64.size inb_S1x64_S1x64_0_0).toLoadRect (harg6.unread x4))⟩])) (arg15.view.writes (Elt Ideal) arg15.view.junk ([⟨Rect.unit (s := S2x4096x64) ![1, 0, 0] S1x4096x64.size inb_S2x4096x64_S1x4096x64_1_0_0, k0_pay129 (View.readAt (Elt Ideal) arg4.view (Rect.unit (s := S2x4096x64) ![1, 0, 0] S1x4096x64.size inb_S2x4096x64_S1x4096x64_1_0_0).toLoadRect (harg4.unread x2))⟩, ⟨Rect.unit (s := S2x4096x64) ![0, 0, 0] S1x4096x64.size inb_S2x4096x64_S1x4096x64_0_0_0, k0_pay7 (View.readAt (Elt Ideal) arg4.view (Rect.unit (s := S2x4096x64) ![0, 0, 0] S1x4096x64.size inb_S2x4096x64_S1x4096x64_0_0_0).toLoadRect (harg4.unread x2))⟩])) (arg16.view.writes (Elt Ideal) arg16.view.junk [⟨Rect.unit (s := S2x4096x64) ![0, 0, 0] S2x4096x64.size inb_S2x4096x64_S2x4096x64_0_0_0, k0_pay130 (F := Ideal)⟩]) arg16.view.junk (fun L => L ++ [⟨Rect.unit (s := S2x4096x64) ![0, 0, 0] S2x4096x64.size inb_S2x4096x64_S2x4096x64_0_0_0, k0_pay130 (F := Ideal)⟩]) (arg17.view.writes (Elt Ideal) arg17.view.junk [⟨Rect.unit (s := S2x4096x64) ![0, 0, 0] S2x4096x64.size inb_S2x4096x64_S2x4096x64_0_0_0, k0_pay131 (F := Ideal)⟩]) arg17.view.junk (fun L => L ++ [⟨Rect.unit (s := S2x4096x64) ![0, 0, 0] S2x4096x64.size inb_S2x4096x64_S2x4096x64_0_0_0, k0_pay131 (F := Ideal)⟩]) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 hA16
  have h3 := L17_is (A := A) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg14.view.writes (Elt Ideal) arg14.view.junk ([⟨Rect.unit (s := S2x4096x64) ![1, 0, 0] S1x4096x64.size inb_S2x4096x64_S1x4096x64_1_0_0, k0_pay128 (k0_pay8 (View.readAt (Elt Ideal) arg3.view (Rect.unit (s := S2x4096x64) ![1, 0, 0] S1x4096x64.size inb_S2x4096x64_S1x4096x64_1_0_0).toLoadRect (harg3.unread x1))) (k0_pay9 (View.readAt (Elt Ideal) arg3.view (Rect.unit (s := S2x4096x64) ![1, 0, 0] S1x4096x64.size inb_S2x4096x64_S1x4096x64_1_0_0).toLoadRect (harg3.unread x1))) (View.readAt (Elt Ideal) arg6.view (Rect.unit (s := S1x64) ![0, 0] S1x64.size inb_S1x64_S1x64_0_0).toLoadRect (harg6.unread x4))⟩, ⟨Rect.unit (s := S2x4096x64) ![0, 0, 0] S1x4096x64.size inb_S2x4096x64_S1x4096x64_0_0_0, k0_pay6 (View.readAt (Elt Ideal) arg3.view (Rect.unit (s := S2x4096x64) ![0, 0, 0] S1x4096x64.size inb_S2x4096x64_S1x4096x64_0_0_0).toLoadRect (harg3.unread x1)) (View.readAt (Elt Ideal) arg6.view (Rect.unit (s := S1x64) ![0, 0] S1x64.size inb_S1x64_S1x64_0_0).toLoadRect (harg6.unread x4))⟩])) (arg15.view.writes (Elt Ideal) arg15.view.junk ([⟨Rect.unit (s := S2x4096x64) ![1, 0, 0] S1x4096x64.size inb_S2x4096x64_S1x4096x64_1_0_0, k0_pay129 (View.readAt (Elt Ideal) arg4.view (Rect.unit (s := S2x4096x64) ![1, 0, 0] S1x4096x64.size inb_S2x4096x64_S1x4096x64_1_0_0).toLoadRect (harg4.unread x2))⟩, ⟨Rect.unit (s := S2x4096x64) ![0, 0, 0] S1x4096x64.size inb_S2x4096x64_S1x4096x64_0_0_0, k0_pay7 (View.readAt (Elt Ideal) arg4.view (Rect.unit (s := S2x4096x64) ![0, 0, 0] S1x4096x64.size inb_S2x4096x64_S1x4096x64_0_0_0).toLoadRect (harg4.unread x2))⟩])) (arg16.view.writes (Elt Ideal) arg16.view.junk [⟨Rect.unit (s := S2x4096x64) ![0, 0, 0] S2x4096x64.size inb_S2x4096x64_S2x4096x64_0_0_0, k0_pay130 (F := Ideal)⟩]) arg16.view.junk (fun L => L ++ [⟨Rect.unit (s := S2x4096x64) ![0, 0, 0] S2x4096x64.size inb_S2x4096x64_S2x4096x64_0_0_0, k0_pay130 (F := Ideal)⟩]) (arg17.view.writes (Elt Ideal) arg17.view.junk [⟨Rect.unit (s := S2x4096x64) ![0, 0, 0] S2x4096x64.size inb_S2x4096x64_S2x4096x64_0_0_0, k0_pay131 (F := Ideal)⟩]) arg17.view.junk (fun L => L ++ [⟨Rect.unit (s := S2x4096x64) ![0, 0, 0] S2x4096x64.size inb_S2x4096x64_S2x4096x64_0_0_0, k0_pay131 (F := Ideal)⟩]) (View.readAt (Elt Ideal) arg2.view (Rect.unit (s := S2x512x64) ![0, 0, 0] S1x512x64.size inb_S2x512x64_S1x512x64_0_0_0).toLoadRect (harg2.unread x0)) (View.readAt (Elt Ideal) arg2.view (Rect.unit (s := S2x512x64) ![1, 0, 0] S1x512x64.size inb_S2x512x64_S1x512x64_1_0_0).toLoadRect (harg2.unread x0)) (View.readAt (Elt Ideal) arg5.view (Rect.unit (s := S1x64) ![0, 0] S1x64.size inb_S1x64_S1x64_0_0).toLoadRect (harg5.unread x3)) (View.readAt (Elt Ideal) arg8.view (Rect.unit (s := S2x512x64) ![0, 0, 0] S1x512x64.size inb_S2x512x64_S1x512x64_0_0_0).toLoadRect (harg8.unread x6)) (View.readAt (Elt Ideal) arg8.view (Rect.unit (s := S2x512x64) ![1, 0, 0] S1x512x64.size inb_S2x512x64_S1x512x64_1_0_0).toLoadRect (harg8.unread x6)) (View.readAt (Elt Ideal) arg7.view (Rect.unit (s := S2x512x128) ![0, 0, 0] S1x512x128.size inb_S2x512x128_S1x512x128_0_0_0).toLoadRect (harg7.unread x5)) (View.readAt (Elt Ideal) arg7.view (Rect.unit (s := S2x512x128) ![1, 0, 0] S1x512x128.size inb_S2x512x128_S1x512x128_1_0_0).toLoadRect (harg7.unread x5)) hxa hxb (hg 0) (hg 1) hda hdb hoa hob hk hv h16 h17 hA17
  replace hp := row_load arg12 harg12 hp inb_S1x64_S1x64_0_0
  refine ⟨?_, ?_, ?_, ?_, ?_, ?_⟩
  · unfold out0_D_7
    exact dq_is hq0 hR hxa hxb hg VO0_7.junk
  · unfold out0_D_10
    exact dgq_is hq0 hR hxa hxb hp VO0_10.junk arg12.view []
  · unfold sout0_D_2
    exact (through v2 h2).congr fun _ _ _ => zero_add _
  · unfold sout0_D_3
    exact (through v3 h3).congr fun _ _ _ => zero_add _
  · unfold sout0_D_0
    exact throughB v0 hk
  · unfold sout0_D_1
    exact throughB v1 hv

theorem keep_out0_B_11  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xs0 : Vec Ideal S2x4096x64 .bf16) (xs1 : Vec Ideal S2x4096x64 .bf16) (xs2 : Vec Ideal S2x4096x64 .f32) (xs3 : Vec Ideal S2x4096x64 .f32) (xo11 : Vec Ideal S1x64 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3 xo11 = xo11 := rfl

theorem keep_sout0_B_0  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xs0 : Vec Ideal S2x4096x64 .bf16) (xs1 : Vec Ideal S2x4096x64 .bf16) (xs2 : Vec Ideal S2x4096x64 .f32) (xs3 : Vec Ideal S2x4096x64 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3 = xs0 := rfl

theorem keep_sout0_B_1  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xs0 : Vec Ideal S2x4096x64 .bf16) (xs1 : Vec Ideal S2x4096x64 .bf16) (xs2 : Vec Ideal S2x4096x64 .f32) (xs3 : Vec Ideal S2x4096x64 .f32) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xs0 xs1 xs2 xs3 = xs1 := rfl

theorem keep_sout0_C_0  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xo11 : Vec Ideal S1x64 .f32) (xs0 : Vec Ideal S2x4096x64 .bf16) (xs1 : Vec Ideal S2x4096x64 .bf16) (xs2 : Vec Ideal S2x4096x64 .f32) (xs3 : Vec Ideal S2x4096x64 .f32) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3 = xs0 := rfl

theorem keep_sout0_C_1  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : ¬cond0_1 i) (hc2 : cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xo11 : Vec Ideal S1x64 .f32) (xs0 : Vec Ideal S2x4096x64 .bf16) (xs1 : Vec Ideal S2x4096x64 .bf16) (xs2 : Vec Ideal S2x4096x64 .f32) (xs3 : Vec Ideal S2x4096x64 .f32) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 xs0 xs1 xs2 xs3 = xs1 := rfl

theorem keep_out0_D_11  (c : Dev nD) (i : grid0.Coords) (arg2 : Memref sig .tc .vmem S2x512x64 .f32) (harg2 : arg2.IsWhole) (arg3 : Memref sig .tc .vmem S2x4096x64 .f32) (harg3 : arg3.IsWhole) (arg4 : Memref sig .tc .vmem S2x4096x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S2x512x128 .f32) (harg7 : arg7.IsWhole) (arg8 : Memref sig .tc .vmem S2x512x64 .f32) (harg8 : arg8.IsWhole) (arg9 : Memref sig .tc .vmem S2x512x64 .bf16) (harg9 : arg9.IsWhole) (arg10 : Memref sig .tc .vmem S2x4096x64 .bf16) (harg10 : arg10.IsWhole) (arg11 : Memref sig .tc .vmem S2x4096x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S2x4096x64 .bf16) (harg14 : arg14.IsWhole) (arg15 : Memref sig .tc .vmem S2x4096x64 .bf16) (harg15 : arg15.IsWhole) (arg16 : Memref sig .tc .vmem S2x4096x64 .f32) (harg16 : arg16.IsWhole) (arg17 : Memref sig .tc .vmem S2x4096x64 .f32) (harg17 : arg17.IsWhole) (hc0 : ¬cond0_0 i) (hc1 : cond0_1 i) (hc2 : ¬cond0_2 i)
    (x0 : Vec Ideal S2x512x64 .f32) (x1 : Vec Ideal S2x4096x64 .f32) (x2 : Vec Ideal S2x4096x64 .f32) (x3 : Vec Ideal S1x64 .f32) (x4 : Vec Ideal S1x64 .f32) (x5 : Vec Ideal S2x512x128 .f32) (x6 : Vec Ideal S2x512x64 .f32) (xo10 : Vec Ideal S1x64 .f32) (xo11 : Vec Ideal S1x64 .f32) :
    out0_D_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xo10 xo11 = xo11 := rfl

end Cert.Attn
-- ==== Proof.Sweep.lean ====
module

public import proofs.«01_k».proof.Proof.Cases
public import proofs.«01_k».proof.Proof.Gen.KernelIdeal.Value

@[expose] public section

/-!
# The points one after the other

`inv` says, by induction over the points, what the kernel's results and the arrays it keeps hold after each point;
`res_dq` … `res_dgk` say which real numbers the kernel's five results are.
-/

set_option maxRecDepth 16384

namespace Cert.Attn

open Idealize.ShloMosaic Cert.KernelIdeal Cert.KernelIdeal.Gen Cert.KernelIdeal.Value Finset

/-- The second coordinate of a point is the block of queries it works on. -/
theorem coords1 : ∀ t : Fin cfg0.N, ((grid0.coords t) 1).val = t.val % 8 :=
  (by decide +kernel : ∀ t : Fin grid0.N, _)

set_option maxHeartbeats 1000000

attribute [local irreducible] outsAt0 out0_A_7 out0_A_8 out0_A_9 out0_A_10 out0_A_11 out0_B_7 out0_B_8 out0_B_9 out0_B_10 out0_B_11 out0_C_7 out0_C_8 out0_C_9 out0_C_10 out0_C_11 out0_D_7 out0_D_8 out0_D_9 out0_D_10 out0_D_11 sout0_A_0 sout0_A_1 sout0_A_2 sout0_A_3 sout0_B_0 sout0_B_1 sout0_B_2 sout0_B_3 sout0_C_0 sout0_C_1 sout0_C_2 sout0_C_3 sout0_D_0 sout0_D_1 sout0_D_2 sout0_D_3

section Sums

/-- A sum over consecutive blocks is the sum over all of them. -/
theorem sum_blocks (b n : ℕ) (f : ℕ → ℝ) : ∑ q ∈ range n, ∑ r ∈ range b, f (b * q + r) = ∑ x ∈ range (b * n), f x := by
  induction n with
  | zero => simp
  | succ n ih => rw [sum_range_succ, ih, Nat.mul_succ, sum_range_add_shift]

variable (inp : ℕ → Raw)

/-- What point `k` adds to the cotangent of the queries' gain. -/
noncomputable def pq (k d : ℕ) : ℝ :=
  ∑ r ∈ range 512, (inp (2 * (k / 8) + 0)).PQ (512 * (k % 8) + r) d + ∑ r ∈ range 512, (inp (2 * (k / 8) + 1)).PQ (512 * (k % 8) + r) d

/-- What the `k`-th pair of heads adds to the cotangent of the keys' gain. -/
noncomputable def pk (k d : ℕ) : ℝ :=
  ∑ j ∈ range 4096, (inp (2 * k + 0)).PK j d + ∑ j ∈ range 4096, (inp (2 * k + 1)).PK j d

theorem pk_sum (d : ℕ) : ∑ k ∈ range 4, pk inp k d = ∑ h ∈ range 8, ∑ j ∈ range 4096, (inp h).PK j d := by
  rw [← sum_blocks 2 4 fun h => ∑ j ∈ range 4096, (inp h).PK j d]
  exact sum_congr rfl fun k _ => by rw [pk, sum_range_succ _ 1, sum_range_one]

theorem pq_sum (d : ℕ) : ∑ k ∈ range 32, pq inp k d = ∑ h ∈ range 8, ∑ i ∈ range 4096, (inp h).PQ i d := by
  rw [← sum_blocks 2 4 fun h => ∑ i ∈ range 4096, (inp h).PQ i d, ← sum_blocks 8 4 fun k => pq inp k d]
  refine sum_congr rfl fun k _ => ?_
  rw [sum_range_succ _ 1, sum_range_one, ← sum_blocks 512 8 fun i => (inp (2 * k + 0)).PQ i d,
    ← sum_blocks 512 8 fun i => (inp (2 * k + 1)).PQ i d, ← sum_add_distrib]
  refine sum_congr rfl fun q hq => ?_
  have hq := mem_range.mp hq
  rw [pq, show (8 * k + q) / 8 = k by omega, show (8 * k + q) % 8 = q by omega]

end Sums

/-- What a point leaves. -/
structure Inv (inp : ℕ → Raw) (n : ℕ) (s : Vec Ideal S2x512x64 .bf16 × Vec Ideal S2x4096x64 .bf16 × Vec Ideal S2x4096x64 .bf16 ×
    Vec Ideal S1x64 .f32 × Vec Ideal S1x64 .f32 × Vec Ideal S2x4096x64 .bf16 × Vec Ideal S2x4096x64 .bf16 ×
    Vec Ideal S2x4096x64 .f32 × Vec Ideal S2x4096x64 .f32) : Prop where
  dq : Is3 (l := 2) (m := 512) (n := 64) s.1 fun e r d => (inp (2 * (n / 8) + e)).DQ (512 * (n % 8) + r) d
  dgq : Is2 (m := 1) (n := 64) s.2.2.2.1 fun _ d => ∑ k ∈ range (n + 1), pq inp k d
  dgk : Is2 (m := 1) (n := 64) s.2.2.2.2.1 fun _ d => ∑ k ∈ range ((n + 1) / 8), pk inp k d
  kn : Is3 (l := 2) (m := 4096) (n := 64) s.2.2.2.2.2.1 fun e j d => (inp (2 * (n / 8) + e)).head.KN j d
  vb : Is3 (l := 2) (m := 4096) (n := 64) s.2.2.2.2.2.2.1 fun e j d => (inp (2 * (n / 8) + e)).head.V j d
  dkn : Is3 (l := 2) (m := 4096) (n := 64) s.2.2.2.2.2.2.2.1 fun e j d =>
    ∑ q ∈ range (n % 8 + 1), gK (fun e => (inp (2 * (n / 8) + e)).head) (512 * q) e j d
  dva : Is3 (l := 2) (m := 4096) (n := 64) s.2.2.2.2.2.2.2.2 fun e j d =>
    ∑ q ∈ range (n % 8 + 1), gV (fun e => (inp (2 * (n / 8) + e)).head) (512 * q) e j d
  dk : n % 8 = 7 → Is3 (l := 2) (m := 4096) (n := 64) s.2.1 fun e j d => (inp (2 * (n / 8) + e)).DK j d
  dv : n % 8 = 7 → Is3 (l := 2) (m := 4096) (n := 64) s.2.2.1 fun e j d => (inp (2 * (n / 8) + e)).DV j d

section Points

variable (m : ∀ k : Loc nD τ sig, Buf (Elt Ideal) k) (c : Dev nD) {inp : ℕ → Raw}

/-- The blocks that point `t` reads. -/
abbrev Reads (inp : ℕ → Raw) : Prop :=
  ∀ t : Fin cfg0.N, Blocks (fun e => inp (2 * (t.val / 8) + e)) (512 * (t.val % 8)) (iblk m c 0 t) (iblk m c 1 t) (iblk m c 2 t) (iblk m c 3 t) (iblk m c 4 t) (iblk m c 5 t) (iblk m c 6 t)

theorem inv_A (hR : Reads m c inp) (t : Fin cfg0.N) (h0 : t.val % 32 = 0) (h1 : t.val % 8 = 0) (h2 : ¬t.val % 8 = 7) :
    Inv inp t.val (outsAt0 m c t.val t.isLt) := by
  have hN : t.val < 32 := lt_of_lt_of_eq t.isLt N_0
  have hz : t.val = 0 := by omega
  obtain ⟨e7, e10, e2, e3, e0, e1, e11⟩ := case_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)  (congrArg (512 * ·) (coords1 t)) (hR t) rfl rfl rfl rfl
  rw [outsAt0_A m c t h0 h1 h2]
  refine ⟨e7, fun r d => (e10 r d).trans (congrArg _ ?_), fun r d => (e11 r d).trans (congrArg _ ?_), e0, e1, ?_, ?_, fun h => absurd h h2, fun h => absurd h h2⟩
  · beta_reduce
    simp only [hz, zero_add, range_one, sum_singleton, pq]
  · beta_reduce
    simp only [hz, zero_add]
    rfl
  · exact fun e j d => (e2 e j d).trans (congrArg _ (by beta_reduce; rw [h1, zero_add, sum_range_one]))
  · exact fun e j d => (e3 e j d).trans (congrArg _ (by beta_reduce; rw [h1, zero_add, sum_range_one]))

theorem inv_D (hR : Reads m c inp) (t : Fin cfg0.N) (h0 : ¬t.val % 32 = 0) (h1 : t.val % 8 = 0) (h2 : ¬t.val % 8 = 7)
    (hI : Inv inp (t.val - 1) (outsAt0 m c (t.val - 1) (Nat.lt_of_le_of_lt (Nat.sub_le _ _) t.isLt))) :
    Inv inp t.val (outsAt0 m c t.val t.isLt) := by
  have hp := hI.dgq
  obtain ⟨e7, e10, e2, e3, e0, e1⟩ := case_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (congrArg (512 * ·) (coords1 t)) (hR t) rfl rfl rfl rfl hp
  rw [outsAt0_D m c t h0 h1 h2]
  refine ⟨e7, fun r d => (e10 r d).trans (congrArg _ ?_), ?_, e0, e1, ?_, ?_, fun h => absurd h h2, fun h => absurd h h2⟩
  · beta_reduce
    rw [sum_range_succ _ t.val, show t.val - 1 + 1 = t.val by omega, add_assoc]
    rfl
  · have hg := hI.dgk
    rw [show (t.val - 1 + 1) / 8 = (t.val + 1) / 8 by omega] at hg
    dsimp only
    rw [keep_out0_D_11]
    exact hg
  · exact fun e j d => (e2 e j d).trans (congrArg _ (by beta_reduce; rw [h1, zero_add, sum_range_one]))
  · exact fun e j d => (e3 e j d).trans (congrArg _ (by beta_reduce; rw [h1, zero_add, sum_range_one]))

theorem inv_B (hR : Reads m c inp) (t : Fin cfg0.N) (h0 : ¬t.val % 32 = 0) (h1 : ¬t.val % 8 = 0) (h2 : ¬t.val % 8 = 7)
    (hI : Inv inp (t.val - 1) (outsAt0 m c (t.val - 1) (Nat.lt_of_le_of_lt (Nat.sub_le _ _) t.isLt))) :
    Inv inp t.val (outsAt0 m c t.val t.isLt) := by
  have hp := hI.dgq
  have hk := hI.kn
  have hv := hI.vb
  have h16 := hI.dkn
  have h17 := hI.dva
  have ed : (t.val - 1) / 8 = t.val / 8 := by omega
  have em : (t.val - 1) % 8 + 1 = t.val % 8 := by omega
  rw [ed] at hk hv h16 h17
  rw [em] at h16 h17
  obtain ⟨e7, e10, e2, e3⟩ := case_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (congrArg (512 * ·) (coords1 t)) (hR t) hk hv h16 h17 hp
  rw [outsAt0_B m c t h0 h1 h2]
  refine ⟨e7, fun r d => (e10 r d).trans (congrArg _ ?_), ?_, ?_, ?_, fun e j d => (e2 e j d).trans (congrArg _ ?_), fun e j d => (e3 e j d).trans (congrArg _ ?_), fun h => absurd h h2, fun h => absurd h h2⟩
  · beta_reduce
    rw [sum_range_succ _ t.val, show t.val - 1 + 1 = t.val by omega, add_assoc]
    rfl
  · have hg := hI.dgk
    rw [show (t.val - 1 + 1) / 8 = (t.val + 1) / 8 by omega] at hg
    dsimp only
    rw [keep_out0_B_11]
    exact hg
  · dsimp only
    rw [keep_sout0_B_0]
    exact hk
  · dsimp only
    rw [keep_sout0_B_1]
    exact hv
  · beta_reduce
    rw [sum_range_succ _ (t.val % 8)]
  · beta_reduce
    rw [sum_range_succ _ (t.val % 8)]

theorem inv_C (hR : Reads m c inp) (t : Fin cfg0.N) (h0 : ¬t.val % 32 = 0) (h1 : ¬t.val % 8 = 0) (h2 : t.val % 8 = 7)
    (hI : Inv inp (t.val - 1) (outsAt0 m c (t.val - 1) (Nat.lt_of_le_of_lt (Nat.sub_le _ _) t.isLt))) :
    Inv inp t.val (outsAt0 m c t.val t.isLt) := by
  have hp := hI.dgq
  have hpk := hI.dgk
  have hk := hI.kn
  have hv := hI.vb
  have h16 := hI.dkn
  have h17 := hI.dva
  have ed : (t.val - 1) / 8 = t.val / 8 := by omega
  have em : (t.val - 1) % 8 + 1 = t.val % 8 := by omega
  rw [ed] at hk hv h16 h17
  rw [em] at h16 h17
  obtain ⟨e7, e10, e2, e3, e8, e9, e11⟩ := case_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (congrArg (512 * ·) (coords1 t)) (hR t) hk hv h16 h17 hp
    (fun e j d => by
      rw [h2, ← sum_range_succ (fun q => gK (fun e => (inp (2 * (t.val / 8) + e)).head) (512 * q) e j d) 7]
      exact sum_blocks 512 8 fun i => (inp (2 * (t.val / 8) + e)).head.DZ i j * (inp (2 * (t.val / 8) + e)).head.QN i d)
    (fun e j d => by
      rw [h2, ← sum_range_succ (fun q => gV (fun e => (inp (2 * (t.val / 8) + e)).head) (512 * q) e j d) 7]
      exact sum_blocks 512 8 fun i => (inp (2 * (t.val / 8) + e)).head.W i j * (inp (2 * (t.val / 8) + e)).head.DO i d) hpk
  rw [outsAt0_C m c t h0 h1 h2]
  refine ⟨e7, fun r d => (e10 r d).trans (congrArg _ ?_), fun r d => (e11 r d).trans (congrArg _ ?_), ?_, ?_, fun e j d => (e2 e j d).trans (congrArg _ ?_), fun e j d => (e3 e j d).trans (congrArg _ ?_), fun _ => e8, fun _ => e9⟩
  · beta_reduce
    rw [sum_range_succ _ t.val, show t.val - 1 + 1 = t.val by omega, add_assoc]
    rfl
  · beta_reduce
    rw [show (t.val + 1) / 8 = t.val / 8 + 1 by omega, sum_range_succ _ (t.val / 8), show (t.val - 1 + 1) / 8 = t.val / 8 by omega, add_assoc]
    rfl
  · dsimp only
    rw [keep_sout0_C_0]
    exact hk
  · dsimp only
    rw [keep_sout0_C_1]
    exact hv
  · beta_reduce
    rw [sum_range_succ _ (t.val % 8)]
  · beta_reduce
    rw [sum_range_succ _ (t.val % 8)]

/-- What the kernel holds after each of its points. -/
theorem inv (hR : Reads m c inp) : ∀ (n : ℕ) (hn : n < cfg0.N), Inv inp n (outsAt0 m c n hn)
  | 0, hn => inv_A m c hR ⟨0, hn⟩ rfl rfl (fun h => absurd (show (0 : ℕ) % 8 = 7 from h) (by decide))
  | n + 1, hn => by
    have hN : n + 1 < 32 := lt_of_lt_of_eq hn N_0
    have ih := inv hR n (Nat.lt_of_succ_lt hn)
    by_cases h1 : (n + 1) % 8 = 0
    · exact inv_D m c hR ⟨n + 1, hn⟩ (by show ¬(n + 1) % 32 = 0; omega) h1 (by show ¬(n + 1) % 8 = 7; omega) ih
    · by_cases h2 : (n + 1) % 8 = 7
      · exact inv_C m c hR ⟨n + 1, hn⟩ (by show ¬(n + 1) % 32 = 0; omega) h1 h2 ih
      · exact inv_B m c hR ⟨n + 1, hn⟩ (by show ¬(n + 1) % 32 = 0; omega) h1 h2 ih

/-- The cotangent of the queries. -/
theorem res_dq (hR : Reads m c inp) : Is3 (l := 8) (m := 4096) (n := 64) (G7 m c) fun h i d => (inp h).DQ i d := by
  intro h i d
  have hh := h.isLt
  have hi := i.isLt
  have hd := d.isLt
  have hp : pt7Of (ix3 h i d) = 8 * (h.val / 2) + i.val / 512 := by
    show 8 * (h.val / 2 - 0) + 1 * (i.val / 512 - 0) + 1 * (d.val / 64 - 0) = _
    omega
  have hlt : 8 * (h.val / 2) + i.val / 512 < cfg0.N := lt_of_lt_of_eq (by omega) N_0.symm
  have hl : loc7Of (ix3 h i d) = ix3 (n0 := 2) (n1 := 512) (n2 := 64) ⟨h.val % 2, by omega⟩ ⟨i.val % 512, by omega⟩ ⟨d.val, hd⟩ := by
    funext a
    apply Fin.ext
    match a with
    | ⟨0, _⟩ => rfl
    | ⟨1, _⟩ => rfl
    | ⟨2, _⟩ => show d.val % 64 = d.val; omega
  unfold G7
  rw [dif_pos (by rw [hp]; exact hlt), hl, fold0_congr m c _ _ _ (by rw [zero_add]; exact hlt) hp, ← outsAt0_sweep m c _ hlt]
  refine ((inv m c hR _ hlt).dq _ _ _).trans (congrArg _ ?_)
  show (inp (2 * ((8 * (h.val / 2) + i.val / 512) / 8) + h.val % 2)).DQ (512 * ((8 * (h.val / 2) + i.val / 512) % 8) + i.val % 512) d.val = _
  rw [show 2 * ((8 * (h.val / 2) + i.val / 512) / 8) + h.val % 2 = h.val by omega,
    show 512 * ((8 * (h.val / 2) + i.val / 512) % 8) + i.val % 512 = i.val by omega]

/-- The cotangent of the keys. -/
theorem res_dk (hR : Reads m c inp) : Is3 (l := 8) (m := 4096) (n := 64) (G8 m c) fun h j d => (inp h).DK j d := by
  intro h i d
  have hh := h.isLt
  have hi := i.isLt
  have hd := d.isLt
  have hp : pt8Of (ix3 h i d) = 8 * (h.val / 2) + 7 := by
    show 8 * (1 * (h.val / 2 - 0) + 1 * (i.val / 4096 - 0) + 1 * (d.val / 64 - 0)) + 7 = _
    omega
  have hlt : 8 * (h.val / 2) + 7 < cfg0.N := lt_of_lt_of_eq (by omega) N_0.symm
  have hl : loc8Of (ix3 h i d) = ix3 (n0 := 2) (n1 := 4096) (n2 := 64) ⟨h.val % 2, by omega⟩ ⟨i.val, hi⟩ ⟨d.val, hd⟩ := by
    funext a
    apply Fin.ext
    match a with
    | ⟨0, _⟩ => rfl
    | ⟨1, _⟩ => show i.val % 4096 = i.val; omega
    | ⟨2, _⟩ => show d.val % 64 = d.val; omega
  unfold G8
  rw [dif_pos (by rw [hp]; exact hlt), hl, fold0_congr m c _ _ _ (by rw [zero_add]; exact hlt) hp, ← outsAt0_sweep m c _ hlt]
  refine ((inv m c hR _ hlt).dk (by omega) _ _ _).trans (congrArg _ ?_)
  show (inp (2 * ((8 * (h.val / 2) + 7) / 8) + h.val % 2)).DK i.val d.val = _
  rw [show 2 * ((8 * (h.val / 2) + 7) / 8) + h.val % 2 = h.val by omega]

/-- The cotangent of the values. -/
theorem res_dv (hR : Reads m c inp) : Is3 (l := 8) (m := 4096) (n := 64) (G9 m c) fun h j d => (inp h).DV j d := by
  intro h i d
  have hh := h.isLt
  have hi := i.isLt
  have hd := d.isLt
  have hp : pt9Of (ix3 h i d) = 8 * (h.val / 2) + 7 := by
    show 8 * (1 * (h.val / 2 - 0) + 1 * (i.val / 4096 - 0) + 1 * (d.val / 64 - 0)) + 7 = _
    omega
  have hlt : 8 * (h.val / 2) + 7 < cfg0.N := lt_of_lt_of_eq (by omega) N_0.symm
  have hl : loc9Of (ix3 h i d) = ix3 (n0 := 2) (n1 := 4096) (n2 := 64) ⟨h.val % 2, by omega⟩ ⟨i.val, hi⟩ ⟨d.val, hd⟩ := by
    funext a
    apply Fin.ext
    match a with
    | ⟨0, _⟩ => rfl
    | ⟨1, _⟩ => show i.val % 4096 = i.val; omega
    | ⟨2, _⟩ => show d.val % 64 = d.val; omega
  unfold G9
  rw [dif_pos (by rw [hp]; exact hlt), hl, fold0_congr m c _ _ _ (by rw [zero_add]; exact hlt) hp, ← outsAt0_sweep m c _ hlt]
  refine ((inv m c hR _ hlt).dv (by omega) _ _ _).trans (congrArg _ ?_)
  show (inp (2 * ((8 * (h.val / 2) + 7) / 8) + h.val % 2)).DV i.val d.val = _
  rw [show 2 * ((8 * (h.val / 2) + 7) / 8) + h.val % 2 = h.val by omega]

/-- The cotangent of the queries' gain. -/
theorem res_dgq (hR : Reads m c inp) : Is2 (m := 1) (n := 64) (G10 m c) fun _ d => ∑ h ∈ range 8, ∑ i ∈ range 4096, (inp h).PQ i d := by
  have hlt : 31 < cfg0.N := lt_of_lt_of_eq (by decide) N_0.symm
  rw [G10_last, ← outsAt0_sweep m c _ hlt]
  exact fun r d => ((inv m c hR _ hlt).dgq r d).trans (congrArg _ (pq_sum inp d.val))

/-- The cotangent of the keys' gain. -/
theorem res_dgk (hR : Reads m c inp) : Is2 (m := 1) (n := 64) (G11 m c) fun _ d => ∑ h ∈ range 8, ∑ i ∈ range 4096, (inp h).PK i d := by
  have hlt : 31 < cfg0.N := lt_of_lt_of_eq (by decide) N_0.symm
  rw [G11_last, ← outsAt0_sweep m c _ hlt]
  exact fun r d => ((inv m c hR _ hlt).dgk r d).trans (congrArg _ (pk_sum inp d.val))

end Points

end Cert.Attn
-- ==== Proof.Saved.lean ====
module

public import proofs.«01_k».proof.Proof.Gen.KernelIdeal.Value
public import proofs.«01_k».proof.Proof.Gen.ReferenceIdeal.Read
public import Idealize.ShloMosaic.Lib.Pointwise
public import Idealize.ShloMosaic.Lib.Claim
public import Idealize.ShloMosaic.Lib.StableHlo.ReadAt

@[expose] public section

/-!
# The saved outputs as the kernel receives them

The host makes the saved outputs and the totals from the arguments before the kernel starts. They are written here with the
names of the reference's own arrays.
-/

set_option maxHeartbeats 4000000

noncomputable section

namespace Cert.Attn

open Cert.KernelIdeal Cert.KernelIdeal.Gen Idealize.ShloMosaic Idealize.ShloMosaic.TcCoe Finset

variable (m : (ℓ : Loc nD τ sig) → Buf (Elt Ideal) ℓ) (c : Dev nD)

/-- The saved outputs with the totals beside them, as arrays of the arguments. -/
theorem saved_entry : V m c main_v89 = concatenate S8x4096x128 2 [⟨S8x4096x64, Cert.ReferenceIdeal.Read.val_main_v50 (F := Ideal) (m (c, Proc.tc.devRef main_arg0)) (m (c, Proc.tc.devRef main_arg1)) (m (c, Proc.tc.devRef main_arg2)) (m (c, Proc.tc.devRef main_arg3)) (m (c, Proc.tc.devRef main_arg4))⟩,
    ⟨S8x4096x64, (broadcastInDim S8x4096x64 ![0, 1, 2] bcast_S8x4096x1_S8x4096x64_0_1_2 (Host.divf (broadcastInDim S8x4096x1 ![0, 1] bcast_S8x4096_S8x4096x1_0_1
     (Host.reduceAdd (Cert.ReferenceIdeal.Read.val_main_v44_0 (F := Ideal) (m (c, Proc.tc.devRef main_arg0)) (m (c, Proc.tc.devRef main_arg1)) (m (c, Proc.tc.devRef main_arg3)) (m (c, Proc.tc.devRef main_arg4))) (constant S_ .f32 0x00000000#32) reducesTo_S8x4096x4096_S8x4096_d2 h_S_))
     (broadcastInDim S8x4096x1 ![] bcast_S_S8x4096x1 (Host.log (constant (F := Ideal) S_ .f32 0x40000000#32)))) : FVec Ideal S8x4096x64 .f32)⟩] concatenates_S8x4096x64_S8x4096x64_S8x4096x128_d2 := by
  unfold_abbrev_sides
  after_reads_simp
  try simp -implicitDefEqProofs only [StableHlo.TRef.toBuf, StableHlo.TRef.ofBuf, cast_cast, cast_eq]
  rfl

end Cert.Attn

end
-- ==== Proof.Entry.lean ====
module

public import proofs.«01_k».proof.Proof.Sweep
public import proofs.«01_k».proof.Proof.Ref
public import proofs.«01_k».proof.Proof.Saved
public import Idealize.ShloMosaic.Lib.Pipeline.ValueKit.Point

@[expose] public section

/-!
# What the kernel's windows hold

The blocks that a point reads are the rows of the arguments that belong to it, and the column of totals is the sum of the
logarithms of what the keys leave.
-/

set_option maxHeartbeats 4000000

noncomputable section

namespace Cert.Attn

open Cert.KernelIdeal Cert.KernelIdeal.Gen Idealize.ShloMosaic Idealize.ShloMosaic.TcCoe Finset

variable {m : (ℓ : Loc nD τ sig) → Buf (Elt Ideal) ℓ} {c : Dev nD} {A : ℕ → Raw}

/-- The arguments of a device hold the real numbers of `A`. -/
def ArgsAre (m : (ℓ : Loc nD τ sig) → Buf (Elt Ideal) ℓ) (c : Dev nD) (A : ℕ → Raw) : Prop :=
  Given (m (c, Proc.tc.devRef main_arg0)) (m (c, Proc.tc.devRef main_arg1)) (m (c, Proc.tc.devRef main_arg2)) (m (c, Proc.tc.devRef main_arg5))
    (m (c, Proc.tc.devRef main_arg3)) (m (c, Proc.tc.devRef main_arg4)) A

/-- Which block of its array each window holds at a point. -/
theorem places : ∀ t : Fin cfg0.N, (win0_0.index t = ![t.val / 8, t.val % 8, 0]) ∧ (win0_1.index t = ![t.val / 8, 0, 0]) ∧ (win0_2.index t = ![t.val / 8, 0, 0])
   ∧ (win0_3.index t = ![0, 0]) ∧ (win0_4.index t = ![0, 0]) ∧ (win0_5.index t = ![t.val / 8, t.val % 8, 0]) ∧ (win0_6.index t = ![t.val / 8, t.val % 8, 0]) :=
  (by decide +kernel : ∀ t : Fin grid0.N, _)

theorem pair_lt (t : Fin cfg0.N) (e : Fin 2) : 2 * (t.val / 8) + e.val < 8 := by
  have : t.val < 32 := t.isLt
  omega

theorem row_lt (t : Fin cfg0.N) (r : Fin 512) : 512 * (t.val % 8) + r.val < 4096 := by omega

theorem blk0 (t : Fin cfg0.N) (e : Fin 2) (r : Fin 512) (d : Fin 64) :
    iblk m c 0 t (ix3 e r d) = m (c, Proc.tc.devRef main_arg0) (ix3 ⟨_, pair_lt t e⟩ ⟨_, row_lt t r⟩ d) := by
  refine Eq.trans ?_ (congrFun (V_main_arg0 m c) _)
  blk_ext [iblk, places t]

theorem blk1 (t : Fin cfg0.N) (e : Fin 2) (r : Fin 4096) (d : Fin 64) :
    iblk m c 1 t (ix3 e r d) = m (c, Proc.tc.devRef main_arg1) (ix3 ⟨_, pair_lt t e⟩ r d) := by
  refine Eq.trans ?_ (congrFun (V_main_arg1 m c) _)
  blk_ext [iblk, places t]

theorem blk2 (t : Fin cfg0.N) (e : Fin 2) (r : Fin 4096) (d : Fin 64) :
    iblk m c 2 t (ix3 e r d) = m (c, Proc.tc.devRef main_arg2) (ix3 ⟨_, pair_lt t e⟩ r d) := by
  refine Eq.trans ?_ (congrFun (V_main_arg2 m c) _)
  blk_ext [iblk, places t]

theorem blk3 (t : Fin cfg0.N) (u : Fin 1) (d : Fin 64) : iblk m c 3 t (ix2 u d) = m (c, Proc.tc.devRef main_arg3) (ix2 u d) := by
  refine Eq.trans ?_ (congrFun (V_main_arg3 m c) _)
  blk_ext [iblk, places t]

theorem blk4 (t : Fin cfg0.N) (u : Fin 1) (d : Fin 64) : iblk m c 4 t (ix2 u d) = m (c, Proc.tc.devRef main_arg4) (ix2 u d) := by
  refine Eq.trans ?_ (congrFun (V_main_arg4 m c) _)
  blk_ext [iblk, places t]

theorem blk5 (t : Fin cfg0.N) (e : Fin 2) (r : Fin 512) (d : Fin 128) :
    iblk m c 5 t (ix3 e r d) = V m c main_v89 (ix3 ⟨_, pair_lt t e⟩ ⟨_, row_lt t r⟩ d) := by
  blk_ext [iblk, places t]

theorem blk6 (t : Fin cfg0.N) (e : Fin 2) (r : Fin 512) (d : Fin 64) :
    iblk m c 6 t (ix3 e r d) = m (c, Proc.tc.devRef main_arg5) (ix3 ⟨_, pair_lt t e⟩ ⟨_, row_lt t r⟩ d) := by
  refine Eq.trans ?_ (congrFun (V_main_arg5 m c) _)
  blk_ext [iblk, places t]

theorem tot_at (g : ArgsAre m c A) (h : Fin 8) (i : Fin 4096) : V m c main_v89 (ix3 h i 64) = (((A h.val).tot i.val : ℝ) : EReal) := by
  have e := v44_is g
  rw [saved_entry]
  generalize Cert.ReferenceIdeal.Read.val_main_v44_0 (F := Ideal) _ _ _ _ = X at e ⊢
  pointwise
  rw [coe_sum_fin (fun j => (A h).lm i j) fun j => e h i j, show Ideal.ofBits FTy.f32 1073741824#32 = (((2 : ℝ)) : EReal) from ofBits_2,
    log_coe (by norm_num), div_coe log_two_pos.ne', Raw.tot, div_eq_mul_inv]

/-- Every point reads the real numbers of its pair of heads. -/
theorem reads (g : ArgsAre m c A) (hT : ∀ h i, (A h).T i = (A h).tot i) : Reads m c A := fun t =>
  { q := fun e r d => (blk0 t e r d).trans (g.q _ _ _)
    k := fun e r d => (blk1 t e r d).trans (g.k _ _ _)
    v := fun e r d => (blk2 t e r d).trans (g.v _ _ _)
    gq := fun e u d => (blk3 t u d).trans (g.gq _ u d)
    gk := fun e u d => (blk4 t u d).trans (g.gk _ u d)
    t := fun e r => by
      rw [hT]
      exact (blk5 t e r 64).trans (tot_at g _ _)
    dO := fun e r d => (blk6 t e r d).trans (g.dO _ _ _) }

end Cert.Attn
-- ==== Proof.Algebraic.lean ====
module

public import proofs.«01_k».proof.Proof.Frames
public import proofs.«01_k».proof.Proof.Finite
public import proofs.«01_k».proof.Proof.Entry
public import Idealize.ShloMosaic.Lib.Claim

@[expose] public section

/-!
# The kernel computes the reference's cotangents

On arguments without infinities both programs end with the same five arrays: each holds the same real numbers.
-/

set_option maxHeartbeats 1000000

noncomputable section

namespace Cert.Attn

open Idealize.ShloMosaic Idealize.SL.Sem Idealize.ShloMosaic.StableHlo

theorem Is3.unique {l m n : ℕ} {v w : Shape.Idx ⟨3, ![l, m, n]⟩ → EReal} {f : ℕ → ℕ → ℕ → ℝ} (hv : Is3 v f) (hw : Is3 w f) : v = w := by
  funext i
  rw [← ix3_eta i]
  exact (hv _ _ _).trans (hw _ _ _).symm

theorem Is2.unique {m n : ℕ} {v w : Shape.Idx ⟨2, ![m, n]⟩ → EReal} {f : ℕ → ℕ → ℝ} (hv : Is2 v f) (hw : Is2 w f) : v = w := by
  funext i
  rw [← ix2_eta i]
  exact (hv _ _).trans (hw _ _).symm

section Reference

open Cert.ReferenceIdeal Cert.ReferenceIdeal.Value Cert.ReferenceIdeal.Read

/-- The reference's results as arrays of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v110) = val_main_v110 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v111) = val_main_v111 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v112) = val_main_v112 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v95) = val_main_v95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v72) = val_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v110_eq (launchContents m c)).symm, (h c).2.1.trans (val_main_v111_eq (launchContents m c)).symm,
    (h c).2.2.1.trans (val_main_v112_eq (launchContents m c)).symm, (h c).2.2.2.1.trans (val_main_v95_eq (launchContents m c)).symm,
    (h c).2.2.2.2.1.trans (val_main_v72_eq (launchContents m c)).symm, (h c).2.2.2.2.2⟩) (Cert.ReferenceIdeal.Value.run (F := Ideal) m ρ)

end Reference

/-- The heads that the kernel's arguments hold on a device. -/
def headsAt (m : (ℓ : Loc Cert.KernelIdeal.nD Cert.KernelIdeal.τ Cert.KernelIdeal.sig) → Buf (Elt Ideal) ℓ) (c : Dev Cert.KernelIdeal.nD) : ℕ → Raw :=
  heads (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))

/-- The kernel and the reference end with the same five results. -/
theorem algebraic : Cert.algebraic_KernelIdeal_ReferenceIdeal_pre_finite := by
  intro m ρ m' ρ' hpre hargs
  have hg : ∀ c, ArgsAre m c (headsAt m c) := fun c => heads_given (hpre c)
  have hR : ∀ c, Reads m c (headsAt m c) := fun c => reads (hg c) fun h i => heads_tot _ _ _ _ _ _ h i
  refine ⟨fun c => Cert.KernelIdeal.Value.G7 m c, fun c => Cert.KernelIdeal.Value.G8 m c, fun c => Cert.KernelIdeal.Value.G9 m c,
    fun c => Cert.KernelIdeal.Value.G10 m c, fun c => Cert.KernelIdeal.Value.G11 m c, Cert.KernelIdeal.Value.run m ρ,
    (θ_run Cert.ReferenceIdeal.defs _ _).mono (fun r h c => ?_) (reference_run m' ρ')⟩
  obtain ⟨h0, h1, h2, h3, h4, h5⟩ := h c
  obtain ⟨a0, a1, a2, a3, a4, a5⟩ := hargs c
  rw [a0, a1, a2, a3, a4, a5] at h0 h1 h3 h4
  rw [a0, a1, a3, a4, a5] at h2
  have hT : ∀ h i, (headsAt m c h).T i = (headsAt m c h).tot i := fun h i => heads_tot _ _ _ _ _ _ h i
  exact ⟨h0.trans (Is3.unique (ref_dq hT (hg c)) (res_dq m c (hR c))), h1.trans (Is3.unique (ref_dk hT (hg c)) (res_dk m c (hR c))),
    h2.trans (Is3.unique (ref_dv hT (hg c)) (res_dv m c (hR c))), h3.trans (Is2.unique (ref_dgq hT (hg c)) (res_dgq m c (hR c))),
    h4.trans (Is2.unique (ref_dgk hT (hg c)) (res_dgk m c (hR c))), h5⟩

end Cert.Attn
-- ==== Proof.FfnPay.lean ====
module

public import proofs.«01_k».proof.Proof.Gen.Kernel2Ideal.Frame
public import Idealize.ShloMosaic.Lib.Pointwise
public import Idealize.ShloMosaic.Lib.WritesUnit

@[expose] public section

/-!
# One SwiGLU half-step on a block of 512 rows

The payloads of the forward call, entry by entry, on the extended reals, and the loads and stores they stand between.
-/

set_option maxRecDepth 16384

namespace Cert.Ffn

open Idealize.ShloMosaic Cert.Kernel2Ideal Cert.Kernel2Ideal.Gen Finset

/-- A matrix whose entries are `f i j`. -/
def Mat {m n : ℕ} (v : Shape.Idx ⟨2, ![m, n]⟩ → EReal) (f : ℕ → ℕ → EReal) : Prop :=
  ∀ (i : Fin m) (j : Fin n), v (ix2 i j) = f i.val j.val

theorem Mat.unique {m n : ℕ} {v w : Shape.Idx ⟨2, ![m, n]⟩ → EReal} {f : ℕ → ℕ → EReal} (hv : Mat v f) (hw : Mat w f) : v = w := by
  funext y
  have h : y = ix2 (y 0) (y 1) := funext fun a => match a with
    | ⟨0, _⟩ => rfl
    | ⟨1, _⟩ => rfl
  rw [h]
  exact (hv _ _).trans (hw _ _).symm

/-- The normalised rows. -/
noncomputable def nrm (X : ℕ → ℕ → EReal) (G : ℕ → EReal) (i j : ℕ) : EReal :=
  X i j * Ideal.rsqrt ((∑ k : Fin 1024, X i k.val * X i k.val) * Ideal.ofBits .f32 0x3A800000#32 + Ideal.ofBits .f32 0x358637BD#32) * G j

/-- Rows against the rows of a weight. -/
noncomputable def lin (N W : ℕ → ℕ → EReal) (i f : ℕ) : EReal := ∑ d : Fin 1024, N i d.val * W f d.val

/-- The hidden layer: the sigmoid-weighted gate times the other half. -/
noncomputable def hid (Z U : ℕ → ℕ → EReal) (i f : ℕ) : EReal := Z i f * Ideal.logistic (Z i f) * U i f

/-- The first `n` columns of the hidden layer against the rows of the last weight. -/
noncomputable def part (A D : ℕ → ℕ → EReal) (n i c : ℕ) : EReal := ∑ f ∈ range n, A i f * D f c

theorem part_add (A D : ℕ → ℕ → EReal) (n i c : ℕ) :
    part A D (n + 256) i c = part A D n i c + ∑ f : Fin 256, A i (n + f.val) * D (n + f.val) c := by
  unfold part
  rw [sum_range_add, Fin.sum_univ_eq_sum_range fun f => A i (n + f) * D (n + f) c]

theorem nrm_is {x : FVec Ideal S512x1024 .f32} {g : FVec Ideal S1x1024 .f32} {X : ℕ → ℕ → EReal} {G : ℕ → EReal}
    (hx : Mat x X) (hg : Mat (m := 1) g fun _ => G) : Mat (k0_pay1 (F := Ideal) x g) (nrm X G) := by
  intro i j
  pointwise [k0_pay1]
  unfold nrm
  rw [hx, hg, sum_congr rfl fun k _ => by rw [hx i k]]

section Tile

variable {x : FVec Ideal S512x1024 .bf16} {g u d : Vec Ideal S256x1024 .bf16} {a : FVec Ideal S512x1024 .f32}
  {N W V D A : ℕ → ℕ → EReal} {n : ℕ}

theorem gate_is (hx : Mat x N) (hg : Mat g fun q => W (n + q)) :
    Mat (k0_pay3 (F := Ideal) x g) fun r q => lin N W r (n + q) := by
  intro i j
  pointwise [k0_pay3, k0_pay2]
  exact sum_congr rfl fun k _ => by rw [hx, hg]

theorem gate16_is (hx : Mat x N) (hg : Mat g fun q => W (n + q)) :
    Mat (k0_pay5 (F := Ideal) x g) fun r q => lin N W r (n + q) := by
  intro i j
  pointwise [k0_pay5]
  exact gate_is hx hg i j

theorem hid_is (hx : Mat x N) (hg : Mat g fun q => W (n + q)) (hu : Mat u fun q => V (n + q)) :
    Mat (k0_pay7 (F := Ideal) x g u) fun r q => hid (lin N W) (lin N V) r (n + q) := by
  intro i j
  have hz := gate_is hx hg i j
  have hv : k0_pay4 (F := Ideal) x u (ix2 i j) = _ := gate_is hx hu i j
  unfold k0_pay7
  generalize k0_pay3 (F := Ideal) x g = Y at hz ⊢
  generalize k0_pay4 (F := Ideal) x u = Z at hv ⊢
  pointwise
  rw [hz, hv]
  rfl

theorem first_is (hx : Mat x N) (hg : Mat g fun q => W (0 + q)) (hu : Mat u fun q => V (0 + q)) (hd : Mat d fun q => D (0 + q)) :
    Mat (k0_pay8 (F := Ideal) (k0_pay7 x g u) d) (part (hid (lin N W) (lin N V)) D 256) := by
  intro i j
  have hz := hid_is hx hg hu
  generalize k0_pay7 (F := Ideal) x g u = Y at hz ⊢
  pointwise [k0_pay8]
  refine Eq.trans ?_ ((part_add _ D 0 i.val j.val).symm.trans rfl)
  rw [show part (hid (lin N W) (lin N V)) D 0 i.val j.val = 0 from sum_range_zero _, zero_add]
  exact sum_congr rfl fun k _ => by rw [hz, hd]

theorem step_is (n : ℕ) (hx : Mat x N) (hg : Mat g fun q => W (n + q)) (hu : Mat u fun q => V (n + q)) (hd : Mat d fun q => D (n + q))
    (ha : Mat a (part (hid (lin N W) (lin N V)) D n)) :
    Mat (k0_pay14 (F := Ideal) x g u a d) (part (hid (lin N W) (lin N V)) D (n + 256)) := by
  intro i j
  have hz := hid_is hx hg hu
  have e : k0_pay14 (F := Ideal) x g u a d = k0_pay33 (F := Ideal) (k0_pay7 x g u) a d := rfl
  rw [e]
  generalize k0_pay7 (F := Ideal) x g u = Y at hz ⊢
  pointwise [k0_pay33]
  rw [part_add, ha]
  exact congrArg _ (sum_congr rfl fun k _ => by rw [hz, hd])

end Tile

section Memory

variable {sig : RefSig}

/-- A whole block, loaded. -/
theorem whole_is {m n : ℕ} (a : Memref sig .tc .vmem ⟨2, ![m, n]⟩ .f32) (ha : a.IsWhole) {x : Vec Ideal ⟨2, ![m, n]⟩ .f32}
    {f : ℕ → ℕ → EReal} (hx : Mat x f) (h : ∀ y : Fin 2, (![0, 0] : Fin 2 → ℕ) y + (![m, n] : Fin 2 → ℕ) y ≤ (![m, n] : Fin 2 → ℕ) y) :
    Mat (m := m) (n := n) (View.readAt (Elt Ideal) a.view (Rect.unit (s := ⟨2, ![m, n]⟩) ![0, 0] ![m, n] h).toLoadRect (ha.unread x)) f := by
  intro r d
  refine Eq.trans ?_ (hx r d)
  refine Eq.trans (congrFun (ha.read_unread x) _) (congrArg x (funext fun y => Fin.ext ?_))
  match y with
  | ⟨0, _⟩ => show 0 + 1 * r.val = r.val; omega
  | ⟨1, _⟩ => show 0 + 1 * d.val = d.val; omega

/-- 256 rows of a weight, loaded. -/
theorem rows_is (a : Memref sig .tc .vmem ⟨2, ![2816, 1024]⟩ .bf16) (ha : a.IsWhole) {x : Vec Ideal ⟨2, ![2816, 1024]⟩ .bf16}
    {f : ℕ → ℕ → EReal} (hx : Mat x f) (o : ℕ)
    (h : ∀ y : Fin 2, (![o, 0] : Fin 2 → ℕ) y + (![256, 1024] : Fin 2 → ℕ) y ≤ (![2816, 1024] : Fin 2 → ℕ) y) :
    Mat (m := 256) (n := 1024)
      (View.readAt (Elt Ideal) a.view (Rect.unit (s := ⟨2, ![2816, 1024]⟩) ![o, 0] ![256, 1024] h).toLoadRect (ha.unread x))
      fun q => f (o + q) := by
  intro r d
  have hb : o + 256 ≤ 2816 := h 0
  refine Eq.trans ?_ (hx ⟨o + r.val, by omega⟩ d)
  refine Eq.trans (congrFun (ha.read_unread x) _) (congrArg x (funext fun y => Fin.ext ?_))
  match y with
  | ⟨0, _⟩ => show o + 1 * r.val = o + r.val; omega
  | ⟨1, _⟩ => show 0 + 1 * d.val = d.val; omega

variable {κ : Kind} {sp : Space}

/-- After the stores of `L` the first `n` columns hold `g`. -/
def ColsTo (v : View sig κ sp ⟨2, ![512, 2816]⟩ .bf16) (f : v.ty.Contents (Elt Ideal))
    (L : List (View.Piece (Elt Ideal) ⟨2, ![512, 2816]⟩ .bf16)) (n : ℕ) (g : ℕ → ℕ → EReal) : Prop :=
  ∀ (r : Fin 512) (q : Fin 2816), q.val < n → v.read (Elt Ideal) (v.writes (Elt Ideal) f L) (ix2 r q) = g r.val q.val

theorem cols_nil (v : View sig κ sp ⟨2, ![512, 2816]⟩ .bf16) (f : v.ty.Contents (Elt Ideal)) (g : ℕ → ℕ → EReal) :
    ColsTo v f [] 0 g := fun _ _ h => absurd h (Nat.not_lt_zero _)

theorem cols_cons {v : View sig κ sp ⟨2, ![512, 2816]⟩ .bf16} {f : v.ty.Contents (Elt Ideal)}
    {L : List (View.Piece (Elt Ideal) ⟨2, ![512, 2816]⟩ .bf16)} {g : ℕ → ℕ → EReal} (n : ℕ) (hL : ColsTo v f L n g)
    (h : ∀ y : Fin 2, (![0, n] : Fin 2 → ℕ) y + (![512, 256] : Fin 2 → ℕ) y ≤ (![512, 2816] : Fin 2 → ℕ) y)
    {w : Vec Ideal ⟨2, ![512, 256]⟩ .bf16} (hw : Mat (m := 512) (n := 256) w fun r q => g r (n + q)) :
    ColsTo v f (⟨Rect.unit (s := ⟨2, ![512, 2816]⟩) ![0, n] ![512, 256] h, w⟩ :: L) (n + 256) g := by
  intro r q hq
  by_cases hn : q.val < n
  · refine Eq.trans (View.read_writes_cons_unit_of_not_mem v f h w _ _ rfl (1 : Fin 2) (Or.inl hn)) (hL r q hn)
  · refine (View.read_writes_cons_unit_of_mem v f h w L (ix2 r q) (ix2 r ⟨q.val - n, by omega⟩) rfl ?_).trans ?_
    · intro y
      match y with
      | ⟨0, _⟩ => show r.val = 0 + r.val; omega
      | ⟨1, _⟩ => show q.val = n + (q.val - n); omega
    · rw [hw]
      show g r.val (n + (q.val - n)) = _
      rw [show n + (q.val - n) = q.val by omega]

/-- One store of the whole block. -/
theorem one_is {m n : ℕ} (v : View sig κ sp ⟨2, ![m, n]⟩ .f32) (f : v.ty.Contents (Elt Ideal))
    (h : ∀ y : Fin 2, (![0, 0] : Fin 2 → ℕ) y + (![m, n] : Fin 2 → ℕ) y ≤ (![m, n] : Fin 2 → ℕ) y)
    {w : Vec Ideal ⟨2, ![m, n]⟩ .f32} {g : ℕ → ℕ → EReal} (hw : Mat w g) (L : List (View.Piece (Elt Ideal) ⟨2, ![m, n]⟩ .f32)) :
    Mat (m := m) (n := n) (v.read (Elt Ideal) (v.writes (Elt Ideal) f (⟨Rect.unit (s := ⟨2, ![m, n]⟩) ![0, 0] ![m, n] h, w⟩ :: L))) g := by
  intro r q
  refine (View.read_writes_cons_unit_of_mem v f h w L (ix2 r q) (ix2 r q) rfl ?_).trans (hw r q)
  intro y
  match y with
  | ⟨0, _⟩ => show r.val = 0 + r.val; omega
  | ⟨1, _⟩ => show q.val = 0 + q.val; omega

/-- One store of the whole block in bfloat16. -/
theorem one16_is {m n : ℕ} (v : View sig κ sp ⟨2, ![m, n]⟩ .bf16) (f : v.ty.Contents (Elt Ideal))
    (h : ∀ y : Fin 2, (![0, 0] : Fin 2 → ℕ) y + (![m, n] : Fin 2 → ℕ) y ≤ (![m, n] : Fin 2 → ℕ) y)
    {w : Vec Ideal ⟨2, ![m, n]⟩ .bf16} {g : ℕ → ℕ → EReal} (hw : Mat w g) (L : List (View.Piece (Elt Ideal) ⟨2, ![m, n]⟩ .bf16)) :
    Mat (m := m) (n := n) (v.read (Elt Ideal) (v.writes (Elt Ideal) f (⟨Rect.unit (s := ⟨2, ![m, n]⟩) ![0, 0] ![m, n] h, w⟩ :: L))) g := by
  intro r q
  refine (View.read_writes_cons_unit_of_mem v f h w L (ix2 r q) (ix2 r q) rfl ?_).trans (hw r q)
  intro y
  match y with
  | ⟨0, _⟩ => show r.val = 0 + r.val; omega
  | ⟨1, _⟩ => show q.val = 0 + q.val; omega

end Memory

end Cert.Ffn
-- ==== Proof.FfnPoint.lean ====
module

public import proofs.«01_k».proof.Proof.FfnPay

@[expose] public section

/-!
# What the forward call of the first half-step leaves at a grid point

The accumulator after each of the 11 tiles of 256 hidden columns, and the four blocks that are stored.
-/

set_option maxRecDepth 16384

namespace Cert.Ffn

open Idealize.ShloMosaic Cert.Kernel2Ideal Cert.Kernel2Ideal.Gen Finset

section Point

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S2816x1024 .bf16) (harg3 : arg3.IsWhole)
  (arg4 : Memref sig .tc .vmem S2816x1024 .bf16) (harg4 : arg4.IsWhole)
  (arg5 : Memref sig .tc .vmem S2816x1024 .bf16) (harg5 : arg5.IsWhole)
  (arg6 : Memref sig .tc .vmem S512x1024 .f32) (harg6 : arg6.IsWhole)
  (arg7 : Memref sig .tc .vmem S512x1024 .bf16) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S512x1024 .f32) (harg10 : arg10.IsWhole)
  {x0 : Vec Ideal S512x1024 .f32} {x1 : Vec Ideal S1x1024 .f32} {x2 x3 x4 : Vec Ideal S2816x1024 .bf16}
  {X W V D : ℕ → ℕ → EReal} {G : ℕ → EReal}
  (h0 : Mat x0 X) (h1 : Mat (m := 1) (n := 1024) x1 fun _ => G) (h2 : Mat x2 W) (h3 : Mat x3 V) (h4 : Mat x4 D)

include h0 h1 in
theorem nrm_at : Mat (m := 512) (n := 1024) (k0_pay1 (F := Ideal)
    (View.readAt (Elt Ideal) arg1.view (Rect.unit (s := S512x1024) ![0, 0] S512x1024.size inb_S512x1024_S512x1024_0_0).toLoadRect (harg1.unread x0))
    (View.readAt (Elt Ideal) arg2.view (Rect.unit (s := S1x1024) ![0, 0] S1x1024.size inb_S1x1024_S1x1024_0_0).toLoadRect (harg2.unread x1))) (nrm X G) :=
  nrm_is (whole_is arg1 harg1 h0 _) (whole_is arg2 harg2 h1 _)

include h0 h1 in
theorem held_nrm : Mat (m := 512) (n := 1024) (kernelRun0_A.sl.v16 (F := Ideal) c arg1 harg1 arg2 harg2 arg7 x0 x1) (nrm X G) := by
  unfold kernelRun0_A.sl.v16 kernelRun0_A.sl.H6_1
  rw [View.readCov_cons_toLoadRect]
  exact nrm_at arg1 harg1 arg2 harg2 h0 h1

include h0 h1 h2 h3 h4 in
theorem acc_1 : Mat (m := 512) (n := 1024) (kernelRun0_A.sl.v54 (F := Ideal) c arg1 harg1 arg2 harg2 arg3 harg3 arg4 harg4 arg5 harg5 arg7 arg10 x0 x1 x2 x3 x4) (part (hid (lin (nrm X G) W) (lin (nrm X G) V)) D 256) := by
  unfold kernelRun0_A.sl.v54 kernelRun0_A.sl.HS0_1
  rw [View.readCov_cons_toLoadRect]
  have h := first_is (held_nrm c arg1 harg1 arg2 harg2 arg7 h0 h1) (rows_is arg3 harg3 h2 0 inb_S2816x1024_S256x1024_0_0) (rows_is arg4 harg4 h3 0 inb_S2816x1024_S256x1024_0_0) (rows_is arg5 harg5 h4 0 inb_S2816x1024_S256x1024_0_0)
  exact h

include h0 h1 h2 h3 h4 in
theorem acc_2 : Mat (m := 512) (n := 1024) (kernelRun0_A.sl.v78 (F := Ideal) c arg1 harg1 arg2 harg2 arg3 harg3 arg4 harg4 arg5 harg5 arg7 arg10 x0 x1 x2 x3 x4) (part (hid (lin (nrm X G) W) (lin (nrm X G) V)) D 512) := by
  unfold kernelRun0_A.sl.v78 kernelRun0_A.sl.HS0_2
  rw [View.readCov_cons_toLoadRect]
  have h := step_is 256 (held_nrm c arg1 harg1 arg2 harg2 arg7 h0 h1) (rows_is arg3 harg3 h2 256 inb_S2816x1024_S256x1024_256_0) (rows_is arg4 harg4 h3 256 inb_S2816x1024_S256x1024_256_0) (rows_is arg5 harg5 h4 256 inb_S2816x1024_S256x1024_256_0)
    (acc_1 c arg1 harg1 arg2 harg2 arg3 harg3 arg4 harg4 arg5 harg5 arg7 arg10 h0 h1 h2 h3 h4)
  exact h

include h0 h1 h2 h3 h4 in
theorem acc_3 : Mat (m := 512) (n := 1024) (kernelRun0_A.sl.v102 (F := Ideal) c arg1 harg1 arg2 harg2 arg3 harg3 arg4 harg4 arg5 harg5 arg7 arg10 x0 x1 x2 x3 x4) (part (hid (lin (nrm X G) W) (lin (nrm X G) V)) D 768) := by
  unfold kernelRun0_A.sl.v102 kernelRun0_A.sl.HS0_3
  rw [View.readCov_cons_toLoadRect]
  have h := step_is 512 (held_nrm c arg1 harg1 arg2 harg2 arg7 h0 h1) (rows_is arg3 harg3 h2 512 inb_S2816x1024_S256x1024_512_0) (rows_is arg4 harg4 h3 512 inb_S2816x1024_S256x1024_512_0) (rows_is arg5 harg5 h4 512 inb_S2816x1024_S256x1024_512_0)
    (acc_2 c arg1 harg1 arg2 harg2 arg3 harg3 arg4 harg4 arg5 harg5 arg7 arg10 h0 h1 h2 h3 h4)
  exact h

include h0 h1 h2 h3 h4 in
theorem acc_4 : Mat (m := 512) (n := 1024) (kernelRun0_A.sl.v126 (F := Ideal) c arg1 harg1 arg2 harg2 arg3 harg3 arg4 harg4 arg5 harg5 arg7 arg10 x0 x1 x2 x3 x4) (part (hid (lin (nrm X G) W) (lin (nrm X G) V)) D 1024) := by
  unfold kernelRun0_A.sl.v126 kernelRun0_A.sl.HS0_4
  rw [View.readCov_cons_toLoadRect]
  have h := step_is 768 (held_nrm c arg1 harg1 arg2 harg2 arg7 h0 h1) (rows_is arg3 harg3 h2 768 inb_S2816x1024_S256x1024_768_0) (rows_is arg4 harg4 h3 768 inb_S2816x1024_S256x1024_768_0) (rows_is arg5 harg5 h4 768 inb_S2816x1024_S256x1024_768_0)
    (acc_3 c arg1 harg1 arg2 harg2 arg3 harg3 arg4 harg4 arg5 harg5 arg7 arg10 h0 h1 h2 h3 h4)
  exact h

include h0 h1 h2 h3 h4 in
theorem acc_5 : Mat (m := 512) (n := 1024) (kernelRun0_A.sl.v150 (F := Ideal) c arg1 harg1 arg2 harg2 arg3 harg3 arg4 harg4 arg5 harg5 arg7 arg10 x0 x1 x2 x3 x4) (part (hid (lin (nrm X G) W) (lin (nrm X G) V)) D 1280) := by
  unfold kernelRun0_A.sl.v150 kernelRun0_A.sl.HS0_5
  rw [View.readCov_cons_toLoadRect]
  have h := step_is 1024 (held_nrm c arg1 harg1 arg2 harg2 arg7 h0 h1) (rows_is arg3 harg3 h2 1024 inb_S2816x1024_S256x1024_1024_0) (rows_is arg4 harg4 h3 1024 inb_S2816x1024_S256x1024_1024_0) (rows_is arg5 harg5 h4 1024 inb_S2816x1024_S256x1024_1024_0)
    (acc_4 c arg1 harg1 arg2 harg2 arg3 harg3 arg4 harg4 arg5 harg5 arg7 arg10 h0 h1 h2 h3 h4)
  exact h

include h0 h1 h2 h3 h4 in
theorem acc_6 : Mat (m := 512) (n := 1024) (kernelRun0_A.sl.v174 (F := Ideal) c arg1 harg1 arg2 harg2 arg3 harg3 arg4 harg4 arg5 harg5 arg7 arg10 x0 x1 x2 x3 x4) (part (hid (lin (nrm X G) W) (lin (nrm X G) V)) D 1536) := by
  unfold kernelRun0_A.sl.v174 kernelRun0_A.sl.HS0_6
  rw [View.readCov_cons_toLoadRect]
  have h := step_is 1280 (held_nrm c arg1 harg1 arg2 harg2 arg7 h0 h1) (rows_is arg3 harg3 h2 1280 inb_S2816x1024_S256x1024_1280_0) (rows_is arg4 harg4 h3 1280 inb_S2816x1024_S256x1024_1280_0) (rows_is arg5 harg5 h4 1280 inb_S2816x1024_S256x1024_1280_0)
    (acc_5 c arg1 harg1 arg2 harg2 arg3 harg3 arg4 harg4 arg5 harg5 arg7 arg10 h0 h1 h2 h3 h4)
  exact h

include h0 h1 h2 h3 h4 in
theorem acc_7 : Mat (m := 512) (n := 1024) (kernelRun0_A.sl.v198 (F := Ideal) c arg1 harg1 arg2 harg2 arg3 harg3 arg4 harg4 arg5 harg5 arg7 arg10 x0 x1 x2 x3 x4) (part (hid (lin (nrm X G) W) (lin (nrm X G) V)) D 1792) := by
  unfold kernelRun0_A.sl.v198 kernelRun0_A.sl.HS0_7
  rw [View.readCov_cons_toLoadRect]
  have h := step_is 1536 (held_nrm c arg1 harg1 arg2 harg2 arg7 h0 h1) (rows_is arg3 harg3 h2 1536 inb_S2816x1024_S256x1024_1536_0) (rows_is arg4 harg4 h3 1536 inb_S2816x1024_S256x1024_1536_0) (rows_is arg5 harg5 h4 1536 inb_S2816x1024_S256x1024_1536_0)
    (acc_6 c arg1 harg1 arg2 harg2 arg3 harg3 arg4 harg4 arg5 harg5 arg7 arg10 h0 h1 h2 h3 h4)
  exact h

include h0 h1 h2 h3 h4 in
theorem acc_8 : Mat (m := 512) (n := 1024) (kernelRun0_A.sl.v222 (F := Ideal) c arg1 harg1 arg2 harg2 arg3 harg3 arg4 harg4 arg5 harg5 arg7 arg10 x0 x1 x2 x3 x4) (part (hid (lin (nrm X G) W) (lin (nrm X G) V)) D 2048) := by
  unfold kernelRun0_A.sl.v222 kernelRun0_A.sl.HS0_8
  rw [View.readCov_cons_toLoadRect]
  have h := step_is 1792 (held_nrm c arg1 harg1 arg2 harg2 arg7 h0 h1) (rows_is arg3 harg3 h2 1792 inb_S2816x1024_S256x1024_1792_0) (rows_is arg4 harg4 h3 1792 inb_S2816x1024_S256x1024_1792_0) (rows_is arg5 harg5 h4 1792 inb_S2816x1024_S256x1024_1792_0)
    (acc_7 c arg1 harg1 arg2 harg2 arg3 harg3 arg4 harg4 arg5 harg5 arg7 arg10 h0 h1 h2 h3 h4)
  exact h

include h0 h1 h2 h3 h4 in
theorem acc_9 : Mat (m := 512) (n := 1024) (kernelRun0_A.sl.v246 (F := Ideal) c arg1 harg1 arg2 harg2 arg3 harg3 arg4 harg4 arg5 harg5 arg7 arg10 x0 x1 x2 x3 x4) (part (hid (lin (nrm X G) W) (lin (nrm X G) V)) D 2304) := by
  unfold kernelRun0_A.sl.v246 kernelRun0_A.sl.HS0_9
  rw [View.readCov_cons_toLoadRect]
  have h := step_is 2048 (held_nrm c arg1 harg1 arg2 harg2 arg7 h0 h1) (rows_is arg3 harg3 h2 2048 inb_S2816x1024_S256x1024_2048_0) (rows_is arg4 harg4 h3 2048 inb_S2816x1024_S256x1024_2048_0) (rows_is arg5 harg5 h4 2048 inb_S2816x1024_S256x1024_2048_0)
    (acc_8 c arg1 harg1 arg2 harg2 arg3 harg3 arg4 harg4 arg5 harg5 arg7 arg10 h0 h1 h2 h3 h4)
  exact h

include h0 h1 h2 h3 h4 in
theorem acc_10 : Mat (m := 512) (n := 1024) (kernelRun0_A.sl.v270 (F := Ideal) c arg1 harg1 arg2 harg2 arg3 harg3 arg4 harg4 arg5 harg5 arg7 arg10 x0 x1 x2 x3 x4) (part (hid (lin (nrm X G) W) (lin (nrm X G) V)) D 2560) := by
  unfold kernelRun0_A.sl.v270 kernelRun0_A.sl.HS0_10
  rw [View.readCov_cons_toLoadRect]
  have h := step_is 2304 (held_nrm c arg1 harg1 arg2 harg2 arg7 h0 h1) (rows_is arg3 harg3 h2 2304 inb_S2816x1024_S256x1024_2304_0) (rows_is arg4 harg4 h3 2304 inb_S2816x1024_S256x1024_2304_0) (rows_is arg5 harg5 h4 2304 inb_S2816x1024_S256x1024_2304_0)
    (acc_9 c arg1 harg1 arg2 harg2 arg3 harg3 arg4 harg4 arg5 harg5 arg7 arg10 h0 h1 h2 h3 h4)
  exact h

include h0 h1 h2 h3 h4 in
theorem acc_11 : Mat (m := 512) (n := 1024) (kernelRun0_A.sl.v279 (F := Ideal) c arg1 harg1 arg2 harg2 arg3 harg3 arg4 harg4 arg5 harg5 arg7 arg10 x0 x1 x2 x3 x4) (part (hid (lin (nrm X G) W) (lin (nrm X G) V)) D 2816) := by
  unfold kernelRun0_A.sl.v279 kernelRun0_A.sl.HS0_11
  rw [View.readCov_cons_toLoadRect]
  have h := step_is 2560 (held_nrm c arg1 harg1 arg2 harg2 arg7 h0 h1) (rows_is arg3 harg3 h2 2560 inb_S2816x1024_S256x1024_2560_0) (rows_is arg4 harg4 h3 2560 inb_S2816x1024_S256x1024_2560_0) (rows_is arg5 harg5 h4 2560 inb_S2816x1024_S256x1024_2560_0)
    (acc_10 c arg1 harg1 arg2 harg2 arg3 harg3 arg4 harg4 arg5 harg5 arg7 arg10 h0 h1 h2 h3 h4)
  exact h

include h0 h1 h2 h3 h4 in
theorem out_y : Mat (m := 512) (n := 1024) (out0_A_5 (F := Ideal) c i arg1 harg1 arg2 harg2 arg3 harg3 arg4 harg4 arg5 harg5 arg6 harg6 arg7 harg7 arg8 harg8 arg9 harg9 arg10 harg10 x0 x1 x2 x3 x4)
    fun r j => X r j + Ideal.ofBits .f32 0x3F000000#32 * part (hid (lin (nrm X G) W) (lin (nrm X G) V)) D 2816 r j := by
  have ha := acc_11 c arg1 harg1 arg2 harg2 arg3 harg3 arg4 harg4 arg5 harg5 arg7 arg10 h0 h1 h2 h3 h4
  have hx := whole_is arg1 harg1 h0 inb_S512x1024_S512x1024_0_0
  unfold out0_A_5 kernelRun0_A
  dsimp only
  refine one_is VO0_5 _ _ ?_ []
  unfold kernelRun0_A.sl.r_12
  intro r j
  pointwise [k0_pay73]
  rw [ha, hx]

include h0 h1 in
theorem out_n : Mat (m := 512) (n := 1024) (out0_A_6 (F := Ideal) c i arg1 harg1 arg2 harg2 arg3 harg3 arg4 harg4 arg5 harg5 arg6 harg6 arg7 harg7 arg8 harg8 arg9 harg9 arg10 harg10 x0 x1 x2 x3 x4) (nrm X G) := by
  unfold out0_A_6 kernelRun0_A
  dsimp only
  unfold kernelRun0_A.sl.H6_1
  exact one16_is VO0_6 _ _ (nrm_at arg1 harg1 arg2 harg2 h0 h1) []

include h0 h1 h2 in
theorem out_gg : Mat (m := 512) (n := 2816) (out0_A_7 (F := Ideal) c i arg1 harg1 arg2 harg2 arg3 harg3 arg4 harg4 arg5 harg5 arg6 harg6 arg7 harg7 arg8 harg8 arg9 harg9 arg10 harg10 x0 x1 x2 x3 x4) (lin (nrm X G) W) := by
  have hN := held_nrm c arg1 harg1 arg2 harg2 arg7 h0 h1
  unfold out0_A_7 kernelRun0_A
  dsimp only
  intro r q
  refine (?_ : ColsTo VO0_7 VO0_7.junk _ 2816 (lin (nrm X G) W)) r q q.isLt
  refine cols_cons 2560 ?_ _ (gate16_is (W := W) (n := 2560) hN (rows_is arg3 harg3 h2 2560 inb_S2816x1024_S256x1024_2560_0))
  refine cols_cons 2304 ?_ _ (gate16_is (W := W) (n := 2304) hN (rows_is arg3 harg3 h2 2304 inb_S2816x1024_S256x1024_2304_0))
  refine cols_cons 2048 ?_ _ (gate16_is (W := W) (n := 2048) hN (rows_is arg3 harg3 h2 2048 inb_S2816x1024_S256x1024_2048_0))
  refine cols_cons 1792 ?_ _ (gate16_is (W := W) (n := 1792) hN (rows_is arg3 harg3 h2 1792 inb_S2816x1024_S256x1024_1792_0))
  refine cols_cons 1536 ?_ _ (gate16_is (W := W) (n := 1536) hN (rows_is arg3 harg3 h2 1536 inb_S2816x1024_S256x1024_1536_0))
  refine cols_cons 1280 ?_ _ (gate16_is (W := W) (n := 1280) hN (rows_is arg3 harg3 h2 1280 inb_S2816x1024_S256x1024_1280_0))
  refine cols_cons 1024 ?_ _ (gate16_is (W := W) (n := 1024) hN (rows_is arg3 harg3 h2 1024 inb_S2816x1024_S256x1024_1024_0))
  refine cols_cons 768 ?_ _ (gate16_is (W := W) (n := 768) hN (rows_is arg3 harg3 h2 768 inb_S2816x1024_S256x1024_768_0))
  refine cols_cons 512 ?_ _ (gate16_is (W := W) (n := 512) hN (rows_is arg3 harg3 h2 512 inb_S2816x1024_S256x1024_512_0))
  refine cols_cons 256 ?_ _ (gate16_is (W := W) (n := 256) hN (rows_is arg3 harg3 h2 256 inb_S2816x1024_S256x1024_256_0))
  refine cols_cons 0 ?_ _ (gate16_is (W := W) (n := 0) hN (rows_is arg3 harg3 h2 0 inb_S2816x1024_S256x1024_0_0))
  exact cols_nil _ _ _

include h0 h1 h3 in
theorem out_uu : Mat (m := 512) (n := 2816) (out0_A_8 (F := Ideal) c i arg1 harg1 arg2 harg2 arg3 harg3 arg4 harg4 arg5 harg5 arg6 harg6 arg7 harg7 arg8 harg8 arg9 harg9 arg10 harg10 x0 x1 x2 x3 x4) (lin (nrm X G) V) := by
  have hN := held_nrm c arg1 harg1 arg2 harg2 arg7 h0 h1
  unfold out0_A_8 kernelRun0_A
  dsimp only
  unfold kernelRun0_A.sl.r_7 kernelRun0_A.sl.r_9 kernelRun0_A.sl.cst_138
  intro r q
  refine (?_ : ColsTo VO0_8 VO0_8.junk _ 2816 (lin (nrm X G) V)) r q q.isLt
  refine cols_cons 2560 ?_ _ (gate16_is (W := V) (n := 2560) hN (rows_is arg4 harg4 h3 2560 inb_S2816x1024_S256x1024_2560_0))
  refine cols_cons 2304 ?_ _ (gate16_is (W := V) (n := 2304) hN (rows_is arg4 harg4 h3 2304 inb_S2816x1024_S256x1024_2304_0))
  refine cols_cons 2048 ?_ _ (gate16_is (W := V) (n := 2048) hN (rows_is arg4 harg4 h3 2048 inb_S2816x1024_S256x1024_2048_0))
  refine cols_cons 1792 ?_ _ (gate16_is (W := V) (n := 1792) hN (rows_is arg4 harg4 h3 1792 inb_S2816x1024_S256x1024_1792_0))
  refine cols_cons 1536 ?_ _ (gate16_is (W := V) (n := 1536) hN (rows_is arg4 harg4 h3 1536 inb_S2816x1024_S256x1024_1536_0))
  refine cols_cons 1280 ?_ _ (gate16_is (W := V) (n := 1280) hN (rows_is arg4 harg4 h3 1280 inb_S2816x1024_S256x1024_1280_0))
  refine cols_cons 1024 ?_ _ (gate16_is (W := V) (n := 1024) hN (rows_is arg4 harg4 h3 1024 inb_S2816x1024_S256x1024_1024_0))
  refine cols_cons 768 ?_ _ (gate16_is (W := V) (n := 768) hN (rows_is arg4 harg4 h3 768 inb_S2816x1024_S256x1024_768_0))
  refine cols_cons 512 ?_ _ (gate16_is (W := V) (n := 512) hN (rows_is arg4 harg4 h3 512 inb_S2816x1024_S256x1024_512_0))
  refine cols_cons 256 ?_ _ (gate16_is (W := V) (n := 256) hN (rows_is arg4 harg4 h3 256 inb_S2816x1024_S256x1024_256_0))
  refine cols_cons 0 ?_ _ (gate16_is (W := V) (n := 0) hN (rows_is arg4 harg4 h3 0 inb_S2816x1024_S256x1024_0_0))
  exact cols_nil _ _ _

end Point

end Cert.Ffn
-- ==== Proof.FfnMath.lean ====
module

public import proofs.«01_k».proof.Proof.FfnPay

@[expose] public section

/-!
# Constants and sums of the half-steps
-/

noncomputable section

namespace Cert.Ffn

open Idealize.ShloMosaic Finset

/-- A matrix as a function of two numbers. -/
def ent {a b : ℕ} (v : Shape.Idx ⟨2, ![a, b]⟩ → EReal) (i j : ℕ) : EReal :=
  if h : i < a ∧ j < b then v (ix2 ⟨i, h.1⟩ ⟨j, h.2⟩) else 0

theorem ent_at {a b : ℕ} (v : Shape.Idx ⟨2, ![a, b]⟩ → EReal) (i : Fin a) (j : Fin b) : v (ix2 i j) = ent v i.val j.val := by
  unfold ent
  rw [dif_pos ⟨i.isLt, j.isLt⟩]

theorem bits_normal (b : BitVec 32) (ex fr : ℕ) (hn : (b.extractLsb' 31 1 == 1#1) = false) (he : (b.extractLsb' 23 8).toNat = ex)
    (hf : (b.extractLsb' 0 23).toNat = fr) (h1 : ex ≠ 255) (h0 : ex ≠ 0) :
    Ideal.ofBits .f32 b = (((8388608 + fr : ℕ) * (2 : ℝ) ^ ((ex : ℤ) - 150) : ℝ) : EReal) := by
  show Ideal.ieee 8 23 b = _
  unfold Ideal.ieee
  simp only [show 8 + 23 = 31 from rfl, hn, he, hf]
  rw [if_neg (by norm_num; exact h1), if_neg h0]
  congr 1
  rw [show ((ex : ℤ) - (2 ^ (8 - 1) - 1) - ((23 : ℕ) : ℤ)) = (ex : ℤ) - 150 by norm_num; ring]
  norm_num

theorem bits_zero : Ideal.ofBits .f32 0x00000000#32 = (0 : EReal) := by
  show Ideal.ieee 8 23 0x00000000#32 = _
  unfold Ideal.ieee
  simp only [show 8 + 23 = 31 from rfl, show ((0x00000000#32).extractLsb' 31 1 == 1#1) = false by decide,
    show ((0x00000000#32).extractLsb' 23 8).toNat = 0 by decide, show ((0x00000000#32).extractLsb' 0 23).toNat = 0 by decide]
  norm_num

theorem bits_1024 : Ideal.ofBits .f32 0x44800000#32 = ((1024 : ℝ) : EReal) := by
  rw [bits_normal _ 137 0 (by decide) (by decide) (by decide) (by decide) (by decide)]
  norm_num [zpow_neg]

theorem bits_1024th : Ideal.ofBits .f32 0x3A800000#32 = ((1 / 1024 : ℝ) : EReal) := by
  rw [bits_normal _ 117 0 (by decide) (by decide) (by decide) (by decide) (by decide)]
  norm_num [zpow_neg]

theorem bits_half : Ideal.ofBits .f32 0x3F000000#32 = ((1 / 2 : ℝ) : EReal) := by
  rw [bits_normal _ 126 0 (by decide) (by decide) (by decide) (by decide) (by decide)]
  norm_num [zpow_neg]

theorem bits_1 : Ideal.ofBits .f32 0x3F800000#32 = ((1 : ℝ) : EReal) := by
  rw [bits_normal _ 127 0 (by decide) (by decide) (by decide) (by decide) (by decide)]
  norm_num [zpow_neg]

theorem bits_2 : Ideal.ofBits .f32 0x40000000#32 = ((2 : ℝ) : EReal) := by
  rw [bits_normal _ 128 0 (by decide) (by decide) (by decide) (by decide) (by decide)]
  norm_num [zpow_neg]

theorem div_1024 (x : EReal) : Ideal.div x (Ideal.ofBits .f32 0x44800000#32) = x * Ideal.ofBits .f32 0x3A800000#32 := by
  rw [bits_1024, bits_1024th]
  unfold Ideal.div
  rw [if_neg (by exact_mod_cast (by norm_num : (1024 : ℝ) ≠ 0)), ← EReal.coe_inv]
  norm_num

/-- The whole sum over the hidden layer. -/
theorem part_whole (A D : ℕ → ℕ → EReal) (i c : ℕ) : part A D 2816 i c = ∑ f : Fin 2816, A i f.val * D f.val c := by
  unfold part
  rw [Fin.sum_univ_eq_sum_range fun f => A i f * D f c]

end Cert.Ffn
-- ==== Proof.FfnFwd.lean ====
module

public import proofs.«01_k».proof.Proof.FfnPoint
public import proofs.«01_k».proof.Proof.FfnMath
public import proofs.«01_k».proof.Proof.Gen.Kernel2Ideal.Value
public import Idealize.ShloMosaic.Lib.Pipeline.ValueKit.Point
public import Idealize.ShloMosaic.Lib.Claim
public import Idealize.ShloMosaic.Lib.StableHlo.ReadAt

@[expose] public section

/-!
# The results of the first half-step's forward call

The blocks that a grid point reads and writes back, and the four result arrays.
-/

set_option maxRecDepth 16384

noncomputable section

namespace Cert.Ffn

open Cert.Kernel2Ideal Cert.Kernel2Ideal.Gen Idealize.ShloMosaic Idealize.ShloMosaic.TcCoe Finset

variable {m : (ℓ : Loc nD τ sig) → Buf (Elt Ideal) ℓ} {c : Dev nD}

/-- Which block of its array each window holds at a point. -/
theorem places : ∀ t : Fin cfg0.N, win0_0.index t = ![t.val, 0] ∧ win0_1.index t = ![0, 0] ∧ win0_2.index t = ![0, 0]
   ∧ win0_3.index t = ![0, 0] ∧ win0_4.index t = ![0, 0] ∧ win0_5.index t = ![t.val, 0] ∧ win0_6.index t = ![t.val, 0]
   ∧ win0_7.index t = ![t.val, 0] ∧ win0_8.index t = ![t.val, 0] :=
  (by decide +kernel : ∀ t : Fin grid0.N, _)

/-- Every point writes its blocks back. -/
theorem flushes : ∀ t : Fin cfg0.N, (cfg0.win 5).flush t = true ∧ (cfg0.win 6).flush t = true ∧ (cfg0.win 7).flush t = true
    ∧ (cfg0.win 8).flush t = true :=
  (by decide +kernel : ∀ t : Fin grid0.N, _)

theorem row_lt (t : Fin cfg0.N) (r : Fin 512) : 512 * t.val + r.val < 4096 := by
  have : t.val < 8 := t.isLt
  omega

theorem gate_entry : V m c main_v1 = truncf (F := Ideal) .bf16 (transpose S2816x1024 [1, 0] (m (c, Proc.tc.devRef main_arg2)) transposes_S1024x2816_S2816x1024_1_0) bitsLt_bf16_f32 := by
  unfold_abbrev_sides
  after_reads_simp
  try simp -implicitDefEqProofs only [StableHlo.TRef.toBuf, StableHlo.TRef.ofBuf, cast_cast, cast_eq]

theorem up_entry : V m c main_v3 = truncf (F := Ideal) .bf16 (transpose S2816x1024 [1, 0] (m (c, Proc.tc.devRef main_arg3)) transposes_S1024x2816_S2816x1024_1_0) bitsLt_bf16_f32 := by
  unfold_abbrev_sides
  after_reads_simp
  try simp -implicitDefEqProofs only [StableHlo.TRef.toBuf, StableHlo.TRef.ofBuf, cast_cast, cast_eq]

theorem down_entry : V m c main_v4 = truncf (F := Ideal) .bf16 (m (c, Proc.tc.devRef main_arg4)) bitsLt_bf16_f32 := by
  unfold_abbrev_sides
  after_reads_simp
  try simp -implicitDefEqProofs only [StableHlo.TRef.toBuf, StableHlo.TRef.ofBuf, cast_cast, cast_eq]

theorem read0 (t : Fin cfg0.N) : Mat (m := 512) (n := 1024) (iblk m c 0 t) fun r => ent (a := 4096) (b := 1024) (m (c, Proc.tc.devRef main_arg0)) (512 * t.val + r) := by
  intro r d
  refine Eq.trans ?_ (ent_at (a := 4096) (b := 1024) (m (c, Proc.tc.devRef main_arg0)) ⟨_, row_lt t r⟩ d)
  refine Eq.trans ?_ (congrFun (V_main_arg0 m c) _)
  blk_ext [iblk, places t]

theorem read1 (t : Fin cfg0.N) : Mat (m := 1) (n := 1024) (iblk m c 1 t) fun _ => ent (a := 1) (b := 1024) (m (c, Proc.tc.devRef main_arg1)) 0 := by
  intro r d
  obtain rfl : r = 0 := Subsingleton.elim _ _
  refine Eq.trans ?_ (ent_at (a := 1) (b := 1024) (m (c, Proc.tc.devRef main_arg1)) 0 d)
  refine Eq.trans ?_ (congrFun (V_main_arg1 m c) _)
  blk_ext [iblk, places t]

theorem read2 (t : Fin cfg0.N) : Mat (m := 2816) (n := 1024) (iblk m c 2 t) fun f d => ent (a := 1024) (b := 2816) (m (c, Proc.tc.devRef main_arg2)) d f := by
  intro r d
  refine Eq.trans ?_ (ent_at (a := 1024) (b := 2816) (m (c, Proc.tc.devRef main_arg2)) d r)
  refine Eq.trans (b := V m c main_v1 (ix2 r d)) ?_ ?_
  · blk_ext [iblk, places t]
  · rw [gate_entry]
    pointwise

theorem read3 (t : Fin cfg0.N) : Mat (m := 2816) (n := 1024) (iblk m c 3 t) fun f d => ent (a := 1024) (b := 2816) (m (c, Proc.tc.devRef main_arg3)) d f := by
  intro r d
  refine Eq.trans ?_ (ent_at (a := 1024) (b := 2816) (m (c, Proc.tc.devRef main_arg3)) d r)
  refine Eq.trans (b := V m c main_v3 (ix2 r d)) ?_ ?_
  · blk_ext [iblk, places t]
  · rw [up_entry]
    pointwise

theorem read4 (t : Fin cfg0.N) : Mat (m := 2816) (n := 1024) (iblk m c 4 t) (ent (a := 2816) (b := 1024) (m (c, Proc.tc.devRef main_arg4))) := by
  intro r d
  refine Eq.trans ?_ (ent_at (a := 2816) (b := 1024) (m (c, Proc.tc.devRef main_arg4)) r d)
  refine Eq.trans (b := V m c main_v4 (ix2 r d)) ?_ ?_
  · blk_ext [iblk, places t]
  · rw [down_entry]
    pointwise

/-- The rows that belong together: block and row in the block. -/
theorem split_row (i : Fin 4096) : ∃ (t : Fin cfg0.N) (r : Fin 512), i = ⟨512 * t.val + r.val, row_lt t r⟩ :=
  ⟨⟨i.val / 512, by show i.val / 512 < 8; omega⟩, ⟨i.val % 512, by omega⟩, Fin.ext (by show i.val = 512 * (i.val / 512) + i.val % 512; omega)⟩

abbrev rowsOf (m : (ℓ : Loc nD τ sig) → Buf (Elt Ideal) ℓ) (c : Dev nD) : ℕ → ℕ → EReal := ent (a := 4096) (b := 1024) (m (c, Proc.tc.devRef main_arg0))
abbrev gainOf (m : (ℓ : Loc nD τ sig) → Buf (Elt Ideal) ℓ) (c : Dev nD) : ℕ → EReal := ent (a := 1) (b := 1024) (m (c, Proc.tc.devRef main_arg1)) 0
abbrev gateOf (m : (ℓ : Loc nD τ sig) → Buf (Elt Ideal) ℓ) (c : Dev nD) : ℕ → ℕ → EReal := fun f d => ent (a := 1024) (b := 2816) (m (c, Proc.tc.devRef main_arg2)) d f
abbrev upOf (m : (ℓ : Loc nD τ sig) → Buf (Elt Ideal) ℓ) (c : Dev nD) : ℕ → ℕ → EReal := fun f d => ent (a := 1024) (b := 2816) (m (c, Proc.tc.devRef main_arg3)) d f
abbrev downOf (m : (ℓ : Loc nD τ sig) → Buf (Elt Ideal) ℓ) (c : Dev nD) : ℕ → ℕ → EReal := ent (a := 2816) (b := 1024) (m (c, Proc.tc.devRef main_arg4))

theorem res_n : Mat (m := 4096) (n := 1024) ((dats m 0 c).arrAt 6 cfg0.N) (nrm (rowsOf m c) (gainOf m c)) := by
  intro i j
  obtain ⟨t, r, rfl⟩ := split_row i
  refine Eq.trans ?_ ((congrFun ((Value.blocks6 m c t (flushes t).2.1).trans (Value.flushed6_A m c t)) (ix2 r j)).trans
    (out_n c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (read0 t) (read1 t) r j))
  blk_ext [places t]

theorem res_gate : Mat (m := 4096) (n := 2816) ((dats m 0 c).arrAt 7 cfg0.N) (lin (nrm (rowsOf m c) (gainOf m c)) (gateOf m c)) := by
  intro i j
  obtain ⟨t, r, rfl⟩ := split_row i
  refine Eq.trans ?_ ((congrFun ((Value.blocks7 m c t (flushes t).2.2.1).trans (Value.flushed7_A m c t)) (ix2 r j)).trans
    (out_gg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (read0 t) (read1 t) (read2 t) r j))
  blk_ext [places t]

theorem res_up : Mat (m := 4096) (n := 2816) ((dats m 0 c).arrAt 8 cfg0.N) (lin (nrm (rowsOf m c) (gainOf m c)) (upOf m c)) := by
  intro i j
  obtain ⟨t, r, rfl⟩ := split_row i
  refine Eq.trans ?_ ((congrFun ((Value.blocks8 m c t (flushes t).2.2.2).trans (Value.flushed8_A m c t)) (ix2 r j)).trans
    (out_uu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (read0 t) (read1 t) (read3 t) r j))
  blk_ext [places t]

theorem res_y : Mat (m := 4096) (n := 1024) ((dats m 0 c).arrAt 5 cfg0.N) (fun i j => rowsOf m c i j + Ideal.ofBits .f32 0x3F000000#32 * part (hid (lin (nrm (rowsOf m c) (gainOf m c)) (gateOf m c)) (lin (nrm (rowsOf m c) (gainOf m c)) (upOf m c))) (downOf m c) 2816 i j) := by
  intro i j
  obtain ⟨t, r, rfl⟩ := split_row i
  refine Eq.trans ?_ ((congrFun ((Value.blocks5 m c t (flushes t).1).trans (Value.flushed5_A m c t)) (ix2 r j)).trans
    (out_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (read0 t) (read1 t) (read2 t) (read3 t) (read4 t) r j))
  blk_ext [places t]

end Cert.Ffn
-- ==== Proof.FfnRef.lean ====
module

public import proofs.«01_k».proof.Proof.FfnMath
public import proofs.«01_k».proof.Proof.Gen.Reference2Ideal.Read

@[expose] public section

/-!
# The reference half-step, entry by entry
-/

set_option maxRecDepth 16384

noncomputable section

namespace Cert.Ffn

open Cert.Reference2Ideal Cert.Reference2Ideal.Gen Cert.Reference2Ideal.Read Idealize.ShloMosaic Idealize.ShloMosaic.TcCoe Finset

variable (x : (⟨S4096x1024, .f32⟩ : BufTy).Contents (Elt Ideal)) (g : (⟨S1x1024, .f32⟩ : BufTy).Contents (Elt Ideal))
  (w u : (⟨S1024x2816, .f32⟩ : BufTy).Contents (Elt Ideal)) (d : (⟨S2816x1024, .f32⟩ : BufTy).Contents (Elt Ideal))

theorem ref_n : Mat (m := 4096) (n := 1024) (val_main_v11 (F := Ideal) x g) (nrm (ent x) (ent g 0)) := by
  intro i j
  pointwise [val_main_v11, val_main_v10, val_main_v9, val_main_v8, val_main_v7, val_main_v6, val_main_v5, val_main_v4, val_main_v3, val_main_v2, val_main_v1, val_main_v0, val_main_cst, val_main_cst_0, val_main_cst_1]
  rw [div_1024, ent_at (a := 4096) (b := 1024) x i j, ent_at (a := 1) (b := 1024) g 0 j, sum_congr rfl fun k _ => by rw [ent_at (a := 4096) (b := 1024) x i k]]
  rfl

theorem ref_gate : Mat (m := 4096) (n := 2816) (val_main_v12 (F := Ideal) x g w) (lin (nrm (ent x) (ent g 0)) fun f e => ent w e f) := by
  intro i j
  pointwise [val_main_v12]
  rw [sum_congr rfl fun k _ => by rw [ref_n x g i k, ent_at (a := 1024) (b := 2816) w k j]]
  rfl

theorem ref_up : Mat (m := 4096) (n := 2816) (val_main_v13 (F := Ideal) x g u) (lin (nrm (ent x) (ent g 0)) fun f e => ent u e f) :=
  ref_gate x g u

theorem ref_hid : Mat (m := 4096) (n := 2816) (val_main_v15 (F := Ideal) x g w u)
    (hid (lin (nrm (ent x) (ent g 0)) fun f e => ent w e f) (lin (nrm (ent x) (ent g 0)) fun f e => ent u e f)) := by
  intro i j
  pointwise [val_main_v15, val_main_v14, val_main_call0_v0, val_main_call0_v1, val_main_call0_v2, val_main_call0_v3, val_main_call0_v4, val_main_call0_v5, val_main_call0_cst, val_main_call0_cst_0]
  rw [ref_gate x g w i j, ref_up x g u i j]
  rfl

theorem ref_y : Mat (m := 4096) (n := 1024) (val_main_v19 (F := Ideal) x g w u d)
    fun i j => ent x i j + Ideal.ofBits .f32 0x3F000000#32 * part (hid (lin (nrm (ent x) (ent g 0)) fun f e => ent w e f) (lin (nrm (ent x) (ent g 0)) fun f e => ent u e f)) (ent d) 2816 i j := by
  intro i j
  pointwise [val_main_v19, val_main_v18, val_main_v17, val_main_v16, val_main_cst_2]
  rw [part_whole, ent_at (a := 4096) (b := 1024) x i j, sum_congr rfl fun k _ => by rw [ref_hid x g w u i k, ent_at (a := 2816) (b := 1024) d k j]]

end Cert.Ffn
-- ==== Proof.FfnClaim.lean ====
module

public import proofs.«01_k».proof.Defs
public import proofs.«01_k».proof.Proof.FfnFwd
public import proofs.«01_k».proof.Proof.FfnRef
public import proofs.«01_k».proof.Proof.Gen.Kernel2.Frame
public import Idealize.ShloMosaic.Adequacy
public import Idealize.ShloMosaic.Init

@[expose] public section

/-!
# The first half-step's forward call computes the reference's half-step

Both programs end with the same four arrays, whatever extended reals the arguments hold.
-/

noncomputable section

namespace Cert.Ffn

open Idealize.ShloMosaic Idealize.SL.Sem

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem preserves2 : Cert.preserves_Kernel2_Kernel2Ideal := trivial

section Reference

open Cert.Reference2Ideal Cert.Reference2Ideal.Value Cert.Reference2Ideal.Read

/-- The reference's results as arrays of its arguments. -/
theorem reference_run2 (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = val_main_v19 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20) = val_main_v20 (m ((c.tc : Thread nD τ).loc main_arg0)) (m ((c.tc : Thread nD τ).loc main_arg1))
      ∧ r.2.mem ((c.tc : Thread nD τ).loc main_v21) = val_main_v21 (m ((c.tc : Thread nD τ).loc main_arg0)) (m ((c.tc : Thread nD τ).loc main_arg1)) (m ((c.tc : Thread nD τ).loc main_arg2))
      ∧ r.2.mem ((c.tc : Thread nD τ).loc main_v22) = val_main_v22 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v19_eq _ _ _ _ _), (h c).2.1.trans (val_main_v20_eq _ _),
    (h c).2.2.1.trans (val_main_v21_eq _ _ _), (h c).2.2.2.1.trans (val_main_v22_eq _ _ _), (h c).2.2.2.2⟩) (Cert.Reference2Ideal.Value.run (F := Ideal) m ρ)

end Reference

/-- The call and the reference end with the same four results. -/
theorem algebraic2 : Cert.algebraic_Kernel2Ideal_Reference2Ideal := by
  intro m ρ m' ρ' _ hargs
  refine ⟨_, _, _, _, Cert.Kernel2Ideal.Value.run_blocks m ρ, (θ_run Cert.Reference2Ideal.defs _ _).mono (fun r h c => ?_) (reference_run2 m' ρ')⟩
  obtain ⟨h0, h1, h2, h3, h4⟩ := h c
  obtain ⟨a0, a1, a2, a3, a4⟩ := hargs c
  rw [a0, a1, a2, a3, a4] at h0
  rw [a0, a1] at h1
  rw [a0, a1, a2] at h2
  rw [a0, a1, a3] at h3
  exact ⟨h0.trans (Mat.unique (ref_y _ _ _ _ _) res_y), h1.trans (Mat.unique (ref_n _ _) res_n),
    h2.trans (Mat.unique (ref_gate _ _ _) res_gate), h3.trans (Mat.unique (ref_up _ _ _) res_up), h4⟩

end Cert.Ffn
-- ==== Proof.LossPay.lean ====
module

public import proofs.«01_k».proof.Proof.FfnMath
public import proofs.«01_k».proof.Proof.Gen.Kernel3Ideal.Frame

@[expose] public section

/-!
# The loss head on a block of 512 rows
-/

set_option maxRecDepth 16384

noncomputable section

namespace Cert.Loss

open Idealize.ShloMosaic Cert.Kernel3Ideal Cert.Kernel3Ideal.Gen Cert.Ffn Finset

/-- The half-step's result less the target. -/
def gap (X A T : ℕ → ℕ → EReal) (i j : ℕ) : EReal := X i j + Ideal.ofBits .f32 0x3F000000#32 * A i j - T i j

/-- What 512 rows from row `o` on add to the loss. -/
def share (R : ℕ → ℕ → EReal) (o : ℕ) : EReal :=
  Ideal.ofBits .f32 0x3F000000#32 * ∑ r : Fin 512, (∑ j : Fin 1024, R (o + r.val) j.val * R (o + r.val) j.val) * Ideal.ofBits .f32 0x3A800000#32

variable {x a t : FVec Ideal S512x1024 .f32} {X A T : ℕ → ℕ → EReal}

theorem gap_is (hx : Mat x X) (ha : Mat a A) (ht : Mat t T) : Mat (k0_pay1 (F := Ideal) x a t) (gap X A T) := by
  intro i j
  pointwise [k0_pay1]
  rw [hx, ha, ht]
  rfl

theorem dy_is (hx : Mat x X) (ha : Mat a A) (ht : Mat t T) :
    Mat (k0_pay2 (F := Ideal) x a t) fun i j => gap X A T i j * Ideal.ofBits .f32 0x3A800000#32 := by
  intro i j
  have h := gap_is hx ha ht
  generalize hw : k0_pay1 (F := Ideal) x a t = w at h
  pointwise [k0_pay2]
  rw [hw, h]

theorem dyb_is (hx : Mat x X) (ha : Mat a A) (ht : Mat t T) :
    Mat (k0_pay3 (F := Ideal) x a t) fun i j => gap X A T i j * Ideal.ofBits .f32 0x3A800000#32 := dy_is hx ha ht

theorem zero_is : Mat (m := 8) (n := 128) (k0_pay5 (F := Ideal)) fun _ _ => 0 := by
  intro i j
  pointwise [k0_pay5]

theorem loss_is {l : FVec Ideal S8x128 .f32} {b : EReal} (hx : Mat x X) (ha : Mat a A) (ht : Mat t T) (hl : Mat l fun _ _ => b) :
    Mat (k0_pay4 (F := Ideal) x a t l) fun _ _ => b + share (gap X A T) 0 := by
  intro i j
  have h := gap_is hx ha ht
  generalize hw : k0_pay1 (F := Ideal) x a t = w at h
  pointwise [k0_pay4]
  rw [hw, hl i j]
  unfold share
  simp only [zero_add]
  rw [sum_congr rfl fun r _ => by rw [sum_congr rfl fun k _ => by rw [h r k]]]

end Cert.Loss
-- ==== Proof.LossPointA.lean ====
module

public import proofs.«01_k».proof.Proof.LossPay

@[expose] public section

/-!
# What the forward call with the loss leaves at the first grid point

The accumulator after each of the 11 tiles of 256 hidden columns, and the six blocks that are stored.
-/

set_option maxRecDepth 16384

namespace Cert.Loss.First

open Idealize.ShloMosaic Cert.Kernel3Ideal Cert.Kernel3Ideal.Gen Cert.Ffn Finset

section Point

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S2816x1024 .bf16) (harg3 : arg3.IsWhole)
  (arg4 : Memref sig .tc .vmem S2816x1024 .bf16) (harg4 : arg4.IsWhole)
  (arg5 : Memref sig .tc .vmem S2816x1024 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S8x128 .f32) (harg9 : arg9.IsWhole)
  (arg10 : Memref sig .tc .vmem S512x1024 .bf16) (harg10 : arg10.IsWhole)
  (arg11 : Memref sig .tc .vmem S512x2816 .bf16) (harg11 : arg11.IsWhole)
  (arg12 : Memref sig .tc .vmem S512x2816 .bf16) (harg12 : arg12.IsWhole)
  (arg13 : Memref sig .tc .vmem S512x1024 .f32) (harg13 : arg13.IsWhole)
  (hc0 : cond0_0 i)
  {x0 : Vec Ideal S512x1024 .f32} {x1 : Vec Ideal S1x1024 .f32} {x2 x3 x4 : Vec Ideal S2816x1024 .bf16} {x5 : Vec Ideal S512x1024 .f32}
  {X W V D T : ℕ → ℕ → EReal} {G : ℕ → EReal}
  (h0 : Mat x0 X) (h1 : Mat (m := 1) (n := 1024) x1 fun _ => G) (h2 : Mat x2 W) (h3 : Mat x3 V) (h4 : Mat x4 D) (h5 : Mat x5 T)

include h0 h1 in
theorem nrm_at : Mat (m := 512) (n := 1024) (k0_pay6 (F := Ideal)
    (View.readAt (Elt Ideal) arg1.view (Rect.unit (s := S512x1024) ![0, 0] S512x1024.size inb_S512x1024_S512x1024_0_0).toLoadRect (harg1.unread x0))
    (View.readAt (Elt Ideal) arg2.view (Rect.unit (s := S1x1024) ![0, 0] S1x1024.size inb_S1x1024_S1x1024_0_0).toLoadRect (harg2.unread x1))) (nrm X G) := by
  have h := nrm_is (whole_is arg1 harg1 h0 inb_S512x1024_S512x1024_0_0) (whole_is arg2 harg2 h1 inb_S1x1024_S1x1024_0_0)
  exact h

include h0 h1 in
theorem held_nrm : Mat (m := 512) (n := 1024) (kernelRun0_A.sl.v19 (F := Ideal) c arg1 harg1 arg2 harg2 arg10 x0 x1) (nrm X G) := by
  unfold kernelRun0_A.sl.v19 kernelRun0_A.sl.H9_1
  rw [View.readCov_cons_toLoadRect]
  exact nrm_at arg1 harg1 arg2 harg2 h0 h1

include h0 h1 h2 h3 h4 in
theorem acc_1 : Mat (m := 512) (n := 1024) (kernelRun0_A.sl.v57 (F := Ideal) c arg1 harg1 arg2 harg2 arg3 harg3 arg4 harg4 arg5 harg5 arg10 arg13 x0 x1 x2 x3 x4) (part (hid (lin (nrm X G) W) (lin (nrm X G) V)) D 256) := by
  unfold kernelRun0_A.sl.v57 kernelRun0_A.sl.HS0_1
  rw [View.readCov_cons_toLoadRect]
  have h := first_is (held_nrm c arg1 harg1 arg2 harg2 arg10 h0 h1) (rows_is arg3 harg3 h2 0 inb_S2816x1024_S256x1024_0_0) (rows_is arg4 harg4 h3 0 inb_S2816x1024_S256x1024_0_0) (rows_is arg5 harg5 h4 0 inb_S2816x1024_S256x1024_0_0)
  exact h

include h0 h1 h2 h3 h4 in
theorem acc_2 : Mat (m := 512) (n := 1024) (kernelRun0_A.sl.v81 (F := Ideal) c arg1 harg1 arg2 harg2 arg3 harg3 arg4 harg4 arg5 harg5 arg10 arg13 x0 x1 x2 x3 x4) (part (hid (lin (nrm X G) W) (lin (nrm X G) V)) D 512) := by
  unfold kernelRun0_A.sl.v81 kernelRun0_A.sl.HS0_2
  rw [View.readCov_cons_toLoadRect]
  have h := step_is 256 (held_nrm c arg1 harg1 arg2 harg2 arg10 h0 h1) (rows_is arg3 harg3 h2 256 inb_S2816x1024_S256x1024_256_0) (rows_is arg4 harg4 h3 256 inb_S2816x1024_S256x1024_256_0) (rows_is arg5 harg5 h4 256 inb_S2816x1024_S256x1024_256_0)
    (acc_1 c arg1 harg1 arg2 harg2 arg3 harg3 arg4 harg4 arg5 harg5 arg10 arg13 h0 h1 h2 h3 h4)
  exact h

include h0 h1 h2 h3 h4 in
theorem acc_3 : Mat (m := 512) (n := 1024) (kernelRun0_A.sl.v105 (F := Ideal) c arg1 harg1 arg2 harg2 arg3 harg3 arg4 harg4 arg5 harg5 arg10 arg13 x0 x1 x2 x3 x4) (part (hid (lin (nrm X G) W) (lin (nrm X G) V)) D 768) := by
  unfold kernelRun0_A.sl.v105 kernelRun0_A.sl.HS0_3
  rw [View.readCov_cons_toLoadRect]
  have h := step_is 512 (held_nrm c arg1 harg1 arg2 harg2 arg10 h0 h1) (rows_is arg3 harg3 h2 512 inb_S2816x1024_S256x1024_512_0) (rows_is arg4 harg4 h3 512 inb_S2816x1024_S256x1024_512_0) (rows_is arg5 harg5 h4 512 inb_S2816x1024_S256x1024_512_0)
    (acc_2 c arg1 harg1 arg2 harg2 arg3 harg3 arg4 harg4 arg5 harg5 arg10 arg13 h0 h1 h2 h3 h4)
  exact h

include h0 h1 h2 h3 h4 in
theorem acc_4 : Mat (m := 512) (n := 1024) (kernelRun0_A.sl.v129 (F := Ideal) c arg1 harg1 arg2 harg2 arg3 harg3 arg4 harg4 arg5 harg5 arg10 arg13 x0 x1 x2 x3 x4) (part (hid (lin (nrm X G) W) (lin (nrm X G) V)) D 1024) := by
  unfold kernelRun0_A.sl.v129 kernelRun0_A.sl.HS0_4
  rw [View.readCov_cons_toLoadRect]
  have h := step_is 768 (held_nrm c arg1 harg1 arg2 harg2 arg10 h0 h1) (rows_is arg3 harg3 h2 768 inb_S2816x1024_S256x1024_768_0) (rows_is arg4 harg4 h3 768 inb_S2816x1024_S256x1024_768_0) (rows_is arg5 harg5 h4 768 inb_S2816x1024_S256x1024_768_0)
    (acc_3 c arg1 harg1 arg2 harg2 arg3 harg3 arg4 harg4 arg5 harg5 arg10 arg13 h0 h1 h2 h3 h4)
  exact h

include h0 h1 h2 h3 h4 in
theorem acc_5 : Mat (m := 512) (n := 1024) (kernelRun0_A.sl.v153 (F := Ideal) c arg1 harg1 arg2 harg2 arg3 harg3 arg4 harg4 arg5 harg5 arg10 arg13 x0 x1 x2 x3 x4) (part (hid (lin (nrm X G) W) (lin (nrm X G) V)) D 1280) := by
  unfold kernelRun0_A.sl.v153 kernelRun0_A.sl.HS0_5
  rw [View.readCov_cons_toLoadRect]
  have h := step_is 1024 (held_nrm c arg1 harg1 arg2 harg2 arg10 h0 h1) (rows_is arg3 harg3 h2 1024 inb_S2816x1024_S256x1024_1024_0) (rows_is arg4 harg4 h3 1024 inb_S2816x1024_S256x1024_1024_0) (rows_is arg5 harg5 h4 1024 inb_S2816x1024_S256x1024_1024_0)
    (acc_4 c arg1 harg1 arg2 harg2 arg3 harg3 arg4 harg4 arg5 harg5 arg10 arg13 h0 h1 h2 h3 h4)
  exact h

include h0 h1 h2 h3 h4 in
theorem acc_6 : Mat (m := 512) (n := 1024) (kernelRun0_A.sl.v177 (F := Ideal) c arg1 harg1 arg2 harg2 arg3 harg3 arg4 harg4 arg5 harg5 arg10 arg13 x0 x1 x2 x3 x4) (part (hid (lin (nrm X G) W) (lin (nrm X G) V)) D 1536) := by
  unfold kernelRun0_A.sl.v177 kernelRun0_A.sl.HS0_6
  rw [View.readCov_cons_toLoadRect]
  have h := step_is 1280 (held_nrm c arg1 harg1 arg2 harg2 arg10 h0 h1) (rows_is arg3 harg3 h2 1280 inb_S2816x1024_S256x1024_1280_0) (rows_is arg4 harg4 h3 1280 inb_S2816x1024_S256x1024_1280_0) (rows_is arg5 harg5 h4 1280 inb_S2816x1024_S256x1024_1280_0)
    (acc_5 c arg1 harg1 arg2 harg2 arg3 harg3 arg4 harg4 arg5 harg5 arg10 arg13 h0 h1 h2 h3 h4)
  exact h

include h0 h1 h2 h3 h4 in
theorem acc_7 : Mat (m := 512) (n := 1024) (kernelRun0_A.sl.v201 (F := Ideal) c arg1 harg1 arg2 harg2 arg3 harg3 arg4 harg4 arg5 harg5 arg10 arg13 x0 x1 x2 x3 x4) (part (hid (lin (nrm X G) W) (lin (nrm X G) V)) D 1792) := by
  unfold kernelRun0_A.sl.v201 kernelRun0_A.sl.HS0_7
  rw [View.readCov_cons_toLoadRect]
  have h := step_is 1536 (held_nrm c arg1 harg1 arg2 harg2 arg10 h0 h1) (rows_is arg3 harg3 h2 1536 inb_S2816x1024_S256x1024_1536_0) (rows_is arg4 harg4 h3 1536 inb_S2816x1024_S256x1024_1536_0) (rows_is arg5 harg5 h4 1536 inb_S2816x1024_S256x1024_1536_0)
    (acc_6 c arg1 harg1 arg2 harg2 arg3 harg3 arg4 harg4 arg5 harg5 arg10 arg13 h0 h1 h2 h3 h4)
  exact h

include h0 h1 h2 h3 h4 in
theorem acc_8 : Mat (m := 512) (n := 1024) (kernelRun0_A.sl.v225 (F := Ideal) c arg1 harg1 arg2 harg2 arg3 harg3 arg4 harg4 arg5 harg5 arg10 arg13 x0 x1 x2 x3 x4) (part (hid (lin (nrm X G) W) (lin (nrm X G) V)) D 2048) := by
  unfold kernelRun0_A.sl.v225 kernelRun0_A.sl.HS0_8 kernelRun0_A.sl.r_11 kernelRun0_A.sl.r_12 kernelRun0_A.sl.cst_136
  rw [View.readCov_cons_toLoadRect]
  have h := step_is 1792 (held_nrm c arg1 harg1 arg2 harg2 arg10 h0 h1) (rows_is arg3 harg3 h2 1792 inb_S2816x1024_S256x1024_1792_0) (rows_is arg4 harg4 h3 1792 inb_S2816x1024_S256x1024_1792_0) (rows_is arg5 harg5 h4 1792 inb_S2816x1024_S256x1024_1792_0)
    (acc_7 c arg1 harg1 arg2 harg2 arg3 harg3 arg4 harg4 arg5 harg5 arg10 arg13 h0 h1 h2 h3 h4)
  exact h

include h0 h1 h2 h3 h4 in
theorem acc_9 : Mat (m := 512) (n := 1024) (kernelRun0_A.sl.v249 (F := Ideal) c arg1 harg1 arg2 harg2 arg3 harg3 arg4 harg4 arg5 harg5 arg10 arg13 x0 x1 x2 x3 x4) (part (hid (lin (nrm X G) W) (lin (nrm X G) V)) D 2304) := by
  unfold kernelRun0_A.sl.v249 kernelRun0_A.sl.HS0_9
  rw [View.readCov_cons_toLoadRect]
  have h := step_is 2048 (held_nrm c arg1 harg1 arg2 harg2 arg10 h0 h1) (rows_is arg3 harg3 h2 2048 inb_S2816x1024_S256x1024_2048_0) (rows_is arg4 harg4 h3 2048 inb_S2816x1024_S256x1024_2048_0) (rows_is arg5 harg5 h4 2048 inb_S2816x1024_S256x1024_2048_0)
    (acc_8 c arg1 harg1 arg2 harg2 arg3 harg3 arg4 harg4 arg5 harg5 arg10 arg13 h0 h1 h2 h3 h4)
  exact h

include h0 h1 h2 h3 h4 in
theorem acc_10 : Mat (m := 512) (n := 1024) (kernelRun0_A.sl.v273 (F := Ideal) c arg1 harg1 arg2 harg2 arg3 harg3 arg4 harg4 arg5 harg5 arg10 arg13 x0 x1 x2 x3 x4) (part (hid (lin (nrm X G) W) (lin (nrm X G) V)) D 2560) := by
  unfold kernelRun0_A.sl.v273 kernelRun0_A.sl.HS0_10
  rw [View.readCov_cons_toLoadRect]
  have h := step_is 2304 (held_nrm c arg1 harg1 arg2 harg2 arg10 h0 h1) (rows_is arg3 harg3 h2 2304 inb_S2816x1024_S256x1024_2304_0) (rows_is arg4 harg4 h3 2304 inb_S2816x1024_S256x1024_2304_0) (rows_is arg5 harg5 h4 2304 inb_S2816x1024_S256x1024_2304_0)
    (acc_9 c arg1 harg1 arg2 harg2 arg3 harg3 arg4 harg4 arg5 harg5 arg10 arg13 h0 h1 h2 h3 h4)
  exact h

include h0 h1 h2 h3 h4 in
theorem acc_11 : Mat (m := 512) (n := 1024) (kernelRun0_A.sl.v282 (F := Ideal) c arg1 harg1 arg2 harg2 arg3 harg3 arg4 harg4 arg5 harg5 arg10 arg13 x0 x1 x2 x3 x4) (part (hid (lin (nrm X G) W) (lin (nrm X G) V)) D 2816) := by
  unfold kernelRun0_A.sl.v282 kernelRun0_A.sl.HS0_11
  rw [View.readCov_cons_toLoadRect]
  have h := step_is 2560 (held_nrm c arg1 harg1 arg2 harg2 arg10 h0 h1) (rows_is arg3 harg3 h2 2560 inb_S2816x1024_S256x1024_2560_0) (rows_is arg4 harg4 h3 2560 inb_S2816x1024_S256x1024_2560_0) (rows_is arg5 harg5 h4 2560 inb_S2816x1024_S256x1024_2560_0)
    (acc_10 c arg1 harg1 arg2 harg2 arg3 harg3 arg4 harg4 arg5 harg5 arg10 arg13 h0 h1 h2 h3 h4)
  exact h

include h0 h1 h2 h3 h4 h5 in
theorem out_dy : Mat (m := 512) (n := 1024) (out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)
    fun r j => gap X (part (hid (lin (nrm X G) W) (lin (nrm X G) V)) D 2816) T r j * Ideal.ofBits .f32 0x3A800000#32 := by
  have ha := acc_11 c arg1 harg1 arg2 harg2 arg3 harg3 arg4 harg4 arg5 harg5 arg10 arg13 h0 h1 h2 h3 h4
  have hx := whole_is arg1 harg1 h0 inb_S512x1024_S512x1024_0_0
  have ht := whole_is arg6 harg6 h5 inb_S512x1024_S512x1024_0_0
  unfold out0_A_6 kernelRun0_A
  dsimp only
  refine one_is VO0_6 _ _ ?_ []
  unfold kernelRun0_A.sl.r_18
  exact dy_is hx ha ht

include h0 h1 h2 h3 h4 h5 in
theorem out_dyb : Mat (m := 512) (n := 1024) (out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)
    fun r j => gap X (part (hid (lin (nrm X G) W) (lin (nrm X G) V)) D 2816) T r j * Ideal.ofBits .f32 0x3A800000#32 := by
  have ha := acc_11 c arg1 harg1 arg2 harg2 arg3 harg3 arg4 harg4 arg5 harg5 arg10 arg13 h0 h1 h2 h3 h4
  have hx := whole_is arg1 harg1 h0 inb_S512x1024_S512x1024_0_0
  have ht := whole_is arg6 harg6 h5 inb_S512x1024_S512x1024_0_0
  unfold out0_A_7 kernelRun0_A
  dsimp only
  refine one16_is VO0_7 _ _ ?_ []
  unfold kernelRun0_A.sl.r_18
  exact dyb_is hx ha ht

include h0 h1 h2 h3 h4 h5 in
theorem out_loss : Mat (m := 8) (n := 128) (out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)
    fun _ _ => 0 + share (gap X (part (hid (lin (nrm X G) W) (lin (nrm X G) V)) D 2816) T) 0 := by
  have ha := acc_11 c arg1 harg1 arg2 harg2 arg3 harg3 arg4 harg4 arg5 harg5 arg10 arg13 h0 h1 h2 h3 h4
  have hx := whole_is arg1 harg1 h0 inb_S512x1024_S512x1024_0_0
  have ht := whole_is arg6 harg6 h5 inb_S512x1024_S512x1024_0_0
  have hl : Mat (m := 8) (n := 128) (kernelRun0_A.sl.v302 (F := Ideal) c arg9) fun _ _ => 0 := by
    unfold kernelRun0_A.sl.v302 kernelRun0_A.sl.H8_1
    rw [View.readCov_cons_toLoadRect]
    exact zero_is
  unfold out0_A_8 kernelRun0_A
  dsimp only
  refine one_is VO0_8 _ _ ?_ _
  unfold kernelRun0_A.sl.r_18
  exact loss_is hx ha ht hl

include h0 h1 in
theorem out_n : Mat (m := 512) (n := 1024) (out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (nrm X G) := by
  unfold out0_A_9 kernelRun0_A
  dsimp only
  unfold kernelRun0_A.sl.H9_1
  exact one16_is VO0_9 _ _ (nrm_at arg1 harg1 arg2 harg2 h0 h1) []

include h0 h1 h2 in
theorem out_gg : Mat (m := 512) (n := 2816) (out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (lin (nrm X G) W) := by
  have hN := held_nrm c arg1 harg1 arg2 harg2 arg10 h0 h1
  unfold out0_A_10 kernelRun0_A
  dsimp only
  unfold kernelRun0_A.sl.r_5 kernelRun0_A.sl.r_11 kernelRun0_A.sl.r_12 kernelRun0_A.sl.cst_136
  intro r q
  refine (?_ : ColsTo VO0_10 VO0_10.junk _ 2816 (lin (nrm X G) W)) r q q.isLt
  refine cols_cons 2560 ?_ _ (gate16_is (W := W) (n := 2560) hN (rows_is arg3 harg3 h2 2560 inb_S2816x1024_S256x1024_2560_0))
  refine cols_cons 2304 ?_ _ (gate16_is (W := W) (n := 2304) hN (rows_is arg3 harg3 h2 2304 inb_S2816x1024_S256x1024_2304_0))
  refine cols_cons 2048 ?_ _ (gate16_is (W := W) (n := 2048) hN (rows_is arg3 harg3 h2 2048 inb_S2816x1024_S256x1024_2048_0))
  refine cols_cons 1792 ?_ _ (gate16_is (W := W) (n := 1792) hN (rows_is arg3 harg3 h2 1792 inb_S2816x1024_S256x1024_1792_0))
  refine cols_cons 1536 ?_ _ (gate16_is (W := W) (n := 1536) hN (rows_is arg3 harg3 h2 1536 inb_S2816x1024_S256x1024_1536_0))
  refine cols_cons 1280 ?_ _ (gate16_is (W := W) (n := 1280) hN (rows_is arg3 harg3 h2 1280 inb_S2816x1024_S256x1024_1280_0))
  refine cols_cons 1024 ?_ _ (gate16_is (W := W) (n := 1024) hN (rows_is arg3 harg3 h2 1024 inb_S2816x1024_S256x1024_1024_0))
  refine cols_cons 768 ?_ _ (gate16_is (W := W) (n := 768) hN (rows_is arg3 harg3 h2 768 inb_S2816x1024_S256x1024_768_0))
  refine cols_cons 512 ?_ _ (gate16_is (W := W) (n := 512) hN (rows_is arg3 harg3 h2 512 inb_S2816x1024_S256x1024_512_0))
  refine cols_cons 256 ?_ _ (gate16_is (W := W) (n := 256) hN (rows_is arg3 harg3 h2 256 inb_S2816x1024_S256x1024_256_0))
  refine cols_cons 0 ?_ _ (gate16_is (W := W) (n := 0) hN (rows_is arg3 harg3 h2 0 inb_S2816x1024_S256x1024_0_0))
  exact cols_nil _ _ _

include h0 h1 h3 in
theorem out_uu : Mat (m := 512) (n := 2816) (out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (lin (nrm X G) V) := by
  have hN := held_nrm c arg1 harg1 arg2 harg2 arg10 h0 h1
  unfold out0_A_11 kernelRun0_A
  dsimp only
  unfold kernelRun0_A.sl.r_4 kernelRun0_A.sl.r_6 kernelRun0_A.sl.r_11 kernelRun0_A.sl.r_15
  intro r q
  refine (?_ : ColsTo VO0_11 VO0_11.junk _ 2816 (lin (nrm X G) V)) r q q.isLt
  refine cols_cons 2560 ?_ _ (gate16_is (W := V) (n := 2560) hN (rows_is arg4 harg4 h3 2560 inb_S2816x1024_S256x1024_2560_0))
  refine cols_cons 2304 ?_ _ (gate16_is (W := V) (n := 2304) hN (rows_is arg4 harg4 h3 2304 inb_S2816x1024_S256x1024_2304_0))
  refine cols_cons 2048 ?_ _ (gate16_is (W := V) (n := 2048) hN (rows_is arg4 harg4 h3 2048 inb_S2816x1024_S256x1024_2048_0))
  refine cols_cons 1792 ?_ _ (gate16_is (W := V) (n := 1792) hN (rows_is arg4 harg4 h3 1792 inb_S2816x1024_S256x1024_1792_0))
  refine cols_cons 1536 ?_ _ (gate16_is (W := V) (n := 1536) hN (rows_is arg4 harg4 h3 1536 inb_S2816x1024_S256x1024_1536_0))
  refine cols_cons 1280 ?_ _ (gate16_is (W := V) (n := 1280) hN (rows_is arg4 harg4 h3 1280 inb_S2816x1024_S256x1024_1280_0))
  refine cols_cons 1024 ?_ _ (gate16_is (W := V) (n := 1024) hN (rows_is arg4 harg4 h3 1024 inb_S2816x1024_S256x1024_1024_0))
  refine cols_cons 768 ?_ _ (gate16_is (W := V) (n := 768) hN (rows_is arg4 harg4 h3 768 inb_S2816x1024_S256x1024_768_0))
  refine cols_cons 512 ?_ _ (gate16_is (W := V) (n := 512) hN (rows_is arg4 harg4 h3 512 inb_S2816x1024_S256x1024_512_0))
  refine cols_cons 256 ?_ _ (gate16_is (W := V) (n := 256) hN (rows_is arg4 harg4 h3 256 inb_S2816x1024_S256x1024_256_0))
  refine cols_cons 0 ?_ _ (gate16_is (W := V) (n := 0) hN (rows_is arg4 harg4 h3 0 inb_S2816x1024_S256x1024_0_0))
  exact cols_nil _ _ _

end Point

end Cert.Loss.First
-- ==== Proof.LossPointB.lean ====
module

public import proofs.«01_k».proof.Proof.LossPay

@[expose] public section

/-!
# What the forward call with the loss leaves at a later grid point

The accumulator after each of the 11 tiles of 256 hidden columns, and the six blocks that are stored.
-/

set_option maxRecDepth 16384

namespace Cert.Loss.Later

open Idealize.ShloMosaic Cert.Kernel3Ideal Cert.Kernel3Ideal.Gen Cert.Ffn Finset

section Point

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S2816x1024 .bf16) (harg3 : arg3.IsWhole)
  (arg4 : Memref sig .tc .vmem S2816x1024 .bf16) (harg4 : arg4.IsWhole)
  (arg5 : Memref sig .tc .vmem S2816x1024 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S8x128 .f32) (harg9 : arg9.IsWhole)
  (arg10 : Memref sig .tc .vmem S512x1024 .bf16) (harg10 : arg10.IsWhole)
  (arg11 : Memref sig .tc .vmem S512x2816 .bf16) (harg11 : arg11.IsWhole)
  (arg12 : Memref sig .tc .vmem S512x2816 .bf16) (harg12 : arg12.IsWhole)
  (arg13 : Memref sig .tc .vmem S512x1024 .f32) (harg13 : arg13.IsWhole)
  (hc0 : ¬cond0_0 i)
  {x0 : Vec Ideal S512x1024 .f32} {x1 : Vec Ideal S1x1024 .f32} {x2 x3 x4 : Vec Ideal S2816x1024 .bf16} {x5 : Vec Ideal S512x1024 .f32} {xo8 : Vec Ideal S8x128 .f32}
  {X W V D T : ℕ → ℕ → EReal} {G : ℕ → EReal} {b : EReal}
  (h0 : Mat x0 X) (h1 : Mat (m := 1) (n := 1024) x1 fun _ => G) (h2 : Mat x2 W) (h3 : Mat x3 V) (h4 : Mat x4 D) (h5 : Mat x5 T) (h6 : Mat (m := 8) (n := 128) xo8 fun _ _ => b)

include h0 h1 in
theorem nrm_at : Mat (m := 512) (n := 1024) (k0_pay6 (F := Ideal)
    (View.readAt (Elt Ideal) arg1.view (Rect.unit (s := S512x1024) ![0, 0] S512x1024.size inb_S512x1024_S512x1024_0_0).toLoadRect (harg1.unread x0))
    (View.readAt (Elt Ideal) arg2.view (Rect.unit (s := S1x1024) ![0, 0] S1x1024.size inb_S1x1024_S1x1024_0_0).toLoadRect (harg2.unread x1))) (nrm X G) := by
  have h := nrm_is (whole_is arg1 harg1 h0 inb_S512x1024_S512x1024_0_0) (whole_is arg2 harg2 h1 inb_S1x1024_S1x1024_0_0)
  exact h

include h0 h1 in
theorem held_nrm : Mat (m := 512) (n := 1024) (kernelRun0_B.sl.v19 (F := Ideal) c arg1 harg1 arg2 harg2 arg10 x0 x1) (nrm X G) := by
  unfold kernelRun0_B.sl.v19 kernelRun0_B.sl.H9_1
  rw [View.readCov_cons_toLoadRect]
  exact nrm_at arg1 harg1 arg2 harg2 h0 h1

include h0 h1 h2 h3 h4 in
theorem acc_1 : Mat (m := 512) (n := 1024) (kernelRun0_B.sl.v57 (F := Ideal) c arg1 harg1 arg2 harg2 arg3 harg3 arg4 harg4 arg5 harg5 arg10 arg13 x0 x1 x2 x3 x4) (part (hid (lin (nrm X G) W) (lin (nrm X G) V)) D 256) := by
  unfold kernelRun0_B.sl.v57 kernelRun0_B.sl.HS0_1
  rw [View.readCov_cons_toLoadRect]
  have h := first_is (held_nrm c arg1 harg1 arg2 harg2 arg10 h0 h1) (rows_is arg3 harg3 h2 0 inb_S2816x1024_S256x1024_0_0) (rows_is arg4 harg4 h3 0 inb_S2816x1024_S256x1024_0_0) (rows_is arg5 harg5 h4 0 inb_S2816x1024_S256x1024_0_0)
  exact h

include h0 h1 h2 h3 h4 in
theorem acc_2 : Mat (m := 512) (n := 1024) (kernelRun0_B.sl.v81 (F := Ideal) c arg1 harg1 arg2 harg2 arg3 harg3 arg4 harg4 arg5 harg5 arg10 arg13 x0 x1 x2 x3 x4) (part (hid (lin (nrm X G) W) (lin (nrm X G) V)) D 512) := by
  unfold kernelRun0_B.sl.v81 kernelRun0_B.sl.HS0_2
  rw [View.readCov_cons_toLoadRect]
  have h := step_is 256 (held_nrm c arg1 harg1 arg2 harg2 arg10 h0 h1) (rows_is arg3 harg3 h2 256 inb_S2816x1024_S256x1024_256_0) (rows_is arg4 harg4 h3 256 inb_S2816x1024_S256x1024_256_0) (rows_is arg5 harg5 h4 256 inb_S2816x1024_S256x1024_256_0)
    (acc_1 c arg1 harg1 arg2 harg2 arg3 harg3 arg4 harg4 arg5 harg5 arg10 arg13 h0 h1 h2 h3 h4)
  exact h

include h0 h1 h2 h3 h4 in
theorem acc_3 : Mat (m := 512) (n := 1024) (kernelRun0_B.sl.v105 (F := Ideal) c arg1 harg1 arg2 harg2 arg3 harg3 arg4 harg4 arg5 harg5 arg10 arg13 x0 x1 x2 x3 x4) (part (hid (lin (nrm X G) W) (lin (nrm X G) V)) D 768) := by
  unfold kernelRun0_B.sl.v105 kernelRun0_B.sl.HS0_3
  rw [View.readCov_cons_toLoadRect]
  have h := step_is 512 (held_nrm c arg1 harg1 arg2 harg2 arg10 h0 h1) (rows_is arg3 harg3 h2 512 inb_S2816x1024_S256x1024_512_0) (rows_is arg4 harg4 h3 512 inb_S2816x1024_S256x1024_512_0) (rows_is arg5 harg5 h4 512 inb_S2816x1024_S256x1024_512_0)
    (acc_2 c arg1 harg1 arg2 harg2 arg3 harg3 arg4 harg4 arg5 harg5 arg10 arg13 h0 h1 h2 h3 h4)
  exact h

include h0 h1 h2 h3 h4 in
theorem acc_4 : Mat (m := 512) (n := 1024) (kernelRun0_B.sl.v129 (F := Ideal) c arg1 harg1 arg2 harg2 arg3 harg3 arg4 harg4 arg5 harg5 arg10 arg13 x0 x1 x2 x3 x4) (part (hid (lin (nrm X G) W) (lin (nrm X G) V)) D 1024) := by
  unfold kernelRun0_B.sl.v129 kernelRun0_B.sl.HS0_4
  rw [View.readCov_cons_toLoadRect]
  have h := step_is 768 (held_nrm c arg1 harg1 arg2 harg2 arg10 h0 h1) (rows_is arg3 harg3 h2 768 inb_S2816x1024_S256x1024_768_0) (rows_is arg4 harg4 h3 768 inb_S2816x1024_S256x1024_768_0) (rows_is arg5 harg5 h4 768 inb_S2816x1024_S256x1024_768_0)
    (acc_3 c arg1 harg1 arg2 harg2 arg3 harg3 arg4 harg4 arg5 harg5 arg10 arg13 h0 h1 h2 h3 h4)
  exact h

include h0 h1 h2 h3 h4 in
theorem acc_5 : Mat (m := 512) (n := 1024) (kernelRun0_B.sl.v153 (F := Ideal) c arg1 harg1 arg2 harg2 arg3 harg3 arg4 harg4 arg5 harg5 arg10 arg13 x0 x1 x2 x3 x4) (part (hid (lin (nrm X G) W) (lin (nrm X G) V)) D 1280) := by
  unfold kernelRun0_B.sl.v153 kernelRun0_B.sl.HS0_5
  rw [View.readCov_cons_toLoadRect]
  have h := step_is 1024 (held_nrm c arg1 harg1 arg2 harg2 arg10 h0 h1) (rows_is arg3 harg3 h2 1024 inb_S2816x1024_S256x1024_1024_0) (rows_is arg4 harg4 h3 1024 inb_S2816x1024_S256x1024_1024_0) (rows_is arg5 harg5 h4 1024 inb_S2816x1024_S256x1024_1024_0)
    (acc_4 c arg1 harg1 arg2 harg2 arg3 harg3 arg4 harg4 arg5 harg5 arg10 arg13 h0 h1 h2 h3 h4)
  exact h

include h0 h1 h2 h3 h4 in
theorem acc_6 : Mat (m := 512) (n := 1024) (kernelRun0_B.sl.v177 (F := Ideal) c arg1 harg1 arg2 harg2 arg3 harg3 arg4 harg4 arg5 harg5 arg10 arg13 x0 x1 x2 x3 x4) (part (hid (lin (nrm X G) W) (lin (nrm X G) V)) D 1536) := by
  unfold kernelRun0_B.sl.v177 kernelRun0_B.sl.HS0_6
  rw [View.readCov_cons_toLoadRect]
  have h := step_is 1280 (held_nrm c arg1 harg1 arg2 harg2 arg10 h0 h1) (rows_is arg3 harg3 h2 1280 inb_S2816x1024_S256x1024_1280_0) (rows_is arg4 harg4 h3 1280 inb_S2816x1024_S256x1024_1280_0) (rows_is arg5 harg5 h4 1280 inb_S2816x1024_S256x1024_1280_0)
    (acc_5 c arg1 harg1 arg2 harg2 arg3 harg3 arg4 harg4 arg5 harg5 arg10 arg13 h0 h1 h2 h3 h4)
  exact h

include h0 h1 h2 h3 h4 in
theorem acc_7 : Mat (m := 512) (n := 1024) (kernelRun0_B.sl.v201 (F := Ideal) c arg1 harg1 arg2 harg2 arg3 harg3 arg4 harg4 arg5 harg5 arg10 arg13 x0 x1 x2 x3 x4) (part (hid (lin (nrm X G) W) (lin (nrm X G) V)) D 1792) := by
  unfold kernelRun0_B.sl.v201 kernelRun0_B.sl.HS0_7
  rw [View.readCov_cons_toLoadRect]
  have h := step_is 1536 (held_nrm c arg1 harg1 arg2 harg2 arg10 h0 h1) (rows_is arg3 harg3 h2 1536 inb_S2816x1024_S256x1024_1536_0) (rows_is arg4 harg4 h3 1536 inb_S2816x1024_S256x1024_1536_0) (rows_is arg5 harg5 h4 1536 inb_S2816x1024_S256x1024_1536_0)
    (acc_6 c arg1 harg1 arg2 harg2 arg3 harg3 arg4 harg4 arg5 harg5 arg10 arg13 h0 h1 h2 h3 h4)
  exact h

include h0 h1 h2 h3 h4 in
theorem acc_8 : Mat (m := 512) (n := 1024) (kernelRun0_B.sl.v225 (F := Ideal) c arg1 harg1 arg2 harg2 arg3 harg3 arg4 harg4 arg5 harg5 arg10 arg13 x0 x1 x2 x3 x4) (part (hid (lin (nrm X G) W) (lin (nrm X G) V)) D 2048) := by
  unfold kernelRun0_B.sl.v225 kernelRun0_B.sl.HS0_8 kernelRun0_B.sl.r_11 kernelRun0_B.sl.r_12 kernelRun0_B.sl.cst_136
  rw [View.readCov_cons_toLoadRect]
  have h := step_is 1792 (held_nrm c arg1 harg1 arg2 harg2 arg10 h0 h1) (rows_is arg3 harg3 h2 1792 inb_S2816x1024_S256x1024_1792_0) (rows_is arg4 harg4 h3 1792 inb_S2816x1024_S256x1024_1792_0) (rows_is arg5 harg5 h4 1792 inb_S2816x1024_S256x1024_1792_0)
    (acc_7 c arg1 harg1 arg2 harg2 arg3 harg3 arg4 harg4 arg5 harg5 arg10 arg13 h0 h1 h2 h3 h4)
  exact h

include h0 h1 h2 h3 h4 in
theorem acc_9 : Mat (m := 512) (n := 1024) (kernelRun0_B.sl.v249 (F := Ideal) c arg1 harg1 arg2 harg2 arg3 harg3 arg4 harg4 arg5 harg5 arg10 arg13 x0 x1 x2 x3 x4) (part (hid (lin (nrm X G) W) (lin (nrm X G) V)) D 2304) := by
  unfold kernelRun0_B.sl.v249 kernelRun0_B.sl.HS0_9
  rw [View.readCov_cons_toLoadRect]
  have h := step_is 2048 (held_nrm c arg1 harg1 arg2 harg2 arg10 h0 h1) (rows_is arg3 harg3 h2 2048 inb_S2816x1024_S256x1024_2048_0) (rows_is arg4 harg4 h3 2048 inb_S2816x1024_S256x1024_2048_0) (rows_is arg5 harg5 h4 2048 inb_S2816x1024_S256x1024_2048_0)
    (acc_8 c arg1 harg1 arg2 harg2 arg3 harg3 arg4 harg4 arg5 harg5 arg10 arg13 h0 h1 h2 h3 h4)
  exact h

include h0 h1 h2 h3 h4 in
theorem acc_10 : Mat (m := 512) (n := 1024) (kernelRun0_B.sl.v273 (F := Ideal) c arg1 harg1 arg2 harg2 arg3 harg3 arg4 harg4 arg5 harg5 arg10 arg13 x0 x1 x2 x3 x4) (part (hid (lin (nrm X G) W) (lin (nrm X G) V)) D 2560) := by
  unfold kernelRun0_B.sl.v273 kernelRun0_B.sl.HS0_10
  rw [View.readCov_cons_toLoadRect]
  have h := step_is 2304 (held_nrm c arg1 harg1 arg2 harg2 arg10 h0 h1) (rows_is arg3 harg3 h2 2304 inb_S2816x1024_S256x1024_2304_0) (rows_is arg4 harg4 h3 2304 inb_S2816x1024_S256x1024_2304_0) (rows_is arg5 harg5 h4 2304 inb_S2816x1024_S256x1024_2304_0)
    (acc_9 c arg1 harg1 arg2 harg2 arg3 harg3 arg4 harg4 arg5 harg5 arg10 arg13 h0 h1 h2 h3 h4)
  exact h

include h0 h1 h2 h3 h4 in
theorem acc_11 : Mat (m := 512) (n := 1024) (kernelRun0_B.sl.v282 (F := Ideal) c arg1 harg1 arg2 harg2 arg3 harg3 arg4 harg4 arg5 harg5 arg10 arg13 x0 x1 x2 x3 x4) (part (hid (lin (nrm X G) W) (lin (nrm X G) V)) D 2816) := by
  unfold kernelRun0_B.sl.v282 kernelRun0_B.sl.HS0_11
  rw [View.readCov_cons_toLoadRect]
  have h := step_is 2560 (held_nrm c arg1 harg1 arg2 harg2 arg10 h0 h1) (rows_is arg3 harg3 h2 2560 inb_S2816x1024_S256x1024_2560_0) (rows_is arg4 harg4 h3 2560 inb_S2816x1024_S256x1024_2560_0) (rows_is arg5 harg5 h4 2560 inb_S2816x1024_S256x1024_2560_0)
    (acc_10 c arg1 harg1 arg2 harg2 arg3 harg3 arg4 harg4 arg5 harg5 arg10 arg13 h0 h1 h2 h3 h4)
  exact h

include h0 h1 h2 h3 h4 h5 in
theorem out_dy : Mat (m := 512) (n := 1024) (out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8)
    fun r j => gap X (part (hid (lin (nrm X G) W) (lin (nrm X G) V)) D 2816) T r j * Ideal.ofBits .f32 0x3A800000#32 := by
  have ha := acc_11 c arg1 harg1 arg2 harg2 arg3 harg3 arg4 harg4 arg5 harg5 arg10 arg13 h0 h1 h2 h3 h4
  have hx := whole_is arg1 harg1 h0 inb_S512x1024_S512x1024_0_0
  have ht := whole_is arg6 harg6 h5 inb_S512x1024_S512x1024_0_0
  unfold out0_B_6 kernelRun0_B
  dsimp only
  refine one_is VO0_6 _ _ ?_ []
  unfold kernelRun0_B.sl.r_18
  exact dy_is hx ha ht

include h0 h1 h2 h3 h4 h5 in
theorem out_dyb : Mat (m := 512) (n := 1024) (out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8)
    fun r j => gap X (part (hid (lin (nrm X G) W) (lin (nrm X G) V)) D 2816) T r j * Ideal.ofBits .f32 0x3A800000#32 := by
  have ha := acc_11 c arg1 harg1 arg2 harg2 arg3 harg3 arg4 harg4 arg5 harg5 arg10 arg13 h0 h1 h2 h3 h4
  have hx := whole_is arg1 harg1 h0 inb_S512x1024_S512x1024_0_0
  have ht := whole_is arg6 harg6 h5 inb_S512x1024_S512x1024_0_0
  unfold out0_B_7 kernelRun0_B
  dsimp only
  refine one16_is VO0_7 _ _ ?_ []
  unfold kernelRun0_B.sl.r_18
  exact dyb_is hx ha ht

include h0 h1 h2 h3 h4 h5 h6 in
theorem out_loss : Mat (m := 8) (n := 128) (out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8)
    fun _ _ => b + share (gap X (part (hid (lin (nrm X G) W) (lin (nrm X G) V)) D 2816) T) 0 := by
  have ha := acc_11 c arg1 harg1 arg2 harg2 arg3 harg3 arg4 harg4 arg5 harg5 arg10 arg13 h0 h1 h2 h3 h4
  have hx := whole_is arg1 harg1 h0 inb_S512x1024_S512x1024_0_0
  have ht := whole_is arg6 harg6 h5 inb_S512x1024_S512x1024_0_0
  have hl := whole_is arg9 harg9 h6 inb_S8x128_S8x128_0_0
  unfold out0_B_8 kernelRun0_B
  dsimp only
  refine one_is VO0_8 _ _ ?_ _
  unfold kernelRun0_B.sl.r_18
  exact loss_is hx ha ht hl

include h0 h1 in
theorem out_n : Mat (m := 512) (n := 1024) (out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8) (nrm X G) := by
  unfold out0_B_9 kernelRun0_B
  dsimp only
  unfold kernelRun0_B.sl.H9_1
  exact one16_is VO0_9 _ _ (nrm_at arg1 harg1 arg2 harg2 h0 h1) []

include h0 h1 h2 in
theorem out_gg : Mat (m := 512) (n := 2816) (out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8) (lin (nrm X G) W) := by
  have hN := held_nrm c arg1 harg1 arg2 harg2 arg10 h0 h1
  unfold out0_B_10 kernelRun0_B
  dsimp only
  unfold kernelRun0_B.sl.r_5 kernelRun0_B.sl.r_11 kernelRun0_B.sl.r_12 kernelRun0_B.sl.cst_136
  intro r q
  refine (?_ : ColsTo VO0_10 VO0_10.junk _ 2816 (lin (nrm X G) W)) r q q.isLt
  refine cols_cons 2560 ?_ _ (gate16_is (W := W) (n := 2560) hN (rows_is arg3 harg3 h2 2560 inb_S2816x1024_S256x1024_2560_0))
  refine cols_cons 2304 ?_ _ (gate16_is (W := W) (n := 2304) hN (rows_is arg3 harg3 h2 2304 inb_S2816x1024_S256x1024_2304_0))
  refine cols_cons 2048 ?_ _ (gate16_is (W := W) (n := 2048) hN (rows_is arg3 harg3 h2 2048 inb_S2816x1024_S256x1024_2048_0))
  refine cols_cons 1792 ?_ _ (gate16_is (W := W) (n := 1792) hN (rows_is arg3 harg3 h2 1792 inb_S2816x1024_S256x1024_1792_0))
  refine cols_cons 1536 ?_ _ (gate16_is (W := W) (n := 1536) hN (rows_is arg3 harg3 h2 1536 inb_S2816x1024_S256x1024_1536_0))
  refine cols_cons 1280 ?_ _ (gate16_is (W := W) (n := 1280) hN (rows_is arg3 harg3 h2 1280 inb_S2816x1024_S256x1024_1280_0))
  refine cols_cons 1024 ?_ _ (gate16_is (W := W) (n := 1024) hN (rows_is arg3 harg3 h2 1024 inb_S2816x1024_S256x1024_1024_0))
  refine cols_cons 768 ?_ _ (gate16_is (W := W) (n := 768) hN (rows_is arg3 harg3 h2 768 inb_S2816x1024_S256x1024_768_0))
  refine cols_cons 512 ?_ _ (gate16_is (W := W) (n := 512) hN (rows_is arg3 harg3 h2 512 inb_S2816x1024_S256x1024_512_0))
  refine cols_cons 256 ?_ _ (gate16_is (W := W) (n := 256) hN (rows_is arg3 harg3 h2 256 inb_S2816x1024_S256x1024_256_0))
  refine cols_cons 0 ?_ _ (gate16_is (W := W) (n := 0) hN (rows_is arg3 harg3 h2 0 inb_S2816x1024_S256x1024_0_0))
  exact cols_nil _ _ _

include h0 h1 h3 in
theorem out_uu : Mat (m := 512) (n := 2816) (out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8) (lin (nrm X G) V) := by
  have hN := held_nrm c arg1 harg1 arg2 harg2 arg10 h0 h1
  unfold out0_B_11 kernelRun0_B
  dsimp only
  unfold kernelRun0_B.sl.r_4 kernelRun0_B.sl.r_6 kernelRun0_B.sl.r_11 kernelRun0_B.sl.r_15
  intro r q
  refine (?_ : ColsTo VO0_11 VO0_11.junk _ 2816 (lin (nrm X G) V)) r q q.isLt
  refine cols_cons 2560 ?_ _ (gate16_is (W := V) (n := 2560) hN (rows_is arg4 harg4 h3 2560 inb_S2816x1024_S256x1024_2560_0))
  refine cols_cons 2304 ?_ _ (gate16_is (W := V) (n := 2304) hN (rows_is arg4 harg4 h3 2304 inb_S2816x1024_S256x1024_2304_0))
  refine cols_cons 2048 ?_ _ (gate16_is (W := V) (n := 2048) hN (rows_is arg4 harg4 h3 2048 inb_S2816x1024_S256x1024_2048_0))
  refine cols_cons 1792 ?_ _ (gate16_is (W := V) (n := 1792) hN (rows_is arg4 harg4 h3 1792 inb_S2816x1024_S256x1024_1792_0))
  refine cols_cons 1536 ?_ _ (gate16_is (W := V) (n := 1536) hN (rows_is arg4 harg4 h3 1536 inb_S2816x1024_S256x1024_1536_0))
  refine cols_cons 1280 ?_ _ (gate16_is (W := V) (n := 1280) hN (rows_is arg4 harg4 h3 1280 inb_S2816x1024_S256x1024_1280_0))
  refine cols_cons 1024 ?_ _ (gate16_is (W := V) (n := 1024) hN (rows_is arg4 harg4 h3 1024 inb_S2816x1024_S256x1024_1024_0))
  refine cols_cons 768 ?_ _ (gate16_is (W := V) (n := 768) hN (rows_is arg4 harg4 h3 768 inb_S2816x1024_S256x1024_768_0))
  refine cols_cons 512 ?_ _ (gate16_is (W := V) (n := 512) hN (rows_is arg4 harg4 h3 512 inb_S2816x1024_S256x1024_512_0))
  refine cols_cons 256 ?_ _ (gate16_is (W := V) (n := 256) hN (rows_is arg4 harg4 h3 256 inb_S2816x1024_S256x1024_256_0))
  refine cols_cons 0 ?_ _ (gate16_is (W := V) (n := 0) hN (rows_is arg4 harg4 h3 0 inb_S2816x1024_S256x1024_0_0))
  exact cols_nil _ _ _

end Point

end Cert.Loss.Later
-- ==== Proof.LossFwd.lean ====
module

public import proofs.«01_k».proof.Proof.LossPointA
public import proofs.«01_k».proof.Proof.LossPointB
public import proofs.«01_k».proof.Proof.FfnMath
public import proofs.«01_k».proof.Proof.Gen.Kernel3Ideal.Value
public import Idealize.ShloMosaic.Lib.Pipeline.ValueKit.Point
public import Idealize.ShloMosaic.Lib.Claim
public import Idealize.ShloMosaic.Lib.StableHlo.ReadAt

@[expose] public section

/-!
# The results of the last half-step's forward call

The blocks that a grid point reads and writes back, and the six result arrays.  The points add up the loss: each adds its rows' share to the tile.
-/

set_option maxRecDepth 16384

noncomputable section

namespace Cert.Loss

open Cert.Ffn Cert.Kernel3Ideal Cert.Kernel3Ideal.Gen Idealize.ShloMosaic Idealize.ShloMosaic.TcCoe Finset

variable {m : (ℓ : Loc nD τ sig) → Buf (Elt Ideal) ℓ} {c : Dev nD}

/-- Which block of its array each window holds at a point. -/
theorem places : ∀ t : Fin cfg0.N, win0_0.index t = ![t.val, 0] ∧ win0_1.index t = ![0, 0] ∧ win0_2.index t = ![0, 0]
   ∧ win0_3.index t = ![0, 0] ∧ win0_4.index t = ![0, 0] ∧ win0_5.index t = ![t.val, 0] ∧ win0_6.index t = ![t.val, 0]
   ∧ win0_7.index t = ![t.val, 0] ∧ win0_8.index t = ![0, 0] ∧ win0_9.index t = ![t.val, 0] ∧ win0_10.index t = ![t.val, 0]
   ∧ win0_11.index t = ![t.val, 0] :=
  (by decide +kernel : ∀ t : Fin grid0.N, _)

/-- Every point writes its blocks back, but the tile of the loss is written back at the last point only. -/
theorem flushes : ∀ t : Fin cfg0.N, (cfg0.win 6).flush t = true ∧ (cfg0.win 7).flush t = true ∧ (cfg0.win 9).flush t = true
    ∧ (cfg0.win 10).flush t = true ∧ (cfg0.win 11).flush t = true ∧ ((cfg0.win 8).flush t = true → t.val = 7) :=
  (by decide +kernel : ∀ t : Fin grid0.N, _)

theorem row_lt (t : Fin cfg0.N) (r : Fin 512) : 512 * t.val + r.val < 4096 := by
  have : t.val < 8 := t.isLt
  omega

theorem gate_entry : V m c main_v1 = truncf (F := Ideal) .bf16 (transpose S2816x1024 [1, 0] (m (c, Proc.tc.devRef main_arg2)) transposes_S1024x2816_S2816x1024_1_0) bitsLt_bf16_f32 := by
  unfold_abbrev_sides
  after_reads_simp
  try simp -implicitDefEqProofs only [StableHlo.TRef.toBuf, StableHlo.TRef.ofBuf, cast_cast, cast_eq]

theorem up_entry : V m c main_v3 = truncf (F := Ideal) .bf16 (transpose S2816x1024 [1, 0] (m (c, Proc.tc.devRef main_arg3)) transposes_S1024x2816_S2816x1024_1_0) bitsLt_bf16_f32 := by
  unfold_abbrev_sides
  after_reads_simp
  try simp -implicitDefEqProofs only [StableHlo.TRef.toBuf, StableHlo.TRef.ofBuf, cast_cast, cast_eq]

theorem down_entry : V m c main_v4 = truncf (F := Ideal) .bf16 (m (c, Proc.tc.devRef main_arg4)) bitsLt_bf16_f32 := by
  unfold_abbrev_sides
  after_reads_simp
  try simp -implicitDefEqProofs only [StableHlo.TRef.toBuf, StableHlo.TRef.ofBuf, cast_cast, cast_eq]

theorem read0 (t : Fin cfg0.N) : Mat (m := 512) (n := 1024) (iblk m c 0 t) fun r => ent (a := 4096) (b := 1024) (m (c, Proc.tc.devRef main_arg0)) (512 * t.val + r) := by
  intro r d
  refine Eq.trans ?_ (ent_at (a := 4096) (b := 1024) (m (c, Proc.tc.devRef main_arg0)) ⟨_, row_lt t r⟩ d)
  refine Eq.trans ?_ (congrFun (V_main_arg0 m c) _)
  blk_ext [iblk, places t]

theorem read1 (t : Fin cfg0.N) : Mat (m := 1) (n := 1024) (iblk m c 1 t) fun _ => ent (a := 1) (b := 1024) (m (c, Proc.tc.devRef main_arg1)) 0 := by
  intro r d
  obtain rfl : r = 0 := Subsingleton.elim _ _
  refine Eq.trans ?_ (ent_at (a := 1) (b := 1024) (m (c, Proc.tc.devRef main_arg1)) 0 d)
  refine Eq.trans ?_ (congrFun (V_main_arg1 m c) _)
  blk_ext [iblk, places t]

theorem read2 (t : Fin cfg0.N) : Mat (m := 2816) (n := 1024) (iblk m c 2 t) fun f d => ent (a := 1024) (b := 2816) (m (c, Proc.tc.devRef main_arg2)) d f := by
  intro r d
  refine Eq.trans ?_ (ent_at (a := 1024) (b := 2816) (m (c, Proc.tc.devRef main_arg2)) d r)
  refine Eq.trans (b := V m c main_v1 (ix2 r d)) ?_ ?_
  · blk_ext [iblk, places t]
  · rw [gate_entry]
    pointwise

theorem read3 (t : Fin cfg0.N) : Mat (m := 2816) (n := 1024) (iblk m c 3 t) fun f d => ent (a := 1024) (b := 2816) (m (c, Proc.tc.devRef main_arg3)) d f := by
  intro r d
  refine Eq.trans ?_ (ent_at (a := 1024) (b := 2816) (m (c, Proc.tc.devRef main_arg3)) d r)
  refine Eq.trans (b := V m c main_v3 (ix2 r d)) ?_ ?_
  · blk_ext [iblk, places t]
  · rw [up_entry]
    pointwise

theorem read4 (t : Fin cfg0.N) : Mat (m := 2816) (n := 1024) (iblk m c 4 t) (ent (a := 2816) (b := 1024) (m (c, Proc.tc.devRef main_arg4))) := by
  intro r d
  refine Eq.trans ?_ (ent_at (a := 2816) (b := 1024) (m (c, Proc.tc.devRef main_arg4)) r d)
  refine Eq.trans (b := V m c main_v4 (ix2 r d)) ?_ ?_
  · blk_ext [iblk, places t]
  · rw [down_entry]
    pointwise

theorem read5 (t : Fin cfg0.N) : Mat (m := 512) (n := 1024) (iblk m c 5 t) fun r => ent (a := 4096) (b := 1024) (m (c, Proc.tc.devRef main_arg5)) (512 * t.val + r) := by
  intro r d
  refine Eq.trans ?_ (ent_at (a := 4096) (b := 1024) (m (c, Proc.tc.devRef main_arg5)) ⟨_, row_lt t r⟩ d)
  refine Eq.trans ?_ (congrFun (V_main_arg5 m c) _)
  blk_ext [iblk, places t]

/-- The rows that belong together: block and row in the block. -/
theorem split_row (i : Fin 4096) : ∃ (t : Fin cfg0.N) (r : Fin 512), i = ⟨512 * t.val + r.val, row_lt t r⟩ :=
  ⟨⟨i.val / 512, by show i.val / 512 < 8; omega⟩, ⟨i.val % 512, by omega⟩, Fin.ext (by show i.val = 512 * (i.val / 512) + i.val % 512; omega)⟩

abbrev rowsOf (m : (ℓ : Loc nD τ sig) → Buf (Elt Ideal) ℓ) (c : Dev nD) : ℕ → ℕ → EReal := ent (a := 4096) (b := 1024) (m (c, Proc.tc.devRef main_arg0))
abbrev gainOf (m : (ℓ : Loc nD τ sig) → Buf (Elt Ideal) ℓ) (c : Dev nD) : ℕ → EReal := ent (a := 1) (b := 1024) (m (c, Proc.tc.devRef main_arg1)) 0
abbrev gateOf (m : (ℓ : Loc nD τ sig) → Buf (Elt Ideal) ℓ) (c : Dev nD) : ℕ → ℕ → EReal := fun f d => ent (a := 1024) (b := 2816) (m (c, Proc.tc.devRef main_arg2)) d f
abbrev upOf (m : (ℓ : Loc nD τ sig) → Buf (Elt Ideal) ℓ) (c : Dev nD) : ℕ → ℕ → EReal := fun f d => ent (a := 1024) (b := 2816) (m (c, Proc.tc.devRef main_arg3)) d f
abbrev downOf (m : (ℓ : Loc nD τ sig) → Buf (Elt Ideal) ℓ) (c : Dev nD) : ℕ → ℕ → EReal := ent (a := 2816) (b := 1024) (m (c, Proc.tc.devRef main_arg4))

abbrev aimOf (m : (ℓ : Loc nD τ sig) → Buf (Elt Ideal) ℓ) (c : Dev nD) : ℕ → ℕ → EReal := ent (a := 4096) (b := 1024) (m (c, Proc.tc.devRef main_arg5))

/-- The half-step's result less the target, over all rows. -/
abbrev gapOf (m : (ℓ : Loc nD τ sig) → Buf (Elt Ideal) ℓ) (c : Dev nD) : ℕ → ℕ → EReal :=
  gap (rowsOf m c) (part (hid (lin (nrm (rowsOf m c) (gainOf m c)) (gateOf m c)) (lin (nrm (rowsOf m c) (gainOf m c)) (upOf m c))) (downOf m c) 2816) (aimOf m c)

theorem res_dy : Mat (m := 4096) (n := 1024) ((dats m 0 c).arrAt 6 cfg0.N) (fun i j => gapOf m c i j * Ideal.ofBits .f32 0x3A800000#32) := by
  intro i j
  obtain ⟨t, r, rfl⟩ := split_row i
  by_cases h0 : t.val % 8 = 0
  · refine Eq.trans ?_ ((congrFun ((Value.blocks6 m c t (flushes t).1).trans (Value.flushed6_A m c t h0)) (ix2 r j)).trans
      (First.out_dy c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (read0 t) (read1 t) (read2 t) (read3 t) (read4 t) (read5 t) r j))
    blk_ext [places t]
  · refine Eq.trans ?_ ((congrFun ((Value.blocks6 m c t (flushes t).1).trans (Value.flushed6_B m c t h0)) (ix2 r j)).trans
      (Later.out_dy c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (read0 t) (read1 t) (read2 t) (read3 t) (read4 t) (read5 t) r j))
    blk_ext [places t]

theorem res_dyb : Mat (m := 4096) (n := 1024) ((dats m 0 c).arrAt 7 cfg0.N) (fun i j => gapOf m c i j * Ideal.ofBits .f32 0x3A800000#32) := by
  intro i j
  obtain ⟨t, r, rfl⟩ := split_row i
  by_cases h0 : t.val % 8 = 0
  · refine Eq.trans ?_ ((congrFun ((Value.blocks7 m c t (flushes t).2.1).trans (Value.flushed7_A m c t h0)) (ix2 r j)).trans
      (First.out_dyb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (read0 t) (read1 t) (read2 t) (read3 t) (read4 t) (read5 t) r j))
    blk_ext [places t]
  · refine Eq.trans ?_ ((congrFun ((Value.blocks7 m c t (flushes t).2.1).trans (Value.flushed7_B m c t h0)) (ix2 r j)).trans
      (Later.out_dyb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (read0 t) (read1 t) (read2 t) (read3 t) (read4 t) (read5 t) r j))
    blk_ext [places t]

theorem res_n : Mat (m := 4096) (n := 1024) ((dats m 0 c).arrAt 9 cfg0.N) (nrm (rowsOf m c) (gainOf m c)) := by
  intro i j
  obtain ⟨t, r, rfl⟩ := split_row i
  by_cases h0 : t.val % 8 = 0
  · refine Eq.trans ?_ ((congrFun ((Value.blocks9 m c t (flushes t).2.2.1).trans (Value.flushed9_A m c t h0)) (ix2 r j)).trans
      (First.out_n c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (read0 t) (read1 t) r j))
    blk_ext [places t]
  · refine Eq.trans ?_ ((congrFun ((Value.blocks9 m c t (flushes t).2.2.1).trans (Value.flushed9_B m c t h0)) (ix2 r j)).trans
      (Later.out_n c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (read0 t) (read1 t) r j))
    blk_ext [places t]

theorem res_gate : Mat (m := 4096) (n := 2816) ((dats m 0 c).arrAt 10 cfg0.N) (lin (nrm (rowsOf m c) (gainOf m c)) (gateOf m c)) := by
  intro i j
  obtain ⟨t, r, rfl⟩ := split_row i
  by_cases h0 : t.val % 8 = 0
  · refine Eq.trans ?_ ((congrFun ((Value.blocks10 m c t (flushes t).2.2.2.1).trans (Value.flushed10_A m c t h0)) (ix2 r j)).trans
      (First.out_gg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (read0 t) (read1 t) (read2 t) r j))
    blk_ext [places t]
  · refine Eq.trans ?_ ((congrFun ((Value.blocks10 m c t (flushes t).2.2.2.1).trans (Value.flushed10_B m c t h0)) (ix2 r j)).trans
      (Later.out_gg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (read0 t) (read1 t) (read2 t) r j))
    blk_ext [places t]

theorem res_up : Mat (m := 4096) (n := 2816) ((dats m 0 c).arrAt 11 cfg0.N) (lin (nrm (rowsOf m c) (gainOf m c)) (upOf m c)) := by
  intro i j
  obtain ⟨t, r, rfl⟩ := split_row i
  by_cases h0 : t.val % 8 = 0
  · refine Eq.trans ?_ ((congrFun ((Value.blocks11 m c t (flushes t).2.2.2.2.1).trans (Value.flushed11_A m c t h0)) (ix2 r j)).trans
      (First.out_uu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (read0 t) (read1 t) (read3 t) r j))
    blk_ext [places t]
  · refine Eq.trans ?_ ((congrFun ((Value.blocks11 m c t (flushes t).2.2.2.2.1).trans (Value.flushed11_B m c t h0)) (ix2 r j)).trans
      (Later.out_uu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (read0 t) (read1 t) (read3 t) r j))
    blk_ext [places t]

theorem share_shift (S : ℕ → ℕ → EReal) (o : ℕ) : share (fun r => S (o + r)) 0 = share S o := by
  unfold share
  simp only [zero_add]

/-- The tile after point `n`: the shares of the rows so far. -/
theorem tile_is (n : ℕ) (hn : n < cfg0.N) :
    Mat (m := 8) (n := 128) (outsAt0 m c n hn).2.2.1 fun _ _ => ∑ s ∈ range (n + 1), share (gapOf m c) (512 * s) := by
  induction n with
  | zero =>
    have h0 : (⟨0, hn⟩ : Fin cfg0.N).val % 8 = 0 := rfl
    generalize ht : (⟨0, hn⟩ : Fin cfg0.N) = t at h0
    have e := outsAt0_A m c t h0
    have v : t.val = 0 := by rw [← ht]
    have e2 : (outsAt0 m c 0 hn).2.2.1 = (outsAt0 m c t.val t.isLt).2.2.1 := by
      subst ht
      rfl
    rw [e2, e]
    intro i j
    refine (First.out_loss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (read0 t) (read1 t) (read2 t) (read3 t) (read4 t) (read5 t) i j).trans ?_
    rw [sum_range_one, zero_add]
    refine (share_shift (gapOf m c) (512 * t.val)).trans ?_
    rw [v]
  | succ k ih =>
    have hk : k + 1 < 8 := hn
    have h0 : ¬(⟨k + 1, hn⟩ : Fin cfg0.N).val % 8 = 0 := by
      show ¬(k + 1) % 8 = 0
      omega
    have b := ih (Nat.lt_of_succ_lt hn)
    generalize ht : (⟨k + 1, hn⟩ : Fin cfg0.N) = t at h0
    have e := outsAt0_B m c t h0
    have v : t.val = k + 1 := by rw [← ht]
    have e2 : (outsAt0 m c (k + 1) hn).2.2.1 = (outsAt0 m c t.val t.isLt).2.2.1 := by
      subst ht
      rfl
    have e3 : (outsAt0 m c (t.val - 1) (Nat.lt_of_le_of_lt (Nat.sub_le _ _) t.isLt)).2.2.1 = (outsAt0 m c k (Nat.lt_of_succ_lt hn)).2.2.1 := by
      subst ht
      rfl
    rw [e2, e]
    rw [← e3] at b
    intro i j
    refine (Later.out_loss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (read0 t) (read1 t) (read2 t) (read3 t) (read4 t) (read5 t) b i j).trans ?_
    rw [sum_range_succ _ (k + 1)]
    refine congrArg (_ + ·) ?_
    refine (share_shift (gapOf m c) (512 * t.val)).trans ?_
    rw [v]

theorem res_loss : Mat (m := 8) (n := 128) ((dats m 0 c).arrAt 8 cfg0.N) fun _ _ => ∑ s ∈ range 8, share (gapOf m c) (512 * s) := by
  intro i j
  generalize hS : (∑ s ∈ range 8, share (gapOf m c) (512 * s) : EReal) = S
  refine congrFun ((dats m 0 c).arrAt_eq_of_covers 8 (fun _ => S) (by decide +kernel) fun t hf y => ?_) (ix2 i j)
  have e : (outsAt0 m c t.val t.isLt).2.2.1 = fun _ => S := by
    have h := tile_is (m := m) (c := c) t.val t.isLt
    have v : t.val + 1 = 8 := congrArg (· + 1) ((flushes t).2.2.2.2.2 hf)
    simp only [v, hS] at h
    exact Mat.unique h fun _ _ => rfl
  blk_simp
  rw [after0_8, e]

end Cert.Loss
-- ==== Proof.LossRef.lean ====
module

public import proofs.«01_k».proof.Proof.LossPay
public import proofs.«01_k».proof.Proof.Gen.Reference3Ideal.Read

@[expose] public section

/-!
# The reference of the last half-step, entry by entry
-/

set_option maxRecDepth 16384

noncomputable section

namespace Cert.Loss

open Cert.Ffn Cert.Reference3Ideal Cert.Reference3Ideal.Gen Cert.Reference3Ideal.Read Idealize.ShloMosaic Idealize.ShloMosaic.TcCoe Finset

variable (x : (⟨S4096x1024, .f32⟩ : BufTy).Contents (Elt Ideal)) (g : (⟨S1x1024, .f32⟩ : BufTy).Contents (Elt Ideal))
  (w u : (⟨S1024x2816, .f32⟩ : BufTy).Contents (Elt Ideal)) (d : (⟨S2816x1024, .f32⟩ : BufTy).Contents (Elt Ideal))

theorem ref_n : Mat (m := 4096) (n := 1024) (val_main_v11 (F := Ideal) x g) (nrm (ent x) (ent g 0)) := by
  intro i j
  pointwise [val_main_v11, val_main_v10, val_main_v9, val_main_v8, val_main_v7, val_main_v6, val_main_v5, val_main_v4, val_main_v3, val_main_v2, val_main_v1, val_main_v0, val_main_cst, val_main_cst_0, val_main_cst_1]
  rw [div_1024, ent_at (a := 4096) (b := 1024) x i j, ent_at (a := 1) (b := 1024) g 0 j, sum_congr rfl fun k _ => by rw [ent_at (a := 4096) (b := 1024) x i k]]
  rfl

theorem ref_gate : Mat (m := 4096) (n := 2816) (val_main_v12 (F := Ideal) x g w) (lin (nrm (ent x) (ent g 0)) fun f e => ent w e f) := by
  intro i j
  pointwise [val_main_v12]
  rw [sum_congr rfl fun k _ => by rw [ref_n x g i k, ent_at (a := 1024) (b := 2816) w k j]]
  rfl

theorem ref_up : Mat (m := 4096) (n := 2816) (val_main_v13 (F := Ideal) x g u) (lin (nrm (ent x) (ent g 0)) fun f e => ent u e f) :=
  ref_gate x g u

theorem ref_hid : Mat (m := 4096) (n := 2816) (val_main_v15 (F := Ideal) x g w u)
    (hid (lin (nrm (ent x) (ent g 0)) fun f e => ent w e f) (lin (nrm (ent x) (ent g 0)) fun f e => ent u e f)) := by
  intro i j
  pointwise [val_main_v15, val_main_v14, val_main_call0_v0, val_main_call0_v1, val_main_call0_v2, val_main_call0_v3, val_main_call0_v4, val_main_call0_v5, val_main_call0_cst, val_main_call0_cst_0]
  rw [ref_gate x g w i j, ref_up x g u i j]
  rfl

theorem ref_y : Mat (m := 4096) (n := 1024) (val_main_v19 (F := Ideal) x g w u d)
    fun i j => ent x i j + Ideal.ofBits .f32 0x3F000000#32 * part (hid (lin (nrm (ent x) (ent g 0)) fun f e => ent w e f) (lin (nrm (ent x) (ent g 0)) fun f e => ent u e f)) (ent d) 2816 i j := by
  intro i j
  pointwise [val_main_v19, val_main_v18, val_main_v17, val_main_v16, val_main_cst_2]
  rw [part_whole, ent_at (a := 4096) (b := 1024) x i j, sum_congr rfl fun k _ => by rw [ref_hid x g w u i k, ent_at (a := 2816) (b := 1024) d k j]]

variable (y : (⟨S4096x1024, .f32⟩ : BufTy).Contents (Elt Ideal))

/-- The gap of the reference. -/
abbrev refGap : ℕ → ℕ → EReal :=
  gap (ent x) (part (hid (lin (nrm (ent x) (ent g 0)) fun f e => ent w e f) (lin (nrm (ent x) (ent g 0)) fun f e => ent u e f)) (ent d) 2816) (ent y)

theorem ref_gap : Mat (m := 4096) (n := 1024) (val_main_v20 (F := Ideal) x g w u d y) (refGap x g w u d y) := by
  intro i j
  pointwise [val_main_v20]
  rw [ref_y x g w u d i j, ent_at (a := 4096) (b := 1024) y i j]
  rfl

theorem scale_dy (z : EReal) :
    Ideal.div (Ideal.ofBits .f32 0x3F000000#32) (Ideal.ofBits .f32 0x44800000#32) * (Ideal.ofBits .f32 0x40000000#32 * z)
      = z * Ideal.ofBits .f32 0x3A800000#32 := by
  rw [div_1024, bits_half, bits_2, bits_1024th, ← mul_assoc, mul_comm z, ← EReal.coe_mul, ← EReal.coe_mul]
  norm_num

theorem ref_dy : Mat (m := 4096) (n := 1024) (val_main_v34 (F := Ideal) x g w u d y) fun i j => refGap x g w u d y i j * Ideal.ofBits .f32 0x3A800000#32 := by
  intro i j
  pointwise [val_main_v34, val_main_v33, val_main_v32, val_main_v31, val_main_v30, val_main_v29, val_main_v23, val_main_v22, val_main_cst_8, val_main_cst_9, val_main_cst_10, val_main_cst_3]
  rw [ref_gap x g w u d y i j]
  exact scale_dy _

/-- Half the sum over all rows is the sum of the blocks' halves. -/
theorem half_blocks (f : ℕ → EReal) (n : ℕ) :
    Ideal.ofBits .f32 0x3F000000#32 * ∑ i ∈ range (512 * n), f i = ∑ s ∈ range n, Ideal.ofBits .f32 0x3F000000#32 * ∑ r : Fin 512, f (512 * s + r.val) := by
  induction n with
  | zero => simp
  | succ n ih =>
    rw [sum_range_succ _ n, ← ih, Nat.mul_succ, sum_range_add, Fin.sum_univ_eq_sum_range fun r => f (512 * n + r), bits_half]
    exact EReal.left_distrib_of_nonneg_of_ne_top (by exact_mod_cast (by norm_num : (0 : ℝ) ≤ 1 / 2)) (EReal.coe_ne_top _) _ _

theorem ref_loss : Mat (m := 8) (n := 128) (val_main_v36 (F := Ideal) x g w u d y) fun _ _ => ∑ s ∈ range 8, share (refGap x g w u d y) (512 * s) := by
  intro i j
  pointwise [val_main_v36, val_main_v28, val_main_v27, val_main_v26, val_main_v25, val_main_v24, val_main_v21, val_main_cst_4, val_main_cst_5, val_main_cst_6, val_main_cst_7]
  have e (r : Fin 4096) : Ideal.div (∑ k : Fin 1024, val_main_v20 (F := Ideal) x g w u d y (ix2 r k) * val_main_v20 (F := Ideal) x g w u d y (ix2 r k)) (Ideal.ofBits .f32 0x44800000#32)
      = (∑ k : Fin 1024, refGap x g w u d y r.val k.val * refGap x g w u d y r.val k.val) * Ideal.ofBits .f32 0x3A800000#32 := by
    rw [div_1024, sum_congr rfl fun k _ => by rw [ref_gap x g w u d y r k]]
  rw [sum_congr rfl fun r _ => e r]
  generalize refGap x g w u d y = S
  rw [Fin.sum_univ_eq_sum_range fun r => (∑ k : Fin 1024, S r k.val * S r k.val) * Ideal.ofBits .f32 0x3A800000#32]
  exact half_blocks (fun r => (∑ k : Fin 1024, S r k.val * S r k.val) * Ideal.ofBits .f32 0x3A800000#32) 8

end Cert.Loss
-- ==== Proof.LossClaim.lean ====
module

public import proofs.«01_k».proof.Defs
public import proofs.«01_k».proof.Proof.LossFwd
public import proofs.«01_k».proof.Proof.LossRef
public import proofs.«01_k».proof.Proof.Gen.Kernel3.Frame
public import Idealize.ShloMosaic.Adequacy
public import Idealize.ShloMosaic.Init

@[expose] public section

/-!
# The last half-step's forward call computes the reference's half-step and loss

Both programs end with the same six arrays, whatever extended reals the arguments hold.
-/

noncomputable section

namespace Cert.Loss

open Cert.Ffn Idealize.ShloMosaic Idealize.SL.Sem

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

theorem preserves3 : Cert.preserves_Kernel3_Kernel3Ideal := trivial

section Reference

open Cert.Reference3Ideal Cert.Reference3Ideal.Value Cert.Reference3Ideal.Read

/-- The reference's results as arrays of its arguments. -/
theorem reference_run3 (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = val_main_v34 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v35) = val_main_v35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v36) = val_main_v36 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v37) = val_main_v37 (m ((c.tc : Thread nD τ).loc main_arg0)) (m ((c.tc : Thread nD τ).loc main_arg1))
      ∧ r.2.mem ((c.tc : Thread nD τ).loc main_v38) = val_main_v38 (m ((c.tc : Thread nD τ).loc main_arg0)) (m ((c.tc : Thread nD τ).loc main_arg1)) (m ((c.tc : Thread nD τ).loc main_arg2))
      ∧ r.2.mem ((c.tc : Thread nD τ).loc main_v39) = val_main_v39 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v34_eq _ _ _ _ _ _), (h c).2.1.trans (val_main_v35_eq _ _ _ _ _ _), (h c).2.2.1.trans (val_main_v36_eq _ _), (h c).2.2.2.1.trans (val_main_v37_eq _ _), (h c).2.2.2.2.1.trans (val_main_v38_eq _ _ _), (h c).2.2.2.2.2.1.trans (val_main_v39_eq _ _ _), (h c).2.2.2.2.2.2⟩) (Cert.Reference3Ideal.Value.run (F := Ideal) m ρ)

end Reference

/-- The call and the reference end with the same six results. -/
theorem algebraic3 : Cert.algebraic_Kernel3Ideal_Reference3Ideal := by
  intro m ρ m' ρ' _ hargs
  refine ⟨_, _, _, _, _, _, Cert.Kernel3Ideal.Value.run_blocks m ρ, (θ_run Cert.Reference3Ideal.defs _ _).mono (fun r h c => ?_) (reference_run3 m' ρ')⟩
  obtain ⟨h0, h1, h2, h3, h4, h5, h6⟩ := h c
  obtain ⟨a0, a1, a2, a3, a4, a5⟩ := hargs c
  rw [a0, a1, a2, a3, a4, a5] at h0 h1 h2
  rw [a0, a1] at h3
  rw [a0, a1, a2] at h4
  rw [a0, a1, a3] at h5
  exact ⟨h0.trans (Mat.unique (ref_dy _ _ _ _ _ _) res_dy), h1.trans (Mat.unique (ref_dy _ _ _ _ _ _) res_dyb),
    h2.trans (Mat.unique (ref_loss _ _ _ _ _ _) res_loss), h3.trans (Mat.unique (ref_n _ _) res_n),
    h4.trans (Mat.unique (ref_gate _ _ _) res_gate), h5.trans (Mat.unique (ref_up _ _ _) res_up), h6⟩

end Cert.Loss
-- ==== Proof.Ffn4IdealFrame.lean ====
/-
  The frame of `Kernel4Ideal`: the backward pass of the feed-forward half-step runs, leaves every argument as it was and
  every semaphore counter at zero. The body is run once, its guarded regions both ways; the six outputs and the four
  accumulators are held at some contents (`Dat.toRForget`), the ten inputs at their blocks.
-/
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Tactic

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0 : Memref sig .tc .vmem S4096x1024 .f32 := Memref.whole cc0_scratch0
abbrev scM1 : Memref sig .tc .vmem S256x1024 .f32 := Memref.whole cc0_scratch1
abbrev scM2 : Memref sig .tc .vmem S256x1024 .f32 := Memref.whole cc0_scratch2
abbrev scM3 : Memref sig .tc .vmem S256x1024 .f32 := Memref.whole cc0_scratch3

/-- What holds between two points: the four accumulators at some contents, the generator register at some state. -/
theorem PhiA0_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

set_option maxHeartbeats 4000000 in
/-- The body, run once: the inputs end as they were, the outputs and the accumulators at some contents. -/
theorem kernelRun (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (arg18 : Memref sig .tc .vmem S4096x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole)
    (x0 : Vec F S1024x1024 .bf16) (x1 : Vec F S1024x1024 .f32) (x2 : Vec F S1024x1024 .f32) (x3 : Vec F S1x1024 .f32) (x4 : Vec F S1024x1024 .bf16) (x5 : Vec F S1024x256 .bf16) (x6 : Vec F S1024x256 .bf16) (x7 : Vec F S256x1024 .bf16) (x8 : Vec F S256x1024 .bf16) (x9 : Vec F S256x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_eq_skeleton]; unfold cc0_ffn_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

/-- The outputs, forgotten. -/
def forgets0 : Fin 16 → Bool := fun w => Nat.ble 10 w.val

/-- The proof data: the arrays as the region finds them, the inputs' blocks left in place, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))

/-- The body at a point, from what the pipeline hands it to what it takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (kernelRun c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch's implicit arguments are found by unifying its conclusion with this statement
set_option backward.isDefEq.respectTransparency.types false in
/-- The launch. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ} in
/-- After the run every argument holds what it held at launch. -/
theorem final {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h.arr_in c 0 rfl).trans ((A_eq m c 0).trans (V_main_arg0 m c))),
    ((h.arr_in c 1 rfl).trans ((A_eq m c 1).trans (V_main_arg1 m c))),
    ((h.arr_in c 2 rfl).trans ((A_eq m c 2).trans (V_main_arg2 m c))),
    ((h.arr_in c 3 rfl).trans ((A_eq m c 3).trans (V_main_arg3 m c))),
    ((h.arr_in c 4 rfl).trans ((A_eq m c 4).trans (V_main_arg4 m c))),
    ((h.arr_in c 5 rfl).trans ((A_eq m c 5).trans (V_main_arg5 m c))),
    ((h.arr_in c 6 rfl).trans ((A_eq m c 6).trans (V_main_arg6 m c))),
    ((h.arr_in c 7 rfl).trans ((A_eq m c 7).trans (V_main_arg7 m c))),
    ((h.arr_in c 8 rfl).trans ((A_eq m c 8).trans (V_main_arg8 m c))),
    ((h.arr_in c 9 rfl).trans ((A_eq m c 9).trans (V_main_arg9 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => final h.1 c, h.2⟩) (run_main m ρ)

end Cert.Kernel4Ideal.Hand

end
-- ==== Proof.Ffn4Pay.lean ====
module

public import proofs.«01_k».proof.Proof.FfnMath
public import proofs.«01_k».proof.Proof.Gen.Kernel4Ideal.Skeleton
public import Idealize.ShloMosaic.Lib.Pointwise

@[expose] public section

/-!
# One block of rows of the backward call

What a grid point adds to the accumulators of the three weights' gradients, entry by entry, on the extended reals.
-/

set_option maxRecDepth 16384

noncomputable section

namespace Cert.Grad

open Idealize.ShloMosaic Cert.Ffn Cert.Kernel4Ideal Cert.Kernel4Ideal.Gen Finset

/-- The gradient of the hidden layer: half the output's, against the rows of the last weight. -/
def dhid (Y D : ℕ → ℕ → EReal) (r f : ℕ) : EReal := Ideal.ofBits .f32 0x3F000000#32 * ∑ k : Fin 1024, Y r k.val * D f k.val

/-- The gradient of the gate. -/
def dgate (Y D Z U : ℕ → ℕ → EReal) (r f : ℕ) : EReal :=
  dhid Y D r f * U r f * (Ideal.logistic (Z r f) * (1 + Z r f * (1 - Ideal.logistic (Z r f))))

/-- The gradient of the other half. -/
def dup (Y D Z : ℕ → ℕ → EReal) (r f : ℕ) : EReal := dhid Y D r f * (Z r f * Ideal.logistic (Z r f))

/-- The hidden layer. -/
def act (Z U : ℕ → ℕ → EReal) (r f : ℕ) : EReal := Z r f * Ideal.logistic (Z r f) * U r f

/-- The first `n` rows of one matrix against those of another. -/
def tn (A N : ℕ → ℕ → EReal) (n f d : ℕ) : EReal := ∑ r ∈ range n, A r f * N r d

theorem tn_zero (A N : ℕ → ℕ → EReal) (f d : ℕ) : tn A N 0 f d = 0 := sum_range_zero _

theorem tn_add (A N : ℕ → ℕ → EReal) (n f d : ℕ) :
    tn A N (n + 1024) f d = tn A N n f d + ∑ r : Fin 1024, A (n + r.val) f * N (n + r.val) d := by
  unfold tn
  rw [sum_range_add, Fin.sum_univ_eq_sum_range fun r => A (n + r) f * N (n + r) d]

theorem tn_whole (A N : ℕ → ℕ → EReal) (f d : ℕ) : tn A N 4096 f d = ∑ r : Fin 4096, A r.val f * N r.val d := by
  unfold tn
  rw [Fin.sum_univ_eq_sum_range fun r => A r f * N r d]

variable {x0 x4 : Vec Ideal S1024x1024 .bf16} {x5 x6 : Vec Ideal S1024x256 .bf16} {x9 : Vec Ideal S256x1024 .bf16}
  {v : FVec Ideal S1024x256 .bf16} {a : Vec Ideal S256x1024 .f32} {Y D Z U N A : ℕ → ℕ → EReal} {R Q : ℕ}

theorem dhid_is (h0 : Mat x0 fun r d => Y (R + r) d) (h9 : Mat x9 fun q d => D (Q + q) d) :
    Mat (k0_pay16 (F := Ideal) x0 x9) fun r q => dhid Y D (R + r) (Q + q) := by
  intro i j
  pointwise [k0_pay16]
  unfold dhid
  exact congrArg _ (sum_congr rfl fun k _ => by rw [h0 i k, h9 j k])

theorem dgate_is (h0 : Mat x0 fun r d => Y (R + r) d) (h9 : Mat x9 fun q d => D (Q + q) d)
    (h5 : Mat x5 fun r q => Z (R + r) (Q + q)) (h6 : Mat x6 fun r q => U (R + r) (Q + q)) :
    Mat (k0_pay21 (F := Ideal) x0 x9 x5 x6) fun r q => dgate Y D Z U (R + r) (Q + q) := by
  intro i j
  have hd := dhid_is h0 h9
  unfold k0_pay21
  generalize k0_pay16 (F := Ideal) x0 x9 = w at hd ⊢
  pointwise [k0_pay17, k0_pay18, k0_pay19]
  rw [hd i j, h5 i j, h6 i j]
  rfl

theorem dup_is (h0 : Mat x0 fun r d => Y (R + r) d) (h9 : Mat x9 fun q d => D (Q + q) d)
    (h5 : Mat x5 fun r q => Z (R + r) (Q + q)) :
    Mat (k0_pay22 (F := Ideal) x0 x9 x5) fun r q => dup Y D Z (R + r) (Q + q) := by
  intro i j
  have hd := dhid_is h0 h9
  unfold k0_pay22
  generalize k0_pay16 (F := Ideal) x0 x9 = w at hd ⊢
  pointwise [k0_pay17, k0_pay19, k0_pay20]
  rw [hd i j, h5 i j]
  rfl

theorem act_is (h5 : Mat x5 fun r q => Z (R + r) (Q + q)) (h6 : Mat x6 fun r q => U (R + r) (Q + q)) :
    Mat (k0_pay23 (F := Ideal) x5 x6) fun r q => act Z U (R + r) (Q + q) := by
  intro i j
  pointwise [k0_pay17, k0_pay18, k0_pay19, k0_pay20, k0_pay23]
  rw [h5 i j, h6 i j]
  rfl

theorem step_gate (hv : Mat v fun r q => A (R + r) (Q + q)) (h4 : Mat x4 fun r d => N (R + r) d) (ha : Mat a fun q d => tn A N R (Q + q) d) :
    Mat (k0_pay25 (F := Ideal) v x4 a) fun q d => tn A N (R + 1024) (Q + q) d := by
  intro i j
  pointwise [k0_pay25]
  rw [tn_add, ha i j]
  exact congrArg _ (sum_congr rfl fun k _ => by rw [hv k i, h4 k j])

theorem step_up (hv : Mat v fun r q => A (R + r) (Q + q)) (h4 : Mat x4 fun r d => N (R + r) d) (ha : Mat a fun q d => tn A N R (Q + q) d) :
    Mat (k0_pay26 (F := Ideal) v x4 a) fun q d => tn A N (R + 1024) (Q + q) d :=
  step_gate hv h4 ha

theorem step_down (hv : Mat v fun r q => A (R + r) (Q + q)) (h0 : Mat x0 fun r d => Y (R + r) d)
    (ha : Mat a fun q d => Ideal.ofBits .f32 0x3F000000#32 * tn A Y R (Q + q) d) :
    Mat (k0_pay24 (F := Ideal) x0 v a) fun q d => Ideal.ofBits .f32 0x3F000000#32 * tn A Y (R + 1024) (Q + q) d := by
  intro i j
  pointwise [k0_pay24]
  rw [tn_add, ha i j, sum_congr rfl fun k _ => by rw [hv k i, h0 k j], bits_half]
  exact (EReal.left_distrib_of_nonneg_of_ne_top (by exact_mod_cast (by norm_num : (0 : ℝ) ≤ 1 / 2)) (EReal.coe_ne_top _) _ _).symm

theorem zero_gate : Mat (k0_pay12 (F := Ideal)) fun q d => tn A N 0 (Q + q) d := by
  intro i j
  pointwise [k0_pay12]
  exact (tn_zero _ _ _ _).symm

theorem zero_up : Mat (k0_pay13 (F := Ideal)) fun q d => tn A N 0 (Q + q) d := zero_gate

theorem zero_down : Mat (k0_pay11 (F := Ideal)) fun q d => Ideal.ofBits .f32 0x3F000000#32 * tn A N 0 (Q + q) d := by
  intro i j
  pointwise [k0_pay11]
  rw [tn_zero, mul_zero]

theorem out_gate {f : ℕ → ℕ → EReal} (ha : Mat a f) : Mat (m := 256) (n := 1024) (k0_pay3 (F := Ideal) a) f := by
  intro i j
  pointwise [k0_pay3]
  exact ha i j

theorem out_up {f : ℕ → ℕ → EReal} (ha : Mat a f) : Mat (m := 256) (n := 1024) (k0_pay4 (F := Ideal) a) f := by
  intro i j
  pointwise [k0_pay4]
  exact ha i j

theorem out_down {f : ℕ → ℕ → EReal} (ha : Mat a f) : Mat (m := 256) (n := 1024) (k0_pay2 (F := Ideal) a) f := by
  intro i j
  pointwise [k0_pay2]
  exact ha i j

end Cert.Grad
-- ==== Proof.Ffn4Blocks.lean ====
module

public import proofs.«01_k».proof.Proof.Ffn4Pay
public import proofs.«01_k».proof.Proof.Gen.Kernel4Ideal.Frame
public import proofs.«01_k».proof.Proof.Gen.Kernel4Ideal.Points
public import Idealize.ShloMosaic.Lib.Pipeline.ValueKit.Point

@[expose] public section

/-!
# The blocks of the backward call

Which part of each array a grid point reads, and what it adds to the three accumulators. The points of one column block
come four in a row, one for each block of rows.
-/

set_option maxRecDepth 16384

noncomputable section

namespace Cert.Grad

open Cert.Ffn Cert.Kernel4Ideal Cert.Kernel4Ideal.Gen Idealize.ShloMosaic Idealize.ShloMosaic.TcCoe Finset

/-- Which block of its array each window holds at a point. -/
theorem places : ∀ t : Fin cfg0.N, win0_0.index t = ![t.val % 4, 0] ∧ win0_4.index t = ![t.val % 4, 0]
    ∧ win0_5.index t = ![t.val % 4, t.val / 4] ∧ win0_6.index t = ![t.val % 4, t.val / 4] ∧ win0_9.index t = ![t.val / 4, 0]
    ∧ win0_10.index t = ![t.val / 4, 0] ∧ win0_11.index t = ![t.val / 4, 0] ∧ win0_12.index t = ![t.val / 4, 0] :=
  (by decide +kernel : ∀ t : Fin grid0.N, _)

/-- The accumulators are cleared at the first block of rows. -/
theorem clears : ∀ t : Fin cfg0.N, Scalar.cmpi .ne (Scalar.extui (Scalar.cmpi .eq (BitVec.ofNat 32 ((grid0.coords t) 1).val) 0#32)) 0#32 = 1#1 ↔ t.val % 4 = 0 :=
  (by decide +kernel : ∀ t : Fin grid0.N, _)

/-- The outputs are written at the last block of rows. -/
theorem writes : ∀ t : Fin cfg0.N, k0_cond4 (grid0.coords t) = 1#1 ↔ t.val % 4 = 3 :=
  (by decide +kernel : ∀ t : Fin grid0.N, _)

theorem row_lt (t : Fin cfg0.N) (r : Fin 1024) : 1024 * (t.val % 4) + r.val < 4096 := by omega

theorem col_lt (t : Fin cfg0.N) (q : Fin 256) : 256 * (t.val / 4) + q.val < 2816 := by
  have : t.val < 44 := t.isLt
  omega

section

variable (m : (ℓ : Loc nD τ sig) → Buf (Elt Ideal) ℓ) (c : Dev nD)

abbrev yOf : ℕ → ℕ → EReal := ent (a := 4096) (b := 1024) (m (c, Proc.tc.devRef main_arg0))
abbrev nOf : ℕ → ℕ → EReal := ent (a := 4096) (b := 1024) (m (c, Proc.tc.devRef main_arg4))
abbrev zOf : ℕ → ℕ → EReal := ent (a := 4096) (b := 2816) (m (c, Proc.tc.devRef main_arg5))
abbrev uOf : ℕ → ℕ → EReal := ent (a := 4096) (b := 2816) (m (c, Proc.tc.devRef main_arg6))
abbrev dOf : ℕ → ℕ → EReal := ent (a := 2816) (b := 1024) (m (c, Proc.tc.devRef main_arg9))

/-- The three gradients over the first `R` rows. -/
abbrev gateSum (R : ℕ) : ℕ → ℕ → EReal := tn (dgate (yOf m c) (dOf m c) (zOf m c) (uOf m c)) (nOf m c) R
abbrev upSum (R : ℕ) : ℕ → ℕ → EReal := tn (dup (yOf m c) (dOf m c) (zOf m c)) (nOf m c) R
abbrev downSum (R : ℕ) : ℕ → ℕ → EReal := fun f d => Ideal.ofBits .f32 0x3F000000#32 * tn (act (zOf m c) (uOf m c)) (yOf m c) R f d

/-- What the accumulators hold after `R` rows of the columns from `Q` on. -/
def Sums (R Q : ℕ) (d1 d2 d3 : Vec Ideal S256x1024 .f32) : Prop :=
  Mat (m := 256) (n := 1024) d1 (fun q d => gateSum m c R (Q + q) d) ∧ Mat (m := 256) (n := 1024) d2 (fun q d => upSum m c R (Q + q) d)
    ∧ Mat (m := 256) (n := 1024) d3 (fun q d => downSum m c R (Q + q) d)

/-- The blocks written back. -/
def gateBlock (t : ℕ) : Vec Ideal S256x1024 .bf16 := fun y => gateSum m c 4096 (256 * (t / 4) + (y 0).val) (y 1).val
def upBlock (t : ℕ) : Vec Ideal S256x1024 .bf16 := fun y => upSum m c 4096 (256 * (t / 4) + (y 0).val) (y 1).val
def downBlock (t : ℕ) : Vec Ideal S256x1024 .bf16 := fun y => downSum m c 4096 (256 * (t / 4) + (y 0).val) (y 1).val

end

variable {m : (ℓ : Loc nD τ sig) → Buf (Elt Ideal) ℓ} {c : Dev nD}

theorem read0 (t : Fin cfg0.N) : Mat (m := 1024) (n := 1024) (iblk m c 0 t) fun r d => yOf m c (1024 * (t.val % 4) + r) d := by
  intro r d
  refine Eq.trans ?_ (ent_at (a := 4096) (b := 1024) (m (c, Proc.tc.devRef main_arg0)) ⟨_, row_lt t r⟩ d)
  refine Eq.trans ?_ (congrFun (V_main_arg0 m c) _)
  blk_ext [iblk, places t]

theorem read4 (t : Fin cfg0.N) : Mat (m := 1024) (n := 1024) (iblk m c 4 t) fun r d => nOf m c (1024 * (t.val % 4) + r) d := by
  intro r d
  refine Eq.trans ?_ (ent_at (a := 4096) (b := 1024) (m (c, Proc.tc.devRef main_arg4)) ⟨_, row_lt t r⟩ d)
  refine Eq.trans ?_ (congrFun (V_main_arg4 m c) _)
  blk_ext [iblk, places t]

theorem read5 (t : Fin cfg0.N) : Mat (m := 1024) (n := 256) (iblk m c 5 t) fun r q => zOf m c (1024 * (t.val % 4) + r) (256 * (t.val / 4) + q) := by
  intro r q
  refine Eq.trans ?_ (ent_at (a := 4096) (b := 2816) (m (c, Proc.tc.devRef main_arg5)) ⟨_, row_lt t r⟩ ⟨_, col_lt t q⟩)
  refine Eq.trans ?_ (congrFun (V_main_arg5 m c) _)
  blk_ext [iblk, places t]

theorem read6 (t : Fin cfg0.N) : Mat (m := 1024) (n := 256) (iblk m c 6 t) fun r q => uOf m c (1024 * (t.val % 4) + r) (256 * (t.val / 4) + q) := by
  intro r q
  refine Eq.trans ?_ (ent_at (a := 4096) (b := 2816) (m (c, Proc.tc.devRef main_arg6)) ⟨_, row_lt t r⟩ ⟨_, col_lt t q⟩)
  refine Eq.trans ?_ (congrFun (V_main_arg6 m c) _)
  blk_ext [iblk, places t]

theorem read9 (t : Fin cfg0.N) : Mat (m := 256) (n := 1024) (iblk m c 9 t) fun q d => dOf m c (256 * (t.val / 4) + q) d := by
  intro q d
  refine Eq.trans ?_ (ent_at (a := 2816) (b := 1024) (m (c, Proc.tc.devRef main_arg9)) ⟨_, col_lt t q⟩ d)
  refine Eq.trans ?_ (congrFun (V_main_arg9 m c) _)
  blk_ext [iblk, places t]

/-- A point adds its rows. -/
theorem sums_next (t : Fin cfg0.N) {d1 d2 d3 : Vec Ideal S256x1024 .f32} (h : Sums m c (1024 * (t.val % 4)) (256 * (t.val / 4)) d1 d2 d3) :
    Sums m c (1024 * (t.val % 4) + 1024) (256 * (t.val / 4))
      (k0_pay25 (F := Ideal) (k0_pay21 (iblk m c 0 t) (iblk m c 9 t) (iblk m c 5 t) (iblk m c 6 t)) (iblk m c 4 t) d1)
      (k0_pay26 (F := Ideal) (k0_pay22 (iblk m c 0 t) (iblk m c 9 t) (iblk m c 5 t)) (iblk m c 4 t) d2)
      (k0_pay24 (F := Ideal) (iblk m c 0 t) (k0_pay23 (iblk m c 5 t) (iblk m c 6 t)) d3) :=
  ⟨step_gate (dgate_is (read0 t) (read9 t) (read5 t) (read6 t)) (read4 t) h.1,
    step_up (dup_is (read0 t) (read9 t) (read5 t)) (read4 t) h.2.1,
    step_down (act_is (read5 t) (read6 t)) (read0 t) h.2.2⟩

/-- The cleared accumulators hold no row. -/
theorem sums_zero (Q : ℕ) : Sums m c 0 Q (k0_pay12 (F := Ideal)) (k0_pay13 (F := Ideal)) (k0_pay11 (F := Ideal)) :=
  ⟨zero_gate, zero_up, zero_down⟩

theorem out_gate_block (t : ℕ) {d1 d2 d3 : Vec Ideal S256x1024 .f32} (h : Sums m c 4096 (256 * (t / 4)) d1 d2 d3) :
    k0_pay3 (F := Ideal) d1 = gateBlock m c t :=
  Mat.unique (m := 256) (n := 1024) (out_gate h.1) fun _ _ => rfl

theorem out_up_block (t : ℕ) {d1 d2 d3 : Vec Ideal S256x1024 .f32} (h : Sums m c 4096 (256 * (t / 4)) d1 d2 d3) :
    k0_pay4 (F := Ideal) d2 = upBlock m c t :=
  Mat.unique (m := 256) (n := 1024) (out_up h.2.1) fun _ _ => rfl

theorem out_down_block (t : ℕ) {d1 d2 d3 : Vec Ideal S256x1024 .f32} (h : Sums m c 4096 (256 * (t / 4)) d1 d2 d3) :
    k0_pay2 (F := Ideal) d3 = downBlock m c t :=
  Mat.unique (m := 256) (n := 1024) (out_down h.2.2) fun _ _ => rfl

end Cert.Grad
-- ==== Proof.Ffn4Whole.lean ====
module

public import Idealize.ShloMosaic.Lib.Pipeline.ValueKit.Point
public import Idealize.ShloMosaic.Lib.WritesUnit

@[expose] public section

/-!
# A whole block, stored and loaded
-/

namespace Cert.Grad

open Idealize.ShloMosaic

variable {F : FTy → Type} [FloatOps F] {sig : RefSig}

theorem load_whole {m n : ℕ} {e : EltTy} (a : Memref sig .tc .vmem ⟨2, ![m, n]⟩ e) (ha : a.IsWhole) (x : Vec F ⟨2, ![m, n]⟩ e)
    (h : ∀ y : Fin 2, (![0, 0] : Fin 2 → ℕ) y + (![m, n] : Fin 2 → ℕ) y ≤ (![m, n] : Fin 2 → ℕ) y) :
    View.readAt (Elt F) a.view (Rect.unit (s := ⟨2, ![m, n]⟩) ![0, 0] ![m, n] h).toLoadRect (ha.unread x) = x := by
  funext i
  refine (congrFun (ha.read_unread x) _).trans (congrArg x (funext fun y => Fin.ext ?_))
  match y with
  | ⟨0, _⟩ => show 0 + 1 * (i 0).val = (i 0).val; omega
  | ⟨1, _⟩ => show 0 + 1 * (i 1).val = (i 1).val; omega

theorem store_whole {m n : ℕ} {e : EltTy} {κ : Kind} {sp : Space} (v : View sig κ sp ⟨2, ![m, n]⟩ e) (f : v.ty.Contents (Elt F))
    (h : ∀ y : Fin 2, (![0, 0] : Fin 2 → ℕ) y + (![m, n] : Fin 2 → ℕ) y ≤ (![m, n] : Fin 2 → ℕ) y)
    (w : Vec F ⟨2, ![m, n]⟩ e) (L : List (View.Piece (Elt F) ⟨2, ![m, n]⟩ e)) :
    v.read (Elt F) (v.writes (Elt F) f (⟨Rect.unit (s := ⟨2, ![m, n]⟩) ![0, 0] ![m, n] h, w⟩ :: L)) = w := by
  funext i
  refine View.read_writes_cons_unit_of_mem v f h w L i i rfl ?_
  intro y
  match y with
  | ⟨0, _⟩ => show (i 0).val = 0 + (i 0).val; omega
  | ⟨1, _⟩ => show (i 1).val = 0 + (i 1).val; omega

end Cert.Grad
-- ==== Proof.Ffn4First.lean ====
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Tactic
public import proofs.«01_k».proof.Proof.Ffn4Whole

@[expose] public section

/-!
# The backward call's body at the first block of rows
-/

set_option maxRecDepth 16384

noncomputable section

namespace Cert.Kernel4Ideal.Grad

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block of rows: the accumulators start from zero and the outputs stay as they were. -/
theorem runFirst (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (arg18 : Memref sig .tc .vmem S4096x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (hz : (Scalar.cmpi .ne (Scalar.extui (Scalar.cmpi .eq (BitVec.ofNat 32 (i 1).val) 0#32)) 0#32) = 1#1) (h4 : ¬ k0_cond4 i = 1#1)
    (x0 : Vec F S1024x1024 .bf16) (x1 : Vec F S1024x1024 .f32) (x2 : Vec F S1024x1024 .f32) (x3 : Vec F S1x1024 .f32) (x4 : Vec F S1024x1024 .bf16) (x5 : Vec F S1024x256 .bf16) (x6 : Vec F S1024x256 .bf16) (x7 : Vec F S256x1024 .bf16) (x8 : Vec F S256x1024 .bf16) (x9 : Vec F S256x1024 .bf16) (b12 b13 b14 : Vec F S256x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare b12 ∗ owns (c : Thread nD τ) arg13 fullShare b13 ∗ owns (c : Thread nD τ) arg14 fullShare b14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare b12 ∗ owns (c : Thread nD τ) arg13 fullShare b13 ∗ owns (c : Thread nD τ) arg14 fullShare b14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (k0_pay25 (k0_pay21 x0 x9 x5 x6) x4 (k0_pay12 (F := F))) ∗ owns (c : Thread nD τ) arg20 fullShare (k0_pay26 (k0_pay22 x0 x9 x5) x4 (k0_pay13 (F := F))) ∗ owns (c : Thread nD τ) arg21 fullShare (k0_pay24 x0 (k0_pay23 x5 x6) (k0_pay11 (F := F)))) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_eq_skeleton]; unfold cc0_ffn_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hz | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _; isplitr; swap; · iexact H19
    ipureintro
    exact (Cert.Grad.store_whole _ _ _ _ _).trans (congr (congr (congrArg k0_pay25 (congr (congr (congr (congrArg k0_pay21 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0)) (Cert.Grad.load_whole arg8 harg8 x6 inb_S1024x256_S1024x256_0_0))) (Cert.Grad.load_whole arg6 harg6 x4 inb_S1024x1024_S1024x1024_0_0)) (View.readCov_cons_toLoadRect _ _ _ _))
  isplitl [H20]
  · iexists _; isplitr; swap; · iexact H20
    ipureintro
    exact (Cert.Grad.store_whole _ _ _ _ _).trans (congr (congr (congrArg k0_pay26 (congr (congr (congrArg k0_pay22 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0))) (Cert.Grad.load_whole arg6 harg6 x4 inb_S1024x1024_S1024x1024_0_0)) (View.readCov_cons_toLoadRect _ _ _ _))
  iexists _; isplitr; swap; · iexact H21
  ipureintro
  exact (Cert.Grad.store_whole _ _ _ _ _).trans (congr (congr (congrArg k0_pay24 (Cert.Grad.load_whole arg2 harg2 x0 inb_S1024x1024_S1024x1024_0_0)) (congr (congrArg k0_pay23 (Cert.Grad.load_whole arg7 harg7 x5 inb_S1024x256_S1024x256_0_0)) (Cert.Grad.load_whole arg8 harg8 x6 inb_S1024x256_S1024x256_0_0) : k0_pay23 _ _ = k0_pay23 x5 x6)) (View.readCov_cons_toLoadRect _ _ _ _))

end Cert.Kernel4Ideal.Grad

end
-- ==== Proof.Ffn4Mid.lean ====
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Tactic
public import proofs.«01_k».proof.Proof.Ffn4Whole

@[expose] public section

/-!
# The backward call's body at a block of rows between
-/

set_option maxRecDepth 16384

noncomputable section

namespace Cert.Kernel4Ideal.Grad

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a block of rows between: each accumulator takes its rows' share and the outputs stay as they were. -/
theorem runMid (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (arg18 : Memref sig .tc .vmem S4096x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (hz : ¬ (Scalar.cmpi .ne (Scalar.extui (Scalar.cmpi .eq (BitVec.ofNat 32 (i 1).val) 0#32)) 0#32) = 1#1) (h4 : ¬ k0_cond4 i = 1#1)
    (x0 : Vec F S1024x1024 .bf16) (x1 : Vec F S1024x1024 .f32) (x2 : Vec F S1024x1024 .f32) (x3 : Vec F S1x1024 .f32) (x4 : Vec F S1024x1024 .bf16) (x5 : Vec F S1024x256 .bf16) (x6 : Vec F S1024x256 .bf16) (x7 : Vec F S256x1024 .bf16) (x8 : Vec F S256x1024 .bf16) (x9 : Vec F S256x1024 .bf16) (b12 b13 b14 : Vec F S256x1024 .bf16) (a19 a20 a21 : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare b12 ∗ owns (c : Thread nD τ) arg13 fullShare b13 ∗ owns (c : Thread nD τ) arg14 fullShare b14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare a19 ∗ owns (c : Thread nD τ) arg20 fullShare a20 ∗ owns (c : Thread nD τ) arg21 fullShare a21
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare b12 ∗ owns (c : Thread nD τ) arg13 fullShare b13 ∗ owns (c : Thread nD τ) arg14 fullShare b14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (k0_pay25 (k0_pay21 x0 x9 x5 x6) x4 a19) ∗ owns (c : Thread nD τ) arg20 fullShare (k0_pay26 (k0_pay22 x0 x9 x5) x4 a20) ∗ owns (c : Thread nD τ) arg21 fullShare (k0_pay24 x0 (k0_pay23 x5 x6) a21)) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_eq_skeleton]; unfold cc0_ffn_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg19.eq_unread hf19
  obtain rfl := harg20.eq_unread hf20
  obtain rfl := harg21.eq_unread hf21
  sl_exec (disch := first | sl_exact hz | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _; isplitr; swap; · iexact H19
    ipureintro
    exact (Cert.Grad.store_whole _ _ _ _ _).trans (congr (congr (congrArg k0_pay25 (congr (congr (congr (congrArg k0_pay21 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0)) (Cert.Grad.load_whole arg8 harg8 x6 inb_S1024x256_S1024x256_0_0))) (Cert.Grad.load_whole arg6 harg6 x4 inb_S1024x1024_S1024x1024_0_0)) (Cert.Grad.load_whole arg19 harg19 a19 inb_S256x1024_S256x1024_0_0))
  isplitl [H20]
  · iexists _; isplitr; swap; · iexact H20
    ipureintro
    exact (Cert.Grad.store_whole _ _ _ _ _).trans (congr (congr (congrArg k0_pay26 (congr (congr (congrArg k0_pay22 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0))) (Cert.Grad.load_whole arg6 harg6 x4 inb_S1024x1024_S1024x1024_0_0)) (Cert.Grad.load_whole arg20 harg20 a20 inb_S256x1024_S256x1024_0_0))
  iexists _; isplitr; swap; · iexact H21
  ipureintro
  exact (Cert.Grad.store_whole _ _ _ _ _).trans (congr (congr (congrArg k0_pay24 (Cert.Grad.load_whole arg2 harg2 x0 inb_S1024x1024_S1024x1024_0_0)) (congr (congrArg k0_pay23 (Cert.Grad.load_whole arg7 harg7 x5 inb_S1024x256_S1024x256_0_0)) (Cert.Grad.load_whole arg8 harg8 x6 inb_S1024x256_S1024x256_0_0) : k0_pay23 _ _ = k0_pay23 x5 x6)) (Cert.Grad.load_whole arg21 harg21 a21 inb_S256x1024_S256x1024_0_0))

end Cert.Kernel4Ideal.Grad

end
-- ==== Proof.Ffn4Last.lean ====
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Tactic
public import proofs.«01_k».proof.Proof.Ffn4Whole

@[expose] public section

/-!
# The backward call's body at the last block of rows
-/

set_option maxRecDepth 16384

noncomputable section

namespace Cert.Kernel4Ideal.Grad

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last block of rows: each accumulator takes its rows' share and the outputs take the accumulators. -/
theorem runLast (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (arg18 : Memref sig .tc .vmem S4096x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (hz : ¬ (Scalar.cmpi .ne (Scalar.extui (Scalar.cmpi .eq (BitVec.ofNat 32 (i 1).val) 0#32)) 0#32) = 1#1) (h4 : k0_cond4 i = 1#1)
    (x0 : Vec F S1024x1024 .bf16) (x1 : Vec F S1024x1024 .f32) (x2 : Vec F S1024x1024 .f32) (x3 : Vec F S1x1024 .f32) (x4 : Vec F S1024x1024 .bf16) (x5 : Vec F S1024x256 .bf16) (x6 : Vec F S1024x256 .bf16) (x7 : Vec F S256x1024 .bf16) (x8 : Vec F S256x1024 .bf16) (x9 : Vec F S256x1024 .bf16)  (a19 a20 a21 : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare a19 ∗ owns (c : Thread nD τ) arg20 fullShare a20 ∗ owns (c : Thread nD τ) arg21 fullShare a21
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay3 (k0_pay25 (k0_pay21 x0 x9 x5 x6) x4 a19)) ∗ owns (c : Thread nD τ) arg13 fullShare (k0_pay4 (k0_pay26 (k0_pay22 x0 x9 x5) x4 a20)) ∗ owns (c : Thread nD τ) arg14 fullShare (k0_pay2 (k0_pay24 x0 (k0_pay23 x5 x6) a21)) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (k0_pay25 (k0_pay21 x0 x9 x5 x6) x4 a19) ∗ owns (c : Thread nD τ) arg20 fullShare (k0_pay26 (k0_pay22 x0 x9 x5) x4 a20) ∗ owns (c : Thread nD τ) arg21 fullShare (k0_pay24 x0 (k0_pay23 x5 x6) a21)) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_eq_skeleton]; unfold cc0_ffn_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg19.eq_unread hf19
  obtain rfl := harg20.eq_unread hf20
  obtain rfl := harg21.eq_unread hf21
  sl_exec (disch := first | sl_exact hz | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    exact (Cert.Grad.store_whole _ _ _ _ _).trans (congrArg k0_pay3 ((View.readCov_cons_toLoadRect _ _ _ _).trans (congr (congr (congrArg k0_pay25 (congr (congr (congr (congrArg k0_pay21 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0)) (Cert.Grad.load_whole arg8 harg8 x6 inb_S1024x256_S1024x256_0_0))) (Cert.Grad.load_whole arg6 harg6 x4 inb_S1024x1024_S1024x1024_0_0)) (Cert.Grad.load_whole arg19 harg19 a19 inb_S256x1024_S256x1024_0_0))))
  isplitl [H13]
  · iexists _; isplitr; swap; · iexact H13
    ipureintro
    exact (Cert.Grad.store_whole _ _ _ _ _).trans (congrArg k0_pay4 ((View.readCov_cons_toLoadRect _ _ _ _).trans (congr (congr (congrArg k0_pay26 (congr (congr (congrArg k0_pay22 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0))) (Cert.Grad.load_whole arg6 harg6 x4 inb_S1024x1024_S1024x1024_0_0)) (Cert.Grad.load_whole arg20 harg20 a20 inb_S256x1024_S256x1024_0_0))))
  isplitl [H14]
  · iexists _; isplitr; swap; · iexact H14
    ipureintro
    exact (Cert.Grad.store_whole _ _ _ _ _).trans (congrArg k0_pay2 ((View.readCov_cons_toLoadRect _ _ _ _).trans (congr (congr (congrArg k0_pay24 (Cert.Grad.load_whole arg2 harg2 x0 inb_S1024x1024_S1024x1024_0_0)) (congr (congrArg k0_pay23 (Cert.Grad.load_whole arg7 harg7 x5 inb_S1024x256_S1024x256_0_0)) (Cert.Grad.load_whole arg8 harg8 x6 inb_S1024x256_S1024x256_0_0) : k0_pay23 _ _ = k0_pay23 x5 x6)) (Cert.Grad.load_whole arg21 harg21 a21 inb_S256x1024_S256x1024_0_0))))
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _; isplitr; swap; · iexact H19
    ipureintro
    exact (Cert.Grad.store_whole _ _ _ _ _).trans (congr (congr (congrArg k0_pay25 (congr (congr (congr (congrArg k0_pay21 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0)) (Cert.Grad.load_whole arg8 harg8 x6 inb_S1024x256_S1024x256_0_0))) (Cert.Grad.load_whole arg6 harg6 x4 inb_S1024x1024_S1024x1024_0_0)) (Cert.Grad.load_whole arg19 harg19 a19 inb_S256x1024_S256x1024_0_0))
  isplitl [H20]
  · iexists _; isplitr; swap; · iexact H20
    ipureintro
    exact (Cert.Grad.store_whole _ _ _ _ _).trans (congr (congr (congrArg k0_pay26 (congr (congr (congrArg k0_pay22 (Cert.Grad.load_whole arg2 harg2 x0 inb_S1024x1024_S1024x1024_0_0)) (Cert.Grad.load_whole arg11 harg11 x9 inb_S256x1024_S256x1024_0_0)) (Cert.Grad.load_whole arg7 harg7 x5 inb_S1024x256_S1024x256_0_0))) (Cert.Grad.load_whole arg6 harg6 x4 inb_S1024x1024_S1024x1024_0_0)) (Cert.Grad.load_whole arg20 harg20 a20 inb_S256x1024_S256x1024_0_0))
  iexists _; isplitr; swap; · iexact H21
  ipureintro
  exact (Cert.Grad.store_whole _ _ _ _ _).trans (congr (congr (congrArg k0_pay24 (Cert.Grad.load_whole arg2 harg2 x0 inb_S1024x1024_S1024x1024_0_0)) (congr (congrArg k0_pay23 (Cert.Grad.load_whole arg7 harg7 x5 inb_S1024x256_S1024x256_0_0)) (Cert.Grad.load_whole arg8 harg8 x6 inb_S1024x256_S1024x256_0_0) : k0_pay23 _ _ = k0_pay23 x5 x6)) (Cert.Grad.load_whole arg21 harg21 a21 inb_S256x1024_S256x1024_0_0))

end Cert.Kernel4Ideal.Grad

end
-- ==== Proof.Ffn4Point.lean ====
module

public import proofs.«01_k».proof.Proof.Ffn4Blocks
public import proofs.«01_k».proof.Proof.Ffn4First
public import proofs.«01_k».proof.Proof.Ffn4Mid
public import proofs.«01_k».proof.Proof.Ffn4Last

@[expose] public section

/-!
# The run of the backward call, its accumulators tracked

Between two points the three accumulators hold their sums over the rows seen so far. The three weights' gradients are
written back at the last block of rows; the other outputs are held at some contents.
-/

set_option maxRecDepth 16384

noncomputable section

namespace Cert.Kernel4Ideal.Grad

open Cert.Grad Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev scM0 : Memref sig .tc .vmem S4096x1024 .f32 := Memref.whole cc0_scratch0
abbrev scM1 : Memref sig .tc .vmem S256x1024 .f32 := Memref.whole cc0_scratch1
abbrev scM2 : Memref sig .tc .vmem S256x1024 .f32 := Memref.whole cc0_scratch2
abbrev scM3 : Memref sig .tc .vmem S256x1024 .f32 := Memref.whole cc0_scratch3

/-- What the library holds between two points: the accumulators at some contents, the generator register at some state. -/
theorem PhiA0_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- What holds between two points: the accumulators at their sums, where a column block is under way. -/
def held (c : Dev nD) (t : ℕ) : sProp 𝕄 :=
  iprop(∃ d1 d2 d3, ⌜t % 4 ≠ 0 → Sums m c (1024 * (t % 4)) (256 * (t / 4)) d1 d2 d3⌝ ∗ (∃ d, owns (c : Thread nD τ) scM0 fullShare d)
    ∗ owns (c : Thread nD τ) scM1 fullShare d1 ∗ owns (c : Thread nD τ) scM2 fullShare d2 ∗ owns (c : Thread nD τ) scM3 fullShare d3 ∗ (∃ r, prngReg c r))

theorem held_start (c : Dev nD) : (Pipeline.ΦA spec0 c : sProp 𝕄) ⊢ held m c 0 := by
  rw [PhiA0_eq]
  unfold held
  iintro ⟨⟨S0, ⟨%d1, S1⟩, ⟨%d2, S2⟩, ⟨%d3, S3⟩⟩, Hg⟩
  iexists d1, d2, d3
  isplitr
  · ipureintro
    exact fun h => absurd rfl h
  isplitl [S0]; · iexact S0
  isplitl [S1]; · iexact S1
  isplitl [S2]; · iexact S2
  isplitl [S3]; · iexact S3
  iexact Hg

theorem held_end (c : Dev nD) (t : ℕ) : held m c t ⊢ (Pipeline.ΦA spec0 c : sProp 𝕄) := by
  rw [PhiA0_eq]
  unfold held
  iintro ⟨%d1, %d2, %d3, -, S0, S1, S2, S3, Hg⟩
  isplitr [Hg]
  · isplitl [S0]; · iexact S0
    isplitl [S1]; · iexists _; iexact S1
    isplitl [S2]; · iexists _; iexact S2
    iexists _; iexact S3
  iexact Hg

/-- The outputs that are held at some contents. -/
def forgets0 : Fin 16 → Bool := fun w => Nat.ble 13 w.val

/-- The proof data: the arrays as the region finds them, the inputs' blocks left in place, the gradients' blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => gateBlock m c t.val
    | ⟨11, _⟩ => upBlock m c t.val
    | ⟨12, _⟩ => downBlock m c t.val
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := held m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = gateBlock m c t.val := by dsimp only [dats]
theorem after0_11 (c : Dev nD) (t : Fin cfg0.N) : (dats m 0 c).after 11 t = upBlock m c t.val := by dsimp only [dats]
theorem after0_12 (c : Dev nD) (t : Fin cfg0.N) : (dats m 0 c).after 12 t = downBlock m c t.val := by dsimp only [dats]

theorem idle0_out : ∀ t : Fin cfg0.N, idle0 10 (grid0.coords t) = !decide (t.val % 4 = 3) ∧ idle0 11 (grid0.coords t) = !decide (t.val % 4 = 3)
    ∧ idle0 12 (grid0.coords t) = !decide (t.val % 4 = 3) :=
  (by decide +kernel : ∀ t : Fin grid0.N, _)

theorem leaves0_10 (c : Dev nD) (t : Fin cfg0.N) (h : t.val % 4 = 3) :
    ((dats m 0 c).leavesExact 10 t : sProp 𝕄) = owns (c : Thread nD τ) (win0_10.stage (cfg0.slots t 10)) fullShare ((dats m 0 c).after 10 t) := by
  have hi : cfg0.idle 10 (cfg0.grid.coords t) = false := (idle0_out t).1.trans (by rw [decide_eq_true h]; rfl)
  unfold Dat.leavesExact
  rw [hi]

theorem keeps0_10 (c : Dev nD) (t : Fin cfg0.N) (h : ¬t.val % 4 = 3) :
    ((dats m 0 c).leavesExact 10 t : sProp 𝕄) = iprop(∃ d, owns (c : Thread nD τ) (win0_10.stage (cfg0.slots t 10)) fullShare ((dats m 0 c).before 10 t d)) := by
  have hi : cfg0.idle 10 (cfg0.grid.coords t) = true := (idle0_out t).1.trans (by rw [decide_eq_false h]; rfl)
  have hf : (cfg0.win 10).flush t = false := Bool.eq_false_iff.mpr fun e => h ((flush0_10 t).mp e)
  unfold Dat.leavesExact
  rw [hi, hf]

theorem leaves0_11 (c : Dev nD) (t : Fin cfg0.N) (h : t.val % 4 = 3) :
    ((dats m 0 c).leavesExact 11 t : sProp 𝕄) = owns (c : Thread nD τ) (win0_11.stage (cfg0.slots t 11)) fullShare ((dats m 0 c).after 11 t) := by
  have hi : cfg0.idle 11 (cfg0.grid.coords t) = false := (idle0_out t).2.1.trans (by rw [decide_eq_true h]; rfl)
  unfold Dat.leavesExact
  rw [hi]

theorem keeps0_11 (c : Dev nD) (t : Fin cfg0.N) (h : ¬t.val % 4 = 3) :
    ((dats m 0 c).leavesExact 11 t : sProp 𝕄) = iprop(∃ d, owns (c : Thread nD τ) (win0_11.stage (cfg0.slots t 11)) fullShare ((dats m 0 c).before 11 t d)) := by
  have hi : cfg0.idle 11 (cfg0.grid.coords t) = true := (idle0_out t).2.1.trans (by rw [decide_eq_false h]; rfl)
  have hf : (cfg0.win 11).flush t = false := Bool.eq_false_iff.mpr fun e => h ((flush0_11 t).mp e)
  unfold Dat.leavesExact
  rw [hi, hf]

theorem leaves0_12 (c : Dev nD) (t : Fin cfg0.N) (h : t.val % 4 = 3) :
    ((dats m 0 c).leavesExact 12 t : sProp 𝕄) = owns (c : Thread nD τ) (win0_12.stage (cfg0.slots t 12)) fullShare ((dats m 0 c).after 12 t) := by
  have hi : cfg0.idle 12 (cfg0.grid.coords t) = false := (idle0_out t).2.2.trans (by rw [decide_eq_true h]; rfl)
  unfold Dat.leavesExact
  rw [hi]

theorem keeps0_12 (c : Dev nD) (t : Fin cfg0.N) (h : ¬t.val % 4 = 3) :
    ((dats m 0 c).leavesExact 12 t : sProp 𝕄) = iprop(∃ d, owns (c : Thread nD τ) (win0_12.stage (cfg0.slots t 12)) fullShare ((dats m 0 c).before 12 t d)) := by
  have hi : cfg0.idle 12 (cfg0.grid.coords t) = true := (idle0_out t).2.2.trans (by rw [decide_eq_false h]; rfl)
  have hf : (cfg0.win 12).flush t = false := Bool.eq_false_iff.mpr fun e => h ((flush0_12 t).mp e)
  unfold Dat.leavesExact
  rw [hi, hf]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ (dats m 0 c).leavesExact 10 t ∗ (dats m 0 c).leavesExact 11 t ∗ (dats m 0 c).leavesExact 12 t ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))

/-- The body at the first block of rows. -/
theorem body_first (c : Dev nD) (t : Fin cfg0.N) (h : t.val % 4 = 0) :
    bodyPre m c t ⊢ wp frame (wpE (defs₀ (F := Ideal)) Variants.none c none) Set.univ (bodyAt0 t) (fun _ => bodyPost m c t) := by
  have h3 : ¬t.val % 4 = 3 := by omega
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [keeps0_10 m c t h3, keeps0_11 m c t h3, keeps0_12 m c t h3]
  rw [show (dats m 0 c).Φ t.castSucc = held m c t.val from rfl, show (dats m 0 c).Φ t.succ = held m c (t.val + 1) from rfl]
  unfold held
  iintro ⟨⟨%a1, %a2, %a3, %ha, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hs := sums_next t (m := m) (c := c) (by rw [h]; exact sums_zero (m := m) (c := c) (256 * (t.val / 4)))
  have hn : (t.val + 1) % 4 ≠ 0 → Sums m c (1024 * ((t.val + 1) % 4)) (256 * ((t.val + 1) / 4)) _ _ _ := fun _ => by
    rw [show 1024 * ((t.val + 1) % 4) = 1024 * (t.val % 4) + 1024 by omega, show (t.val + 1) / 4 = t.val / 4 by omega]
    exact hs
  iapply (runFirst c (grid0.coords t) _ _ _ _ _ _ _ _ _ _ _ _ _ _ _ _ _ _ _ _ _ _ _ _ _ _ _ _ _ _ _ _ _ _ _ _ _ _ _ _ ((clears t).mpr h) (fun e => h3 ((writes t).mp e)) (iblk m c 0 t) (iblk m c 1 t) (iblk m c 2 t) (iblk m c 3 t) (iblk m c 4 t) (iblk m c 5 t) (iblk m c 6 t) (iblk m c 7 t) (iblk m c 8 t) (iblk m c 9 t) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [S0]; · iexact S0
  isplitl [S1]; · iexists _; iexact S1
  isplitl [S2]; · iexists _; iexact S2
  isplitl [S3]; · iexists _; iexact S3
  iintro ⟨H0, H1, H2, H3, H4, H5, H6, H7, H8, H9, H10, H11, H12, H13, H14, H15, S0, S1, S2, S3⟩
  isplitl [S0 S1 S2 S3 Hg]
  · iexists _, _, _
    isplitr; swap
    · isplitl [S0]; · iexact S0
      isplitl [S1]; · iexact S1
      isplitl [S2]; · iexact S2
      isplitl [S3]; · iexact S3
      iexact Hg
    ipureintro
    exact hn
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  iexact H15

/-- The body at a block of rows between. -/
theorem body_mid (c : Dev nD) (t : Fin cfg0.N) (h : ¬t.val % 4 = 0) (h3 : ¬t.val % 4 = 3) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [keeps0_10 m c t h3, keeps0_11 m c t h3, keeps0_12 m c t h3]
  rw [show (dats m 0 c).Φ t.castSucc = held m c t.val from rfl, show (dats m 0 c).Φ t.succ = held m c (t.val + 1) from rfl]
  unfold held
  iintro ⟨⟨%a1, %a2, %a3, %ha, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hs := sums_next t (ha (by omega))
  have hn : (t.val + 1) % 4 ≠ 0 → Sums m c (1024 * ((t.val + 1) % 4)) (256 * ((t.val + 1) / 4)) _ _ _ := fun _ => by
    rw [show 1024 * ((t.val + 1) % 4) = 1024 * (t.val % 4) + 1024 by omega, show (t.val + 1) / 4 = t.val / 4 by omega]
    exact hs
  iapply (runMid c (grid0.coords t) _ _ _ _ _ _ _ _ _ _ _ _ _ _ _ _ _ _ _ _ _ _ _ _ _ _ _ _ _ _ _ _ _ _ _ _ _ _ _ _ (fun e => h ((clears t).mp e)) (fun e => h3 ((writes t).mp e)) (iblk m c 0 t) (iblk m c 1 t) (iblk m c 2 t) (iblk m c 3 t) (iblk m c 4 t) (iblk m c 5 t) (iblk m c 6 t) (iblk m c 7 t) (iblk m c 8 t) (iblk m c 9 t) _ _ _ a1 a2 a3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · iexists _, _, _
    isplitr; swap
    · isplitl [S0]; · iexact S0
      isplitl [S1]; · iexact S1
      isplitl [S2]; · iexact S2
      isplitl [S3]; · iexact S3
      iexact Hg
    ipureintro
    exact hn
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  iexact H15

/-- The body at the last block of rows. -/
theorem body_last (c : Dev nD) (t : Fin cfg0.N) (h : t.val % 4 = 3) :
    bodyPre m c t ⊢ wp frame (wpE (defs₀ (F := Ideal)) Variants.none c none) Set.univ (bodyAt0 t) (fun _ => bodyPost m c t) := by
  have h3 := h
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [leaves0_10 m c t h3, leaves0_11 m c t h3, leaves0_12 m c t h3]
  rw [after0_10, after0_11, after0_12]
  rw [show (dats m 0 c).Φ t.castSucc = held m c t.val from rfl, show (dats m 0 c).Φ t.succ = held m c (t.val + 1) from rfl]
  unfold held
  iintro ⟨⟨%a1, %a2, %a3, %ha, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hs := sums_next t (ha (by omega))
  have hl := hs
  rw [show 1024 * (t.val % 4) + 1024 = 4096 by omega] at hl
  rw [← out_gate_block t.val hl, ← out_up_block t.val hl, ← out_down_block t.val hl]
  iapply (runLast c (grid0.coords t) _ _ _ _ _ _ _ _ _ _ _ _ _ _ _ _ _ _ _ _ _ _ _ _ _ _ _ _ _ _ _ _ _ _ _ _ _ _ _ _ (fun e => absurd ((clears t).mp e) (by omega)) ((writes t).mpr h) (iblk m c 0 t) (iblk m c 1 t) (iblk m c 2 t) (iblk m c 3 t) (iblk m c 4 t) (iblk m c 5 t) (iblk m c 6 t) (iblk m c 7 t) (iblk m c 8 t) (iblk m c 9 t) a1 a2 a3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, S0, S1, S2, S3⟩
  isplitl [S0 S1 S2 S3 Hg]
  · iexists _, _, _
    isplitr; swap
    · isplitl [S0]; · iexact S0
      isplitl [S1]; · iexact S1
      isplitl [S2]; · iexact S2
      isplitl [S3]; · iexact S3
      iexact Hg
    ipureintro
    exact fun e => absurd (by omega) e
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at a point, from what the pipeline hands it to what it takes back. -/
theorem sound_body (c : Dev nD) (t : Fin cfg0.N) :
    bodyPre m c t ⊢ wp frame (wpE (defs₀ (F := Ideal)) Variants.none c none) Set.univ (bodyAt0 t) (fun _ => bodyPost m c t) := by
  by_cases h : t.val % 4 = 0
  · exact body_first m c t h
  by_cases h3 : t.val % 4 = 3
  · exact body_last m c t h3
  · exact body_mid m c t h h3

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ forgets0 := fun t => by
  rw [bigSep_W0, bigSep_W0, defs₀_row]
  exact triple_restated (sound_body m c t) rfl .rfl fun _ => .rfl

-- the launch's implicit arguments are found by unifying its conclusion with this statement
set_option backward.isDefEq.respectTransparency.types false in
/-- The launch. -/
theorem run_main :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => held_start m c) (hout := fun c => held_end m c _)

/-- An array that is not held at some contents. -/
theorem arr_of {cfg₁ : Pipeline.Cfg sig Λ₀} {dat : (c : Dev nD) → Dat τ (Elt Ideal) Unit ℕ (UR sig nD τ) ℕ cfg₁ c} {fgt : Fin cfg₁.W → Bool}
    {V₁ : (c : Dev nD) → (b : Ref sig .tc) → Buf (Elt Ideal) ((c.tc : Thread nD τ).loc b)} {r : PUnit × MemSt nD τ sig (Elt Ideal)}
    (h : Pipeline.RDat.FramePost cfg₁ (fun c => (dat c).toRForget fgt) V₁ r) (c : Dev nD) (w : Fin cfg₁.W) (hw : fgt w = false) :
    r.2.mem ((cfg₁.spec w).arr.view.loc (c.tc : Thread nD τ)) = (dat c).arrAt w cfg₁.N :=
  ((dat c).toRForget_arrAt_iff hw _ _).mp ((h c).1 w)

end Cert.Kernel4Ideal.Grad

end
-- ==== Proof.Ffn4Arrays.lean ====
module

public import proofs.«01_k».proof.Proof.Ffn4Point

@[expose] public section

/-!
# The three gradients as whole arrays

Each column block is written back once, after its last block of rows.
-/

set_option maxRecDepth 16384

noncomputable section

namespace Cert.Kernel4Ideal.Grad

open Cert.Ffn Cert.Grad Cert.Kernel4Ideal Cert.Kernel4Ideal.Gen Idealize.ShloMosaic Idealize.ShloMosaic.TcCoe Idealize.SL.Sem

variable {m : (ℓ : Loc nD τ sig) → Buf (Elt Ideal) ℓ} {ρ : Dev nD → PrngReg}

/-- A matrix of 2816 rows from its entries. -/
def whole (f : ℕ → ℕ → EReal) : Shape.Idx ⟨2, ![2816, 1024]⟩ → EReal := fun y => f (y 0).val (y 1).val

theorem whole_mat (f : ℕ → ℕ → EReal) : Mat (m := 2816) (n := 1024) (whole f) f := fun _ _ => rfl

theorem arr_gate (c : Dev nD) : (dats m 0 c).arrAt 10 cfg0.N = whole (gateSum m c 4096) := by
  refine (dats m 0 c).arrAt_eq_of_covers 10 (whole (gateSum m c 4096)) (by decide +kernel) fun t hf y => ?_
  blk_simp [places t]
  rw [after0_10]
  refine Eq.trans (b := whole (gateSum m c 4096) (ix2 ⟨256 * (t.val / 4) + (y 0).val, col_lt t (y 0)⟩ (y 1))) rfl ?_
  refine congrArg (whole (gateSum m c 4096)) ?_
  blk_ext [places t]

theorem arr_up (c : Dev nD) : (dats m 0 c).arrAt 11 cfg0.N = whole (upSum m c 4096) := by
  refine (dats m 0 c).arrAt_eq_of_covers 11 (whole (upSum m c 4096)) (by decide +kernel) fun t hf y => ?_
  blk_simp [places t]
  rw [after0_11]
  refine Eq.trans (b := whole (upSum m c 4096) (ix2 ⟨256 * (t.val / 4) + (y 0).val, col_lt t (y 0)⟩ (y 1))) rfl ?_
  refine congrArg (whole (upSum m c 4096)) ?_
  blk_ext [places t]

theorem arr_down (c : Dev nD) : (dats m 0 c).arrAt 12 cfg0.N = whole (downSum m c 4096) := by
  refine (dats m 0 c).arrAt_eq_of_covers 12 (whole (downSum m c 4096)) (by decide +kernel) fun t hf y => ?_
  blk_simp [places t]
  rw [after0_12]
  refine Eq.trans (b := whole (downSum m c 4096) (ix2 ⟨256 * (t.val / 4) + (y 0).val, col_lt t (y 0)⟩ (y 1))) rfl ?_
  refine congrArg (whole (downSum m c 4096)) ?_
  blk_ext [places t]

/-- After the run the results are the three gradients and every argument holds what it held at launch. -/
theorem run_grads (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = whole (gateSum m c 4096)
      ∧ r.2.mem ((c.tc : Thread nD τ).loc main_v0_1) = whole (upSum m c 4096)
      ∧ r.2.mem ((c.tc : Thread nD τ).loc main_v0_2) = whole (downSum m c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(arr_of h.1 c 10 rfl).trans (arr_gate c), (arr_of h.1 c 11 rfl).trans (arr_up c),
    (arr_of h.1 c 12 rfl).trans (arr_down c),
    (h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 4 rfl).trans ((A_eq m c 4).trans (V_main_arg4 m c)),
    (h.1.arr_in c 5 rfl).trans ((A_eq m c 5).trans (V_main_arg5 m c)),
    (h.1.arr_in c 6 rfl).trans ((A_eq m c 6).trans (V_main_arg6 m c)),
    (h.1.arr_in c 7 rfl).trans ((A_eq m c 7).trans (V_main_arg7 m c)),
    (h.1.arr_in c 8 rfl).trans ((A_eq m c 8).trans (V_main_arg8 m c)),
    (h.1.arr_in c 9 rfl).trans ((A_eq m c 9).trans (V_main_arg9 m c))⟩) (run_main m ρ)

end Cert.Kernel4Ideal.Grad

end
-- ==== Proof.Ffn4Ref.lean ====
module

public import proofs.«01_k».proof.Proof.Ffn4Pay
public import proofs.«01_k».proof.Proof.Gen.Reference4Ideal.Read

@[expose] public section

/-!
# The reference of the weights' gradients, entry by entry
-/

set_option maxRecDepth 16384

noncomputable section

namespace Cert.Grad

open Cert.Ffn Cert.Reference4Ideal Cert.Reference4Ideal.Gen Cert.Reference4Ideal.Read Idealize.ShloMosaic Idealize.ShloMosaic.TcCoe Finset

variable (y n : (⟨S4096x1024, .bf16⟩ : BufTy).Contents (Elt Ideal)) (z u : (⟨S4096x2816, .bf16⟩ : BufTy).Contents (Elt Ideal))
  (d : (⟨S2816x1024, .bf16⟩ : BufTy).Contents (Elt Ideal))

theorem ref_dhid : Mat (m := 4096) (n := 2816) (val_main_v8 (F := Ideal) y d) (dhid (ent y) (ent d)) := by
  intro i j
  pointwise [val_main_v8, val_main_v7, val_main_v6, val_main_v5, val_main_v4, val_main_v0, val_main_cst]
  rw [sum_congr rfl fun k _ => by rw [ent_at (a := 4096) (b := 1024) y i k, ent_at (a := 2816) (b := 1024) d j k]]
  rfl

theorem ref_sig : Mat (m := 4096) (n := 2816) (val_main_v14 (F := Ideal) z) fun i j => Ideal.logistic (ent (a := 4096) (b := 2816) z i j) := by
  intro i j
  pointwise [val_main_v14, val_main_v13, val_main_v12, val_main_v11, val_main_v10, val_main_v9, val_main_v2, val_main_cst_0, val_main_cst_1]
  rw [ent_at (a := 4096) (b := 2816) z i j]
  rfl

theorem ref_dgate : Mat (m := 4096) (n := 2816) (val_main_v22 (F := Ideal) y z u d) (dgate (ent y) (ent d) (ent z) (ent u)) := by
  intro i j
  have hd := ref_dhid y d
  have hs := ref_sig z
  unfold val_main_v22 val_main_v21 val_main_v20 val_main_v18 val_main_v17 val_main_v15
  generalize val_main_v8 (F := Ideal) y d = a at hd ⊢
  generalize val_main_v14 (F := Ideal) z = b at hs ⊢
  pointwise [val_main_v19, val_main_v16, val_main_v3, val_main_v2, val_main_cst_2, val_main_cst_3]
  rw [hd i j, hs i j, ent_at (a := 4096) (b := 2816) z i j, ent_at (a := 4096) (b := 2816) u i j]
  rfl

theorem ref_dup : Mat (m := 4096) (n := 2816) (val_main_v24 (F := Ideal) y z d) (dup (ent y) (ent d) (ent z)) := by
  intro i j
  have hd := ref_dhid y d
  have hs := ref_sig z
  unfold val_main_v24 val_main_v23
  generalize val_main_v8 (F := Ideal) y d = a at hd ⊢
  generalize val_main_v14 (F := Ideal) z = b at hs ⊢
  pointwise [val_main_v2]
  rw [hd i j, hs i j, ent_at (a := 4096) (b := 2816) z i j]
  rfl

theorem ref_act : Mat (m := 4096) (n := 2816) (val_main_v26 (F := Ideal) z u) (act (ent z) (ent u)) := by
  intro i j
  have hs := ref_sig z
  unfold val_main_v26 val_main_v25
  generalize val_main_v14 (F := Ideal) z = b at hs ⊢
  pointwise [val_main_v3, val_main_v2]
  rw [hs i j, ent_at (a := 4096) (b := 2816) z i j, ent_at (a := 4096) (b := 2816) u i j]
  rfl

theorem ref_gate : Mat (m := 2816) (n := 1024) (val_main_v35 (F := Ideal) y n z u d) (tn (dgate (ent y) (ent d) (ent z) (ent u)) (ent n) 4096) := by
  intro i j
  have h := ref_dgate y z u d
  unfold val_main_v35 val_main_v32 val_main_v31
  generalize val_main_v22 (F := Ideal) y z u d = a at h ⊢
  pointwise [val_main_v1]
  rw [tn_whole]
  exact sum_congr rfl fun k _ => by rw [h k i, ent_at (a := 4096) (b := 1024) n k j]

theorem ref_up : Mat (m := 2816) (n := 1024) (val_main_v36 (F := Ideal) y n z d) (tn (dup (ent y) (ent d) (ent z)) (ent n) 4096) := by
  intro i j
  have h := ref_dup y z d
  unfold val_main_v36 val_main_v34 val_main_v33
  generalize val_main_v24 (F := Ideal) y z d = a at h ⊢
  pointwise [val_main_v1]
  rw [tn_whole]
  exact sum_congr rfl fun k _ => by rw [h k i, ent_at (a := 4096) (b := 1024) n k j]

theorem ref_down : Mat (m := 2816) (n := 1024) (val_main_v37 (F := Ideal) y z u)
    fun f e => Ideal.ofBits .f32 0x3F000000#32 * tn (act (ent z) (ent u)) (ent y) 4096 f e := by
  intro i j
  have h := ref_act z u
  unfold val_main_v37 val_main_v30 val_main_v28 val_main_v27
  generalize val_main_v26 (F := Ideal) z u = a at h ⊢
  pointwise [val_main_v29, val_main_v0, val_main_cst_4]
  rw [tn_whole]
  exact congrArg _ (sum_congr rfl fun k _ => by rw [h k i, ent_at (a := 4096) (b := 1024) y k j])

end Cert.Grad
-- ==== Proof.Ffn4Claim.lean ====
module

public import proofs.«01_k».proof.Defs
public import proofs.«01_k».proof.Proof.Ffn4Frame
public import proofs.«01_k».proof.Proof.Ffn4IdealFrame
public import proofs.«01_k».proof.Proof.Ffn4Arrays
public import proofs.«01_k».proof.Proof.Ffn4Ref
public import proofs.«01_k».proof.Proof.Gen.Reference4Ideal.Run
public import Idealize.ShloMosaic.Adequacy
public import Idealize.ShloMosaic.Init

@[expose] public section

/-!
# The backward call computes the reference's gradients of the weights

Both programs end with the same three arrays, whatever extended reals the arguments hold.
-/

noncomputable section

namespace Cert.Grad

open Cert.Ffn Idealize.ShloMosaic Idealize.SL.Sem

theorem frame_kernel4 : Cert.quiescent_Kernel4 := fun m ρ _ => Cert.Kernel4.Hand.frame m ρ

theorem frame_ideal4 : Cert.quiescent_Kernel4Ideal := fun m ρ _ => Cert.Kernel4Ideal.Hand.frame m ρ

theorem frame_reference4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

theorem preserves4 : Cert.preserves_Kernel4_Kernel4Ideal := trivial

section Reference

open Cert.Reference4Ideal Cert.Reference4Ideal.Value Cert.Reference4Ideal.Read

/-- The reference's results as arrays of its arguments. -/
theorem reference_run4 (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = val_main_v35 (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg9))
      ∧ r.2.mem ((c.tc : Thread nD τ).loc main_v36) = val_main_v36 (m ((c.tc : Thread nD τ).loc main_arg0)) (m ((c.tc : Thread nD τ).loc main_arg4)) (m ((c.tc : Thread nD τ).loc main_arg5)) (m ((c.tc : Thread nD τ).loc main_arg9))
      ∧ r.2.mem ((c.tc : Thread nD τ).loc main_v37) = val_main_v37 (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (val_main_v35_eq _ _ _ _ _), (h c).2.1.trans (val_main_v36_eq _ _ _ _),
    (h c).2.2.1.trans (val_main_v37_eq _ _ _), (h c).2.2.2⟩) (Cert.Reference4Ideal.Value.run (F := Ideal) m ρ)

end Reference

/-- The call and the reference end with the same three gradients. -/
theorem algebraic4 : Cert.algebraic_Kernel4Ideal_Reference4Ideal := by
  intro m ρ m' ρ' _ hargs
  refine ⟨_, _, _, Cert.Kernel4Ideal.Grad.run_grads m ρ, (θ_run Cert.Reference4Ideal.defs _ _).mono (fun r h c => ?_) (reference_run4 m' ρ')⟩
  obtain ⟨h0, h1, h2, h3⟩ := h c
  obtain ⟨a0, -, -, -, a4, a5, a6, -, -, a9⟩ := hargs c
  rw [a0, a4, a5, a6, a9] at h0
  rw [a0, a4, a5, a9] at h1
  rw [a0, a5, a6] at h2
  exact ⟨h0.trans (Mat.unique (ref_gate _ _ _ _ _) (Cert.Kernel4Ideal.Grad.whole_mat _)),
    h1.trans (Mat.unique (ref_up _ _ _ _) (Cert.Kernel4Ideal.Grad.whole_mat _)),
    h2.trans (Mat.unique (ref_down _ _ _) (Cert.Kernel4Ideal.Grad.whole_mat _)), h3⟩

end Cert.Grad
-- ==== Proof.lean ====
module

public import proofs.«01_k».proof.Defs
public import proofs.«01_k».proof.Proof.Frames
public import proofs.«01_k».proof.Proof.Algebraic
public import proofs.«01_k».proof.Proof.FfnClaim
public import proofs.«01_k».proof.Proof.LossClaim
public import proofs.«01_k».proof.Proof.Ffn4Claim

@[expose] public section

noncomputable section

namespace Cert.Proof

open Idealize.ShloMosaic Idealize.SL.Sem Cert.Kernel

/-- Every claim of the statement. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    Cert.Attn.frame_kernel, Cert.Attn.frame_ideal, Cert.Attn.frame_ideal_pre, Cert.Attn.frame_reference, Cert.Attn.frame_reference_pre,
    Cert.Ffn.frame_kernel2, Cert.Ffn.frame_ideal2, Cert.Ffn.frame_reference2, Cert.Loss.frame_kernel3, Cert.Loss.frame_ideal3, Cert.Loss.frame_reference3,
    Cert.Grad.frame_kernel4, Cert.Grad.frame_ideal4, Cert.Grad.frame_reference4,
    Cert.Attn.preserves, Cert.Attn.algebraic, Cert.Ffn.preserves2, Cert.Ffn.algebraic2, Cert.Loss.preserves3, Cert.Loss.algebraic3,
    Cert.Grad.preserves4, Cert.Grad.algebraic4⟩

end Cert.Proof

end
